-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bitsLt_bf16_f32 : FTy.bits .bf16 < FTy.bits .f32
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S512x16x8x128 : S_.BroadcastsInDim S512x16x8x128 (![] : Fin 0 → Fin S512x16x8x128.rank)
  reducesTo_S512x16x8x128_S_d0_1_2_3 : S512x16x8x128.ReducesTo [0, 1, 2, 3] S_
  bcast_S_S8 : S_.BroadcastsInDim S8 (![] : Fin 0 → Fin S8.rank)
  reducesTo_S8_S_d0 : S8.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v8 : IVec S_ 1) (main_v13 : IVec S_ 1) (main_v16 : IVec S_ 1) (main_v17 : IVec S8x512 1) : IVec S_ 1 × IVec S_ 1 × IVec S_ 1 × IVec S_ 1 :=
  let main_c_4 : IVec S_ 32 := constantI S_ 32 0#32
  let main_v18 : IVec S8x512 32 := broadcastInDim S8x512 ![] bcast_S_S8x512 main_c_4
  let main_v19 : IVec S8x512 1 := cmpi .sge main_arg3 main_v18
  let main_c_5 : IVec S_ 32 := constantI S_ 32 1024#32
  let main_v20 : IVec S8x512 32 := broadcastInDim S8x512 ![] bcast_S_S8x512 main_c_5
  let main_v21 : IVec S8x512 1 := cmpi .slt main_arg3 main_v20
  let main_v22 : IVec S8x512 1 := andi main_v19 main_v21
  let main_v23 : IVec S8x512 1 := ori main_v17 main_v22
  let main_c_6 : IVec S_ 1 := constantI S_ 1 1#1
  let main_v24 : IVec S_ 1 := (fun x v => Host.reduce IntOp.andi x v reducesTo_S8x512_S_d0_1 h_S_) main_v23 main_c_6
  (main_v8, main_v13, main_v16, main_v24)

def fn {F : FTy → Type} [FloatOps F] (main_arg0 : FVec F S8x1x8x128 .bf16) (main_arg1 : FVec F S512x16x8x128 .bf16) (main_arg2 : FVec F S512x16x8x128 .bf16) (main_arg3 : IVec S8x512 32) (main_arg4 : IVec S8 32) : IVec S_ 1 × IVec S_ 1 × IVec S_ 1 × IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .slt main_v0 main_v2
  let main_v4 : FVec F S8x1x8x128 .f32 := (extf .f32 · bitsLt_bf16_f32) main_arg0
  let main_v5 : FVec F S8x1x8x128 .f32 := Host.absf main_v4
  let main_cst : FVec F S_ .f32 := constant S_ .f32 0x7F800000#32
  let main_v6 : FVec F S8x1x8x128 .f32 := broadcastInDim S8x1x8x128 ![] bcast_S_S8x1x8x128 main_cst
  let main_v7 : IVec S8x1x8x128 1 := cmpf .olt main_v5 main_v6
  let main_c : IVec S_ 1 := constantI S_ 1 1#1
  let main_v8 : IVec S_ 1 := (fun x v => Host.reduce IntOp.andi x v reducesTo_S8x1x8x128_S_d0_1_2_3 h_S_) main_v7 main_c
  let main_v9 : FVec F S512x16x8x128 .f32 := (extf .f32 · bitsLt_bf16_f32) main_arg1
  let main_v10 : FVec F S512x16x8x128 .f32 := Host.absf main_v9
  let main_cst_0 : FVec F S_ .f32 := constant S_ .f32 0x7F800000#32
  let main_v11 : FVec F S512x16x8x128 .f32 := broadcastInDim S512x16x8x128 ![] bcast_S_S512x16x8x128 main_cst_0
  let main_v12 : IVec S512x16x8x128 1 := cmpf .olt main_v10 main_v11
  let main_c_1 : IVec S_ 1 := constantI S_ 1 1#1
  let main_v13 : IVec S_ 1 := (fun x v => Host.reduce IntOp.andi x v reducesTo_S512x16x8x128_S_d0_1_2_3 h_S_) main_v12 main_c_1
  let main_c_2 : IVec S_ 32 := constantI S_ 32 1#32
  let main_v14 : IVec S8 32 := broadcastInDim S8 ![] bcast_S_S8 main_c_2
  let main_v15 : IVec S8 1 := cmpi .sge main_arg4 main_v14
  let main_c_3 : IVec S_ 1 := constantI S_ 1 1#1
  let main_v16 : IVec S_ 1 := (fun x v => Host.reduce IntOp.andi x v reducesTo_S8_S_d0 h_S_) main_v15 main_c_3
  let main_v17 : IVec S8x512 1 := noti main_v3
  fn_part1 (F := F) main_arg3 main_v8 main_v13 main_v16 main_v17
-- ==== Pre_served_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bitsLt_bf16_f32 : FTy.bits .bf16 < FTy.bits .f32
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S1024x16x8x128 : S_.BroadcastsInDim S1024x16x8x128 (![] : Fin 0 → Fin S1024x16x8x128.rank)
  reducesTo_S1024x16x8x128_S_d0_1_2_3 : S1024x16x8x128.ReducesTo [0, 1, 2, 3] S_
  bcast_S_S8 : S_.BroadcastsInDim S8 (![] : Fin 0 → Fin S8.rank)
  reducesTo_S8_S_d0 : S8.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v8 : IVec S_ 1) (main_v13 : IVec S_ 1) (main_v16 : IVec S_ 1) (main_v17 : IVec S8x512 1) : IVec S_ 1 × IVec S_ 1 × IVec S_ 1 × IVec S_ 1 :=
  let main_c_4 : IVec S_ 32 := constantI S_ 32 0#32
  let main_v18 : IVec S8x512 32 := broadcastInDim S8x512 ![] bcast_S_S8x512 main_c_4
  let main_v19 : IVec S8x512 1 := cmpi .sge main_arg3 main_v18
  let main_c_5 : IVec S_ 32 := constantI S_ 32 1024#32
  let main_v20 : IVec S8x512 32 := broadcastInDim S8x512 ![] bcast_S_S8x512 main_c_5
  let main_v21 : IVec S8x512 1 := cmpi .slt main_arg3 main_v20
  let main_v22 : IVec S8x512 1 := andi main_v19 main_v21
  let main_v23 : IVec S8x512 1 := ori main_v17 main_v22
  let main_c_6 : IVec S_ 1 := constantI S_ 1 1#1
  let main_v24 : IVec S_ 1 := (fun x v => Host.reduce IntOp.andi x v reducesTo_S8x512_S_d0_1 h_S_) main_v23 main_c_6
  (main_v8, main_v13, main_v16, main_v24)

def fn {F : FTy → Type} [FloatOps F] (main_arg0 : FVec F S8x1x8x128 .bf16) (main_arg1 : FVec F S1024x16x8x128 .bf16) (main_arg2 : FVec F S1024x16x8x128 .bf16) (main_arg3 : IVec S8x512 32) (main_arg4 : IVec S8 32) : IVec S_ 1 × IVec S_ 1 × IVec S_ 1 × IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .slt main_v0 main_v2
  let main_v4 : FVec F S8x1x8x128 .f32 := (extf .f32 · bitsLt_bf16_f32) main_arg0
  let main_v5 : FVec F S8x1x8x128 .f32 := Host.absf main_v4
  let main_cst : FVec F S_ .f32 := constant S_ .f32 0x7F800000#32
  let main_v6 : FVec F S8x1x8x128 .f32 := broadcastInDim S8x1x8x128 ![] bcast_S_S8x1x8x128 main_cst
  let main_v7 : IVec S8x1x8x128 1 := cmpf .olt main_v5 main_v6
  let main_c : IVec S_ 1 := constantI S_ 1 1#1
  let main_v8 : IVec S_ 1 := (fun x v => Host.reduce IntOp.andi x v reducesTo_S8x1x8x128_S_d0_1_2_3 h_S_) main_v7 main_c
  let main_v9 : FVec F S1024x16x8x128 .f32 := (extf .f32 · bitsLt_bf16_f32) main_arg1
  let main_v10 : FVec F S1024x16x8x128 .f32 := Host.absf main_v9
  let main_cst_0 : FVec F S_ .f32 := constant S_ .f32 0x7F800000#32
  let main_v11 : FVec F S1024x16x8x128 .f32 := broadcastInDim S1024x16x8x128 ![] bcast_S_S1024x16x8x128 main_cst_0
  let main_v12 : IVec S1024x16x8x128 1 := cmpf .olt main_v10 main_v11
  let main_c_1 : IVec S_ 1 := constantI S_ 1 1#1
  let main_v13 : IVec S_ 1 := (fun x v => Host.reduce IntOp.andi x v reducesTo_S1024x16x8x128_S_d0_1_2_3 h_S_) main_v12 main_c_1
  let main_c_2 : IVec S_ 32 := constantI S_ 32 1#32
  let main_v14 : IVec S8 32 := broadcastInDim S8 ![] bcast_S_S8 main_c_2
  let main_v15 : IVec S8 1 := cmpi .sge main_arg4 main_v14
  let main_c_3 : IVec S_ 1 := constantI S_ 1 1#1
  let main_v16 : IVec S_ 1 := (fun x v => Host.reduce IntOp.andi x v reducesTo_S8_S_d0 h_S_) main_v15 main_c_3
  let main_v17 : IVec S8x512 1 := noti main_v3
  fn_part1 (F := F) main_arg3 main_v8 main_v13 main_v16 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S_ : Shape := ⟨0, ![]⟩
abbrev S512 : Shape := ⟨1, ![512]⟩
abbrev S1x512 : Shape := ⟨2, ![1, 512]⟩
abbrev S8x1 : Shape := ⟨2, ![8, 1]⟩
abbrev S8x512x1 : Shape := ⟨3, ![8, 512, 1]⟩
abbrev S64 : Shape := ⟨1, ![64]⟩
abbrev S1x1x64 : Shape := ⟨3, ![1, 1, 64]⟩
abbrev S8x512x64 : Shape := ⟨3, ![8, 512, 64]⟩
abbrev S8x64 : Shape := ⟨2, ![8, 64]⟩
abbrev S8x64x16 : Shape := ⟨3, ![8, 64, 16]⟩
abbrev S8x1024 : Shape := ⟨2, ![8, 1024]⟩
abbrev S1 : Shape := ⟨1, ![1]⟩
abbrev S32x16x8x128 : Shape := ⟨4, ![32, 16, 8, 128]⟩
abbrev S64x128 : Shape := ⟨2, ![64, 128]⟩
abbrev S64x1 : Shape := ⟨2, ![64, 1]⟩
abbrev S64x1024 : Shape := ⟨2, ![64, 1024]⟩
abbrev S7x66x128 : Shape := ⟨3, ![7, 66, 128]⟩
abbrev S6 : Shape := ⟨1, ![6]⟩
abbrev S8x8x128 : Shape := ⟨3, ![8, 8, 128]⟩
abbrev S8x8 : Shape := ⟨2, ![8, 8]⟩
abbrev S8x8x1x128 : Shape := ⟨4, ![8, 8, 1, 128]⟩
abbrev S1x8x8x1 : Shape := ⟨4, ![1, 8, 8, 1]⟩
abbrev S8x8x8x128 : Shape := ⟨4, ![8, 8, 8, 128]⟩
abbrev S512x1024 : Shape := ⟨2, ![512, 1024]⟩
abbrev S8x1x512 : Shape := ⟨3, ![8, 1, 512]⟩
abbrev S8x8x512 : Shape := ⟨3, ![8, 8, 512]⟩
abbrev S64x512 : Shape := ⟨2, ![64, 512]⟩
abbrev S64x8 : Shape := ⟨2, ![64, 8]⟩
abbrev S64x8x128 : Shape := ⟨3, ![64, 8, 128]⟩
abbrev S64x8x1 : Shape := ⟨3, ![64, 8, 1]⟩
abbrev S1x64x128 : Shape := ⟨3, ![1, 64, 128]⟩
abbrev S1x64 : Shape := ⟨2, ![1, 64]⟩
abbrev S1x128 : Shape := ⟨2, ![1, 128]⟩
abbrev S1x1x128 : Shape := ⟨3, ![1, 1, 128]⟩
abbrev S1x2x128 : Shape := ⟨3, ![1, 2, 128]⟩
abbrev S1x66x128 : Shape := ⟨3, ![1, 66, 128]⟩
abbrev S66x128 : Shape := ⟨2, ![66, 128]⟩

abbrev nBuf : Space → Nat
  | .hbm => 63
  | .vmem => 13
  | .smem => 1
  | _ => 0

abbrev bufTy : (tb : Table) → Fin (tcTables nBuf tb) → BufTy
  | .hbm, ⟨0, _⟩ => ⟨S8x1x8x128, .bf16⟩
  | .hbm, ⟨1, _⟩ => ⟨S512x16x8x128, .bf16⟩
  | .hbm, ⟨2, _⟩ => ⟨S512x16x8x128, .bf16⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x512, .i32⟩
  | .hbm, ⟨32, _⟩ => ⟨S8x512, .i32⟩
  | .hbm, ⟨33, _⟩ => ⟨S512, .i32⟩
  | .hbm, ⟨34, _⟩ => ⟨S1x512, .i32⟩
  | .hbm, ⟨35, _⟩ => ⟨S8x1, .i32⟩
  | .hbm, ⟨36, _⟩ => ⟨S8x512, .i32⟩
  | .hbm, ⟨37, _⟩ => ⟨S8x512, .i32⟩
  | .hbm, ⟨38, _⟩ => ⟨S8x512, .i1⟩
  | .hbm, ⟨39, _⟩ => ⟨S_, .i32⟩
  | .hbm, ⟨40, _⟩ => ⟨S8x512, .i32⟩
  | .hbm, ⟨41, _⟩ => ⟨S8x512, .i1⟩
  | .hbm, ⟨42, _⟩ => ⟨S8x512, .i1⟩
  | .hbm, ⟨43, _⟩ => ⟨S_, .i32⟩
  | .hbm, ⟨44, _⟩ => ⟨S8x512, .i32⟩
  | .hbm, ⟨45, _⟩ => ⟨S8x512, .i1⟩
  | .hbm, ⟨46, _⟩ => ⟨S8x512, .i1⟩
  | .hbm, ⟨47, _⟩ => ⟨S8x512x1, .i32⟩
  | .hbm, ⟨48, _⟩ => ⟨S64, .i32⟩
  | .hbm, ⟨49, _⟩ => ⟨S1x1x64, .i32⟩
  | .hbm, ⟨50, _⟩ => ⟨S8x512x64, .i32⟩
  | .hbm, ⟨51, _⟩ => ⟨S8x512x64, .i32⟩
  | .hbm, ⟨52, _⟩ => ⟨S8x512x64, .i1⟩
  | .hbm, ⟨53, _⟩ => ⟨S8x512x1, .i1⟩
  | .hbm, ⟨54, _⟩ => ⟨S8x512x64, .i1⟩
  | .hbm, ⟨55, _⟩ => ⟨S8x512x64, .i1⟩
  | .hbm, ⟨56, _⟩ => ⟨S8x512x64, .i32⟩
  | .hbm, ⟨57, _⟩ => ⟨S_, .i32⟩
  | .hbm, ⟨58, _⟩ => ⟨S8x64, .i32⟩
  | .hbm, ⟨59, _⟩ => ⟨S8x64, .f32⟩
  | .hbm, ⟨60, _⟩ => ⟨S8x64x16, .f32⟩
  | .hbm, ⟨61, _⟩ => ⟨S8x1024, .f32⟩
  | .hbm, ⟨62, _⟩ => ⟨S8x1x8x128, .f32⟩
  | .local _ .vmem, ⟨0, _⟩ => ⟨S8x1x8x128, .bf16⟩
  | .local _ .vmem, ⟨1, _⟩ => ⟨S32x16x8x128, .bf16⟩
  | .local _ .vmem, ⟨2, _⟩ => ⟨S32x16x8x128, .bf16⟩
  | .local _ .vmem, ⟨3, _⟩ => ⟨S32x16x8x128, .bf16⟩
  | .local _ .vmem, ⟨4, _⟩ => ⟨S32x16x8x128, .bf16⟩
  | .local _ .vmem, ⟨5, _⟩ => ⟨S8x512, .f32⟩
  | .local _ .vmem, ⟨6, _⟩ => ⟨S8x512, .f32⟩
  | .local _ .vmem, ⟨7, _⟩ => ⟨S8x1x8x128, .f32⟩
  | .local _ .vmem, ⟨8, _⟩ => ⟨S64x128, .f32⟩
  | .local _ .vmem, ⟨9, _⟩ => ⟨S64x1, .f32⟩
  | .local _ .vmem, ⟨10, _⟩ => ⟨S64x1, .f32⟩
  | .local _ .vmem, ⟨11, _⟩ => ⟨S64x1024, .f32⟩
  | .local _ .vmem, ⟨12, _⟩ => ⟨S7x66x128, .bf16⟩
  | .local _ .smem, ⟨0, _⟩ => ⟨S1, .i32⟩
  | _, _ => ⟨S8x1x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v47 : Ref sig .tc := ⟨.hbm, 62, rfl⟩
abbrev main_v46 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev barrier0 : Sem sig := 0

abbrev nD : Nat := 16
abbrev τ : Topo := Topo.v7x

variable {F : FTy → Type} [FloatOps F]

abbrev grid0 : Pipeline.Grid := ⟨1, ![2], ![false]⟩

abbrev pre0 : Pipeline.Prefetch sig := ⟨1, ![main_v46.idx], fun | 0 => main_v46.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_dev1 (d0 : Dev nD) : Nat :=
  let c0_i32_67 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_66 : BitVec 32 := 8#32
  let v128 : BitVec 32 := Scalar.muli v9 c8_i32_66
  let v129 : BitVec 32 := Scalar.addi c0_i32_67 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v130 : BitVec 32 := Scalar.muli v5 c4_i32_68
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v132 : BitVec 32 := Scalar.muli v8 c1_i32_69
  let v133 : BitVec 32 := Scalar.addi v131 v132
  v133.toNat
def k0_dev2 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v134 : BitVec 32 := Scalar.muli v2 c8_i32_71
  let v135 : BitVec 32 := Scalar.addi c0_i32_72 v134
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_73 : BitVec 32 := 4#32
  let v136 : BitVec 32 := Scalar.muli v10 c4_i32_73
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v138 : BitVec 32 := Scalar.muli v8 c1_i32_74
  let v139 : BitVec 32 := Scalar.addi v137 v138
  v139.toNat
def k0_dev3 (d0 : Dev nD) : Nat :=
  let c0_i32_77 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_76 : BitVec 32 := 8#32
  let v140 : BitVec 32 := Scalar.muli v11 c8_i32_76
  let v141 : BitVec 32 := Scalar.addi c0_i32_77 v140
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_5 v5
  let c4_i32_78 : BitVec 32 := 4#32
  let v142 : BitVec 32 := Scalar.muli v12 c4_i32_78
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v144 : BitVec 32 := Scalar.muli v8 c1_i32_79
  let v145 : BitVec 32 := Scalar.addi v143 v144
  v145.toNat
def k0_dev4 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v146 : BitVec 32 := Scalar.muli v2 c8_i32_81
  let v147 : BitVec 32 := Scalar.addi c0_i32_82 v146
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v148 : BitVec 32 := Scalar.muli v5 c4_i32_83
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.addi v8 c1_i32_6
  let c4_i32_7 : BitVec 32 := 4#32
  let c0_i32 : BitVec 32 := 0#32
  let v14 : BitVec 1 := Scalar.cmpi .eq c4_i32_7 c0_i32
  let c1_i32_8 : BitVec 32 := 1#32
  let v15 : BitVec 32 := Scalar.select v14 c1_i32_8 c4_i32_7
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c1_i32_84 : BitVec 32 := 1#32
  let v150 : BitVec 32 := Scalar.muli v23 c1_i32_84
  let v151 : BitVec 32 := Scalar.addi v149 v150
  v151.toNat
def k0_dev5 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v152 : BitVec 32 := Scalar.muli v2 c8_i32_86
  let v153 : BitVec 32 := Scalar.addi c0_i32_87 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v154 : BitVec 32 := Scalar.muli v5 c4_i32_88
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v24 : BitVec 32 := Scalar.addi v8 c2_i32_12
  let c4_i32_13 : BitVec 32 := 4#32
  let c0_i32_14 : BitVec 32 := 0#32
  let v25 : BitVec 1 := Scalar.cmpi .eq c4_i32_13 c0_i32_14
  let c1_i32_15 : BitVec 32 := 1#32
  let v26 : BitVec 32 := Scalar.select v25 c1_i32_15 c4_i32_13
  let v27 : BitVec 32 := Scalar.remsi v24 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c1_i32_89 : BitVec 32 := 1#32
  let v156 : BitVec 32 := Scalar.muli v34 c1_i32_89
  let v157 : BitVec 32 := Scalar.addi v155 v156
  v157.toNat
def k0_dev6 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v158 : BitVec 32 := Scalar.muli v2 c8_i32_91
  let v159 : BitVec 32 := Scalar.addi c0_i32_92 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v160 : BitVec 32 := Scalar.muli v5 c4_i32_93
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v35 : BitVec 32 := Scalar.addi v8 c3_i32
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_94 : BitVec 32 := 1#32
  let v162 : BitVec 32 := Scalar.muli v45 c1_i32_94
  let v163 : BitVec 32 := Scalar.addi v161 v162
  v163.toNat
def k0_cond2 (i : grid0.Coords) : BitVec 1 :=
  let arg0 : BitVec 32 := BitVec.ofNat 32 (i 0).val
  let c1_i32_63 : BitVec 32 := 1#32
  let v124 : BitVec 1 := Scalar.cmpi .eq arg0 c1_i32_63
  let v125 : BitVec 32 := Scalar.extui v124
  let c0_i32_64 : BitVec 32 := 0#32
  let v126 : BitVec 1 := Scalar.cmpi .ne v125 c0_i32_64
  v126

def k0_dev7 (d0 : Dev nD) : Nat :=
  let c0_i32_85 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_84 : BitVec 32 := 8#32
  let v148 : BitVec 32 := Scalar.muli v9 c8_i32_84
  let v149 : BitVec 32 := Scalar.addi c0_i32_85 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v150 : BitVec 32 := Scalar.muli v5 c4_i32_86
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v152 : BitVec 32 := Scalar.muli v8 c1_i32_87
  let v153 : BitVec 32 := Scalar.addi v151 v152
  v153.toNat
def k0_dev8 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v162 : BitVec 32 := Scalar.muli v2 c8_i32_96
  let v163 : BitVec 32 := Scalar.addi c0_i32_97 v162
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_98 : BitVec 32 := 4#32
  let v164 : BitVec 32 := Scalar.muli v10 c4_i32_98
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v166 : BitVec 32 := Scalar.muli v8 c1_i32_99
  let v167 : BitVec 32 := Scalar.addi v165 v166
  v167.toNat
def k0_dev9 (d0 : Dev nD) : Nat :=
  let c0_i32_109 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_108 : BitVec 32 := 8#32
  let v176 : BitVec 32 := Scalar.muli v11 c8_i32_108
  let v177 : BitVec 32 := Scalar.addi c0_i32_109 v176
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_5 v5
  let c4_i32_110 : BitVec 32 := 4#32
  let v178 : BitVec 32 := Scalar.muli v12 c4_i32_110
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v180 : BitVec 32 := Scalar.muli v8 c1_i32_111
  let v181 : BitVec 32 := Scalar.addi v179 v180
  v181.toNat
def k0_dev10 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v373 : BitVec 32 := Scalar.muli v2 c8_i32_258
  let v374 : BitVec 32 := Scalar.addi c0_i32_259 v373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v375 : BitVec 32 := Scalar.muli v5 c4_i32_260
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v13 : BitVec 32 := Scalar.addi v8 c1_i32_6
  let c4_i32_7 : BitVec 32 := 4#32
  let c0_i32 : BitVec 32 := 0#32
  let v14 : BitVec 1 := Scalar.cmpi .eq c4_i32_7 c0_i32
  let c1_i32_8 : BitVec 32 := 1#32
  let v15 : BitVec 32 := Scalar.select v14 c1_i32_8 c4_i32_7
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c1_i32_261 : BitVec 32 := 1#32
  let v377 : BitVec 32 := Scalar.muli v23 c1_i32_261
  let v378 : BitVec 32 := Scalar.addi v376 v377
  v378.toNat
def k0_dev11 (d0 : Dev nD) : Nat :=
  let c0_i32_271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_270 : BitVec 32 := 8#32
  let v387 : BitVec 32 := Scalar.muli v2 c8_i32_270
  let v388 : BitVec 32 := Scalar.addi c0_i32_271 v387
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_272 : BitVec 32 := 4#32
  let v389 : BitVec 32 := Scalar.muli v5 c4_i32_272
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_12 : BitVec 32 := 2#32
  let v24 : BitVec 32 := Scalar.addi v8 c2_i32_12
  let c4_i32_13 : BitVec 32 := 4#32
  let c0_i32_14 : BitVec 32 := 0#32
  let v25 : BitVec 1 := Scalar.cmpi .eq c4_i32_13 c0_i32_14
  let c1_i32_15 : BitVec 32 := 1#32
  let v26 : BitVec 32 := Scalar.select v25 c1_i32_15 c4_i32_13
  let v27 : BitVec 32 := Scalar.remsi v24 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c1_i32_273 : BitVec 32 := 1#32
  let v391 : BitVec 32 := Scalar.muli v34 c1_i32_273
  let v392 : BitVec 32 := Scalar.addi v390 v391
  v392.toNat
def k0_dev12 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_282 : BitVec 32 := 8#32
  let v401 : BitVec 32 := Scalar.muli v2 c8_i32_282
  let v402 : BitVec 32 := Scalar.addi c0_i32_283 v401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_284 : BitVec 32 := 4#32
  let v403 : BitVec 32 := Scalar.muli v5 c4_i32_284
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v35 : BitVec 32 := Scalar.addi v8 c3_i32
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_285 : BitVec 32 := 1#32
  let v405 : BitVec 32 := Scalar.muli v45 c1_i32_285
  let v406 : BitVec 32 := Scalar.addi v404 v405
  v406.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x16x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8x1x512x16 : Shape := ⟨5, ![8, 8, 1, 512, 16]⟩
abbrev S8x1x1x1x1 : Shape := ⟨5, ![8, 1, 1, 1, 1]⟩
abbrev S8x8x1 : Shape := ⟨3, ![8, 8, 1]⟩
abbrev S8x8x1x1x1 : Shape := ⟨5, ![8, 8, 1, 1, 1]⟩
abbrev S8x8x128x1 : Shape := ⟨4, ![8, 8, 128, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x1x8x128, .bf16⟩
  | .hbm, ⟨1, _⟩ => ⟨S1024x16x8x128, .bf16⟩
  | .hbm, ⟨2, _⟩ => ⟨S1024x16x8x128, .bf16⟩
  | .hbm, ⟨3, _⟩ => ⟨S8x512, .i32⟩
  | .hbm, ⟨4, _⟩ => ⟨S8, .i32⟩
  | .hbm, ⟨5, _⟩ => ⟨S1024x16x8x128, .f32⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S8x512, .i32⟩
  | .hbm, ⟨13, _⟩ => ⟨S8x512x1, .i32⟩
  | .hbm, ⟨14, _⟩ => ⟨S8x512x16x8x128, .f32⟩
  | .hbm, ⟨15, _⟩ => ⟨S1024x16x8x128, .f32⟩
  | .hbm, ⟨16, _⟩ => ⟨S_, .i32⟩
  | .hbm, ⟨17, _⟩ => ⟨S8x512, .i32⟩
  | .hbm, ⟨18, _⟩ => ⟨S8x512, .i1⟩
  | .hbm, ⟨19, _⟩ => ⟨S_, .i32⟩
  | .hbm, ⟨20, _⟩ => ⟨S8x512, .i32⟩
  | .hbm, ⟨21, _⟩ => ⟨S8x512, .i32⟩
  | .hbm, ⟨22, _⟩ => ⟨S8x512, .i32⟩
  | .hbm, ⟨23, _⟩ => ⟨S8x512x1, .i32⟩
  | .hbm, ⟨24, _⟩ => ⟨S8x512x16x8x128, .f32⟩
  | .hbm, ⟨25, _⟩ => ⟨S8x1x8x128, .f32⟩
  | .hbm, ⟨26, _⟩ => ⟨S8x8x1x512x16, .f32⟩
  | .hbm, ⟨27, _⟩ => ⟨S_, .f32⟩
  | .hbm, ⟨28, _⟩ => ⟨S8x8x1x512x16, .f32⟩
  | .hbm, ⟨29, _⟩ => ⟨S8x8x1x512x16, .f32⟩
  | .hbm, ⟨30, _⟩ => ⟨S8x8x1x512x16, .i32⟩
  | .hbm, ⟨31, _⟩ => ⟨S8x1x1x1x1, .i32⟩
  | .hbm, ⟨32, _⟩ => ⟨S8x8x1x512x16, .i32⟩
  | .hbm, ⟨33, _⟩ => ⟨S8x8x1x512x16, .i1⟩
  | .hbm, ⟨34, _⟩ => ⟨S_, .f32⟩
  | .hbm, ⟨35, _⟩ => ⟨S_, .f32⟩
  | .hbm, ⟨36, _⟩ => ⟨S8x8x1x512x16, .f32⟩
  | .hbm, ⟨37, _⟩ => ⟨S8x8x1x512x16, .f32⟩
  | .hbm, ⟨38, _⟩ => ⟨S_, .f32⟩
  | .hbm, ⟨39, _⟩ => ⟨S8x8x1, .f32⟩
  | .hbm, ⟨40, _⟩ => ⟨S8x8x1x1x1, .f32⟩
  | .hbm, ⟨41, _⟩ => ⟨S8x8x1x512x16, .f32⟩
  | .hbm, ⟨42, _⟩ => ⟨S8x8x1x512x16, .f32⟩
  | .hbm, ⟨43, _⟩ => ⟨S8x8x1x512x16, .f32⟩
  | .hbm, ⟨44, _⟩ => ⟨S_, .f32⟩
  | .hbm, ⟨45, _⟩ => ⟨S8x8x1, .f32⟩
  | .hbm, ⟨46, _⟩ => ⟨S8x8x1x1x1, .f32⟩
  | .hbm, ⟨47, _⟩ => ⟨S8x8x1x512x16, .f32⟩
  | .hbm, ⟨48, _⟩ => ⟨S8x8x1x512x16, .f32⟩
  | .hbm, ⟨49, _⟩ => ⟨S8x8x128x1, .f32⟩
  | .hbm, ⟨50, _⟩ => ⟨S8x1x8x128, .f32⟩
  | _, _ => ⟨S8x1x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Mem.lean ====
/-
# Memory of the paged attention kernel

The resource algebra the run is stated in, the seven slots of the packet buffer, and the loads and stores of the
body by values: a whole buffer read or overwritten, a window of a slot read, full rows of a slot overwritten.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.MemrefSat
public import Idealize.ShloMosaic.Lib.VecWindow
public import Idealize.ShloMosaic.Lib.ValueLayout
public import Idealize.ShloMosaic.Lib.Tactic

@[expose] public section

noncomputable section

namespace Cert.Paged

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The ghost state: the pipeline's cells beside the exchange's cells, whose duties are numbered by six slots. -/
abbrev UU : Type := UR sig nD τ × URounds (GSem nD τ sig) (Fin 6)

local notation "𝕄" => MT nD τ sig Unit (Elt F) ℕ UU ℕ

abbrev EP : Emb (UR sig nD τ) (MT nD τ sig Unit (Elt F) ℕ UU ℕ) := embL
abbrev ER : Emb (URounds (GSem nD τ sig) (Fin 6)) (MT nD τ sig Unit (Elt F) ℕ UU ℕ) := embR

abbrev 𝒱₀ : Variants := Variants.none

/-! ## Whole buffers -/

section Whole

variable {c : Thread nD τ} {sp : CoreSpace} {s : Shape} {e : EltTy} {α : Type} {q : PosShare TreeShare}

/-- A load of all of a memref the core holds at `X` continues at `X`. -/
theorem wp_load_full {m : Memref sig c.2.kind sp s e} {off : Fin s.rank → ℕ} {inb : ∀ a, off a + s.size a ≤ s.size a} {hl}
    {k : (s.Idx → Elt F e) → Prog (TpuEff nD τ sig (Elt F) Λ₀ c.2) α} {X : s.Idx → Elt F e}
    {Q : α → sProp 𝕄} :
    (owns c m q X : sProp 𝕄) ⊢ iprop((owns c m q X -∗ wp frame (wpE (defs₀ (F := F)) 𝒱₀ c none) Set.univ (k X) Q)
      -∗ wp frame (wpE (defs₀ (F := F)) 𝒱₀ c none) Set.univ (.op (.load m (Rect.unit off s.size inb).toLoadRect hl) k) Q) := by
  unfold owns
  iintro ⟨%f, %hf, H⟩ Hk
  iapply (wp_load 𝒱₀ c none Set.univ (m := m) (View.setOn_subset_set m.view _)) $$ H
  iintro H
  rw [View.readAt_full, hf]
  iapply Hk
  iexists f
  isplitr; · ipureintro; exact hf
  iexact H

/-- A store over all of a memref leaves it holding the stored value. -/
theorem wp_store_full {m : Memref sig c.2.kind sp s e} {off : Fin s.rank → ℕ} {inb : ∀ a, off a + s.size a ≤ s.size a} {hx hm}
    {w : s.Idx → Elt F e} {k : PUnit → Prog (TpuEff nD τ sig (Elt F) Λ₀ c.2) α} {X : s.Idx → Elt F e}
    {Q : α → sProp 𝕄} :
    (owns c m fullShare X : sProp 𝕄) ⊢ iprop((owns c m fullShare w -∗ wp frame (wpE (defs₀ (F := F)) 𝒱₀ c none) Set.univ (k ⟨⟩) Q)
      -∗ wp frame (wpE (defs₀ (F := F)) 𝒱₀ c none) Set.univ (.op (.store m (Rect.unit off s.size inb) w Finset.univ hx hm) k) Q) := by
  unfold owns
  iintro ⟨%f, %hf, H⟩ Hk
  iapply (wp_store 𝒱₀ c none Set.univ (m := m) (r := Rect.unit off s.size inb) (Mk := Finset.univ) (S := m.view.set)
    (View.set_slice_subset _ _)) $$ H
  iintro H
  iapply Hk
  iexists _
  isplitr
  swap; · iexact H
  ipureintro
  rw [← View.readAt_full (v := m.view) (inb := inb)]
  exact View.read_write_univ (v := m.access (Rect.unit off s.size inb)) _ _

end Whole

/-! ## The slots of the packet buffer -/

/-- The packet buffer: slot 0 holds the packet being sent, slots 1 to 6 receive. -/
abbrev commM : Memref sig .tc .vmem S7x66x128 .bf16 := Memref.whole cc0_scratch4

theorem slot_inb (k : Fin 7) : ∀ a, (![k.val, 0, 0] : Fin 3 → ℕ) a + S1x66x128.size a ≤ S7x66x128.size a := by
  revert k; decide

/-- Slot `k` of the packet buffer, as the kernel names it. -/
abbrev slotM (k : Fin 7) : Memref sig .tc .vmem S66x128 .bf16 :=
  (commM.slice (Rect.unit (s := S7x66x128) ![k.val, 0, 0] S1x66x128.size (slot_inb k)) (fun _ => rfl)).squeeze S66x128 squeezes_S1x66x128_S66x128

omit [FloatOps F] in
/-- Slot `k` reads entry `(k, i, j)` of the packet buffer at `(i, j)`. -/
theorem slot_read (k : Fin 7) (f : (cc0_scratch4 : Ref sig .tc).ty.Contents (Elt F)) (i : Fin 66) (j : Fin 128) :
    (slotM k).view.read (Elt F) f (ix2 i j) = f (ix3 k i j) := by
  have h : (slotM k).view.read (Elt F) f (ix2 i j)
      = f ((Rect.unit (s := S7x66x128) ![k.val, 0, 0] S1x66x128.size (slot_inb k)).emb (Shape.reshapeEquiv squeezes_S1x66x128_S66x128.numel_eq (ix2 i j))) := rfl
  rw [h, ValueIdx.reshapeEquiv_ix2_1ab]
  congr 1
  funext a
  refine Fin.ext ?_
  match a with
  | ⟨0, _⟩ => show k.val + 1 * 0 = k.val; omega
  | ⟨1, _⟩ => show 0 + 1 * i.val = i.val; omega
  | ⟨2, _⟩ => show 0 + 1 * j.val = j.val; omega

/-- Rows `r` to `r + a` of a packet, its first `b` lanes. -/
def packetRows {α : Type} (X : S66x128.Idx → α) (r a b : ℕ) (hr : r + a ≤ 66) (hb : b ≤ 128) : (⟨3, ![1, a, b]⟩ : Shape).Idx → α :=
  fun j => X (ix2 ⟨r + (j 1).val, by have : (j 1).val < a := (j 1).isLt; omega⟩ ⟨(j 2).val, by have : (j 2).val < b := (j 2).isLt; omega⟩)

/-- A packet with rows `r` to `r + a` replaced by `w`. -/
def putRows {α : Type} (X : S66x128.Idx → α) (r a : ℕ) (w : (⟨3, ![1, a, 128]⟩ : Shape).Idx → α) : S66x128.Idx → α :=
  fun i => if h : r ≤ (i 0).val ∧ (i 0).val < r + a then w (ix3 (0 : Fin 1) ⟨(i 0).val - r, by omega⟩ ⟨(i 1).val, (i 1).isLt⟩) else X i

section Slot

variable {c : Thread nD τ} {α : Type} {q : PosShare TreeShare}

theorem slot_window_within (k : Fin 7) (r a b : ℕ) (hr : r + a ≤ 66) (hb : b ≤ 128) : ∀ x, (![k.val, r, 0] : Fin 3 → ℕ) x + (![1, a, b] : Fin 3 → ℕ) x ≤ S7x66x128.size x := by
  intro x
  match x with
  | ⟨0, _⟩ => show k.val + 1 ≤ 7; omega
  | ⟨1, _⟩ => show r + a ≤ 66; omega
  | ⟨2, _⟩ => show 0 + b ≤ 128; omega

omit [FloatOps F] in
/-- An element of a window of slot `k` is an element of slot `k`. -/
theorem slot_window_subset (k : Fin 7) (r a b : ℕ) (inb) :
    (Rect.unit (s := S7x66x128) ![k.val, r, 0] ![1, a, b] inb).set ⊆ (slotM k).view.set := by
  intro i hi
  rw [Memref.set_view_squeeze]
  show i ∈ (commM.view.slice (Rect.unit (s := S7x66x128) ![k.val, 0, 0] S1x66x128.size (slot_inb k))).set
  rw [View.set_slice_whole]
  rw [Rect.mem_set_unit] at hi ⊢
  intro x
  have := hi x
  have := inb x
  match x with
  | ⟨0, _⟩ => simpa using hi 0
  | ⟨1, _⟩ =>
    refine ⟨Nat.zero_le _, ?_⟩
    show (i 1).val < 0 + 66
    have : (i 1).val < 66 := (i 1).isLt
    simpa using this
  | ⟨2, _⟩ =>
    refine ⟨Nat.zero_le _, ?_⟩
    show (i 2).val < 0 + 128
    have : (i 2).val < 128 := (i 2).isLt
    simpa using this

/-- A load of a window of slot `k`, from row `r` on, reads those rows of the packet the slot holds. -/
theorem wp_load_slot (c : Dev nD) (k : Fin 7) (r a b : ℕ) (hr : r + a ≤ 66) (hb : b ≤ 128)
    {inb : ∀ x, (![k.val, r, 0] : Fin 3 → ℕ) x + (![1, a, b] : Fin 3 → ℕ) x ≤ S7x66x128.size x} {hl}
    {K : ((⟨3, ![1, a, b]⟩ : Shape).Idx → Elt F .bf16) → Prog (TpuEff nD τ sig (Elt F) Λ₀ .tc) α} {X : S66x128.Idx → Elt F .bf16}
    {Q : α → sProp 𝕄} :
    (owns (c : Thread nD τ) (slotM k) q X : sProp 𝕄) ⊢ iprop((owns (c : Thread nD τ) (slotM k) q X
        -∗ wp frame (wpE (defs₀ (F := F)) 𝒱₀ c none) Set.univ (K (packetRows X r a b hr hb)) Q)
      -∗ wp frame (wpE (defs₀ (F := F)) 𝒱₀ c none) Set.univ
        (.op (.load commM (Rect.unit (s := S7x66x128) ![k.val, r, 0] ![1, a, b] inb).toLoadRect hl) K) Q) := by
  unfold owns
  iintro ⟨%f, %hf, H⟩ Hk
  have hS : commM.view.setOn (Rect.unit (s := S7x66x128) ![k.val, r, 0] ![1, a, b] inb).toLoadRect.set ⊆ (slotM k).view.set := by
    refine Finset.Subset.trans ?_ (slot_window_subset k r a b inb)
    intro i hi
    rw [View.setOn, Finset.mem_map] at hi
    obtain ⟨x, hx, rfl⟩ := hi
    exact hx
  iapply (wp_load 𝒱₀ (c : Thread nD τ) none Set.univ (m := commM) (S := (slotM k).view.set) hS) $$ H
  iintro H
  have hv : commM.view.readAt (Elt F) (Rect.unit (s := S7x66x128) ![k.val, r, 0] ![1, a, b] inb).toLoadRect f
      = packetRows X r a b hr hb := by
    subst hf
    funext j
    unfold packetRows
    rw [slot_read]
    show f _ = f _
    congr 1
    funext x
    refine Fin.ext ?_
    have h0 : (j 0).val < 1 := (j 0).isLt
    match x with
    | ⟨0, _⟩ => show k.val + 1 * (j 0).val = k.val; omega
    | ⟨1, _⟩ => show r + 1 * (j 1).val = r + (j 1).val; omega
    | ⟨2, _⟩ => show 0 + 1 * (j 2).val = (j 2).val; omega
  rw [hv]
  iapply Hk
  iexists f
  isplitr; · ipureintro; exact hf
  iexact H

/-- A store of full rows of slot `k`, from row `r` on, replaces those rows of the packet the slot holds. -/
theorem wp_store_slot (c : Dev nD) (k : Fin 7) (r a : ℕ)
    {inb : ∀ x, (![k.val, r, 0] : Fin 3 → ℕ) x + (![1, a, 128] : Fin 3 → ℕ) x ≤ S7x66x128.size x} {hx hm}
    {w : (⟨3, ![1, a, 128]⟩ : Shape).Idx → Elt F .bf16}
    {K : PUnit → Prog (TpuEff nD τ sig (Elt F) Λ₀ .tc) α} {X : S66x128.Idx → Elt F .bf16}
    {Q : α → sProp 𝕄} :
    (owns (c : Thread nD τ) (slotM k) fullShare X : sProp 𝕄) ⊢ iprop((owns (c : Thread nD τ) (slotM k) fullShare (putRows X r a w)
        -∗ wp frame (wpE (defs₀ (F := F)) 𝒱₀ c none) Set.univ (K ⟨⟩) Q)
      -∗ wp frame (wpE (defs₀ (F := F)) 𝒱₀ c none) Set.univ
        (.op (.store commM (Rect.unit (s := S7x66x128) ![k.val, r, 0] ![1, a, 128] inb) w Finset.univ hx hm) K) Q) := by
  unfold owns
  iintro ⟨%f, %hf, H⟩ Hk
  have hset : (commM.access (Rect.unit (s := S7x66x128) ![k.val, r, 0] ![1, a, 128] inb)).set
      = (Rect.unit (s := S7x66x128) ![k.val, r, 0] ![1, a, 128] inb).set := View.set_slice_whole _ _
  have hS : (commM.access (Rect.unit (s := S7x66x128) ![k.val, r, 0] ![1, a, 128] inb)).setOn Finset.univ ⊆ (slotM k).view.set := by
    rw [View.setOn_univ, hset]; exact slot_window_subset k r a 128 inb
  iapply (wp_store 𝒱₀ (c : Thread nD τ) none Set.univ (m := commM) (r := Rect.unit (s := S7x66x128) ![k.val, r, 0] ![1, a, 128] inb)
    (Mk := Finset.univ) (S := (slotM k).view.set) hS) $$ H
  iintro H
  iapply Hk
  iexists _
  isplitr
  swap; · iexact H
  ipureintro
  subst hf
  funext i
  obtain ⟨y, z, rfl⟩ : ∃ y z, i = ix2 y z := ⟨i 0, i 1, eq_ix2 i⟩
  rw [slot_read]
  unfold putRows
  have hr66 : r + a ≤ 66 := inb 1
  split
  next h =>
    have h' : r ≤ y.val ∧ y.val < r + a := h
    have he : (ix3 k y z : S7x66x128.Idx) = (commM.access (Rect.unit (s := S7x66x128) ![k.val, r, 0] ![1, a, 128] inb)).emb
        (ix3 (0 : Fin 1) ⟨y.val - r, by omega⟩ ⟨z.val, z.isLt⟩) := by
      funext x
      refine Fin.ext ?_
      match x with
      | ⟨0, _⟩ => show k.val = k.val + 1 * 0; omega
      | ⟨1, _⟩ => show y.val = r + 1 * (y.val - r); omega
      | ⟨2, _⟩ => show z.val = 0 + 1 * z.val; omega
    rw [he, View.write_emb_of_mem _ _ (Finset.mem_univ _)]
    rfl
  next h =>
    have h' : ¬ (r ≤ y.val ∧ y.val < r + a) := h
    rw [View.write_of_not_mem, slot_read]
    rw [View.setOn_univ, hset, Rect.mem_set_unit]
    intro hc
    exact h' (hc 1)

end Slot

end Cert.Paged
-- ==== Proof.Sched.lean ====
/-
# The exchange's protocol

The devices form a 2 by 2 by 4 mesh. Device `c` sends a packet to six peers, one landing slot each: the slots 0, 1, 2
come from the devices across the first axis, the second axis and both; the slots 3, 4, 5 from the other devices of the
third axis. A barrier cell counts one unit per peer, whose payload is the landing slot the peer lends; a receive cell
carries the landed packet, a send cell the lent share of the sent packet.
-/
module

public import proofs.«01_k».proof.Proof.Mem

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The mesh -/

/-- The device at a place of the mesh, each coordinate taken round its axis. -/
def place (x y z : ℕ) : Dev nD := ⟨x % 2 * 8 + y % 2 * 4 + z % 4, by show _ < 16; omega⟩

/-- The device that device `c` sends to in slot `s`. -/
def tgt (s : Fin 6) (c : Dev nD) : Dev nD :=
  place (c.val / 8 + (![1, 0, 1, 0, 0, 0] : Fin 6 → ℕ) s) (c.val / 4 + (![0, 1, 1, 0, 0, 0] : Fin 6 → ℕ) s) (c.val + (![0, 0, 0, 3, 2, 1] : Fin 6 → ℕ) s)

/-- The device whose packet lands in slot `s` of device `c`. -/
def src (s : Fin 6) (c : Dev nD) : Dev nD :=
  place (c.val / 8 + (![1, 0, 1, 0, 0, 0] : Fin 6 → ℕ) s) (c.val / 4 + (![0, 1, 1, 0, 0, 0] : Fin 6 → ℕ) s) (c.val + (![0, 0, 0, 1, 2, 3] : Fin 6 → ℕ) s)

theorem tgt_src : ∀ (s : Fin 6) (c : Dev nD), tgt s (src s c) = c := by decide +kernel
theorem src_tgt : ∀ (s : Fin 6) (c : Dev nD), src s (tgt s c) = c := by decide +kernel

/-! ## The cells -/

abbrev sendS (s : Fin 6) : DmaSem sig := ⟨8 + s.val, by show _ < 20; omega⟩
abbrev recvS (s : Fin 6) : DmaSem sig := ⟨14 + s.val, by show _ < 20; omega⟩
abbrev barS : Sem sig := (0 : Fin 1)

abbrev barC (c : Dev nD) : GSem nD τ sig := ((c : Thread nD τ), .reg barS)
abbrev sendC (c : Dev nD) (s : Fin 6) : GSem nD τ sig := ((c : Thread nD τ), .dma (sendS s))
abbrev recvC (c : Dev nD) (s : Fin 6) : GSem nD τ sig := ((c : Thread nD τ), .dma (recvS s))

/-- The slot a send or receive semaphore is for. -/
def slotOf (q : DmaSem sig) : Fin 6 := ⟨(q.val - 8) % 6, Nat.mod_lt _ (by decide)⟩
theorem slotOf_send : ∀ s : Fin 6, slotOf (sendS s) = s := by decide
theorem slotOf_recv : ∀ s : Fin 6, slotOf (recvS s) = s := by decide

/-- The units a packet's transfer is credited. -/
abbrev NC : ℕ := (slotM 0).view.dmaCredit

theorem NC_pos : 0 < NC := View.dmaCredit_pos _ (by decide)

/-- The share of the sent packet that the send of slot `s` borrows. -/
def qs (s : Fin 6) : PosShare TreeShare :=
  match s with
  | 0 => fullShare.left | 1 => fullShare.right.left | 2 => fullShare.right.right
  | 3 => fullShare.right.right | 4 => fullShare.right.left | 5 => fullShare.left

/-! ## The schedule -/

/-- What the barrier unit of slot `s` hands device `c`: the slot of the device it sends to there. -/
def barPay (c : Dev nD) (s : Fin 6) : sProp 𝕄 :=
  iprop((∃ X, owns ((tgt s c : Dev nD) : Thread nD τ) (slotM s.succ) fullShare X) ∗ reached ER (recvC (tgt s c) s) 0)

/-- The landed packet. -/
def recvPay (pk : Fin 6 → Dev nD → S66x128.Idx → Elt F .bf16) (c : Dev nD) (s : Fin 6) : sProp 𝕄 :=
  owns (c : Thread nD τ) (slotM s.succ) fullShare (pk s (src s c))

/-- The share of the sent packet coming back. -/
def sendPay (pk : Fin 6 → Dev nD → S66x128.Idx → Elt F .bf16) (c : Dev nD) (s : Fin 6) : sProp 𝕄 :=
  owns (c : Thread nD τ) (slotM 0) (qs s) (pk s c)

/-- The protocol: device `c` sends the packet `pk s c` in slot `s`, once. -/
def Rd (pk : Fin 6 → Dev nD → S66x128.Idx → Elt F .bf16) : Rounds.Schedule (GSem nD τ sig) (Fin 6) 𝕄 where
  duties g r := if r = 0 ∧ g.1.2 = .tc then (match g.2 with | .reg _ => Finset.univ | .dma q => if 8 ≤ q.val then {0} else ∅) else ∅
  unitless _ := False
  amount g _ _ := match g.2 with | .reg _ => 1 | .dma _ => NC
  payload g _ d := match g.2 with
    | .reg _ => barPay g.1.1 d
    | .dma q => if q.val < 14 then sendPay pk g.1.1 (slotOf q) else recvPay pk g.1.1 (slotOf q)
  amount_pos g _ _ _ := by
    obtain ⟨t, q | q⟩ := g
    · exact Nat.one_pos
    · exact NC_pos

variable (pk : Fin 6 → Dev nD → S66x128.Idx → Elt F .bf16)

instance Rd_payload_storable (g : GSem nD τ sig) (r : ℕ) (d : Fin 6) : BI.Storable (upEmb : UEmb _ 𝕄) ((Rd (F := F) pk).payload g r d) := by
  obtain ⟨t, q | q⟩ := g
  · show BI.Storable upEmb (barPay t.1 d)
    unfold barPay; infer_instance
  · show BI.Storable upEmb (if q.val < 14 then sendPay pk t.1 (slotOf q) else recvPay pk t.1 (slotOf q))
    unfold sendPay recvPay
    split <;> infer_instance

section Sched
variable (c : Dev nD) (s : Fin 6)

theorem duties_bar : (Rd (F := F) pk).duties (barC c) 0 = Finset.univ := by dsimp only [Rd]; exact if_pos ⟨rfl, rfl⟩
theorem duties_send : (Rd (F := F) pk).duties (sendC c s) 0 = {0} := by
  dsimp only [Rd]; rw [if_pos ⟨rfl, rfl⟩]; exact if_pos (by show 8 ≤ 8 + s.val; omega)
theorem duties_recv : (Rd (F := F) pk).duties (recvC c s) 0 = {0} := by
  dsimp only [Rd]; rw [if_pos ⟨rfl, rfl⟩]; exact if_pos (by show 8 ≤ 14 + s.val; omega)
theorem duties_later (g : GSem nD τ sig) : ∀ r, 1 ≤ r → (Rd (F := F) pk).duties g r = ∅ :=
  fun r hr => by dsimp only [Rd]; exact if_neg fun h => by omega

theorem amount_bar (d : Fin 6) : (Rd (F := F) pk).amount (barC c) 0 d = 1 := rfl
theorem amount_send (d : Fin 6) : (Rd (F := F) pk).amount (sendC c s) 0 d = NC := rfl
theorem amount_recv (d : Fin 6) : (Rd (F := F) pk).amount (recvC c s) 0 d = NC := rfl

theorem expect_bar : (Rd (F := F) pk).expect (barC c) 0 = 6 := by
  unfold Schedule.expect Schedule.amountOf; rw [duties_bar]; rfl
theorem expect_send : (Rd (F := F) pk).expect (sendC c s) 0 = NC := by
  unfold Schedule.expect Schedule.amountOf; rw [duties_send, Finset.sum_singleton, amount_send]
theorem expect_recv : (Rd (F := F) pk).expect (recvC c s) 0 = NC := by
  unfold Schedule.expect Schedule.amountOf; rw [duties_recv, Finset.sum_singleton, amount_recv]

theorem payload_bar (d : Fin 6) : (Rd (F := F) pk).payload (barC c) 0 d = barPay c d := rfl
theorem payload_send (d : Fin 6) : (Rd (F := F) pk).payload (sendC c s) 0 d = sendPay pk c s := by
  dsimp only [Rd]; rw [if_pos (by show 8 + s.val < 14; omega), slotOf_send]
theorem payload_recv (d : Fin 6) : (Rd (F := F) pk).payload (recvC c s) 0 d = recvPay pk c s := by
  dsimp only [Rd]; rw [if_neg (by show ¬ 14 + s.val < 14; omega), slotOf_recv]

theorem rest_bar : bigSep ((Rd (F := F) pk).duties (barC c) 0 \ ∅) (fun u => (Rd (F := F) pk).payload (barC c) 0 u) = bigSep Finset.univ (barPay c) := by
  rw [Finset.sdiff_empty, duties_bar]; rfl
theorem rest_send : bigSep ((Rd (F := F) pk).duties (sendC c s) 0 \ ∅) (fun u => (Rd (F := F) pk).payload (sendC c s) 0 u) = sendPay pk c s := by
  rw [Finset.sdiff_empty, duties_send, bigSep_singleton, payload_send]
theorem rest_recv : bigSep ((Rd (F := F) pk).duties (recvC c s) 0 \ ∅) (fun u => (Rd (F := F) pk).payload (recvC c s) 0 u) = recvPay pk c s := by
  rw [Finset.sdiff_empty, duties_recv, bigSep_singleton, payload_recv]

end Sched

/-! ## What each device owes; the levels -/

/-- The receive credits device `c` owes for the slots of a list, the head's on top. -/
def owR (c : Dev nD) : List (Fin 6) → CellTallies nD τ sig Unit
  | [] => 0
  | s :: l => owR c l + tallyAt (recvC (tgt s c) s) () NC

/-- The barrier units device `c` owes for the slots of a list, the head's on top, over all receive credits. -/
def owB (c : Dev nD) : List (Fin 6) → CellTallies nD τ sig Unit
  | [] => owR c [0, 1, 2, 5, 4, 3]
  | s :: l => owB c l + tallyAt (barC (src s c)) () 1

/-- What device `c` owes at the start. -/
def O₀ (c : Dev nD) : CellTallies nD τ sig Unit := owB c [0, 1, 2, 3, 4, 5]

def L (g : GSem nD τ sig) : Finset Unit := if g.1.2 = .tc then {()} else ∅
/-- The levels: staging and send cells at 0, the barrier at 1, the first three receives at 2, the last three at 3. -/
def lv (g : GSem nD τ sig) (_ : Unit) : ℕ := match g.2 with
  | .reg _ => 1
  | .dma q => if q.val < 14 then 0 else if (slotOf q).val < 3 then 2 else 3

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 6) : lv (recvC c s) () = if s.val < 3 then 2 else 3 := by
  dsimp only [lv]; rw [if_neg (by show ¬ 14 + s.val < 14; omega), slotOf_recv]
theorem lv_low (c : Dev nD) (q : DmaSem sig) (hq : q.val < 14) : lv ((c : Thread nD τ), .dma q) () = 0 := by
  dsimp only [lv]; rw [if_pos hq]

theorem owR_pos {c : Dev nD} {l : List (Fin 6)} {g : GSem nD τ sig} {u : Unit} (h : 0 < owR c l g u) :
    ∃ s ∈ l, g = recvC (tgt s c) s := by
  induction l with
  | nil => exact absurd h (Nat.lt_irrefl 0)
  | cons s l ih =>
    unfold owR at h
    rw [Pi.add_apply, Finsupp.add_apply, tallyAt_apply] at h
    by_cases hg : g = recvC (tgt s c) s ∧ u = ()
    · exact ⟨s, List.mem_cons_self, hg.1⟩
    · rw [if_neg hg] at h
      obtain ⟨s', hs', e⟩ := ih h
      exact ⟨s', List.mem_cons_of_mem _ hs', e⟩

theorem owB_pos {c : Dev nD} {l : List (Fin 6)} {g : GSem nD τ sig} {u : Unit} (h : 0 < owB c l g u) :
    (∃ s, g = recvC (tgt s c) s) ∨ ∃ p : Dev nD, g = barC p := by
  induction l with
  | nil => obtain ⟨s, -, e⟩ := owR_pos h; exact .inl ⟨s, e⟩
  | cons s l ih =>
    unfold owB at h
    rw [Pi.add_apply, Finsupp.add_apply, tallyAt_apply] at h
    by_cases hg : g = barC (src s c) ∧ u = ()
    · exact .inr ⟨_, hg.1⟩
    · rw [if_neg hg] at h
      exact ih h

/-- A wait on a cell of level 0 is allowed whatever part of its debts the device still owes. -/
theorem mayWait_low (c : Dev nD) (q : DmaSem sig) (hq : q.val < 14) (O : CellTallies nD τ sig Unit)
    (hO : ∀ g u, 0 < O g u → (∃ s, g = recvC (tgt s c) s) ∨ ∃ p : Dev nD, g = barC p) :
    (levAts L lv : sProp 𝕄) ⊢ MayWait (c : Thread nD τ) (.dma q) () O := by
  refine MayOwe.of_cut (L := L) (lev := lv) 0 (fun p hp => by rw [Finset.mem_singleton.mp hp, L_tc]; exact Finset.mem_singleton_self _)
    (fun g u hg => by rcases hO g u hg with ⟨s, rfl⟩ | ⟨p, rfl⟩ <;> (rw [L_tc]; exact Finset.mem_singleton_self _))
    (fun p hp => by rw [Finset.mem_singleton.mp hp, lv_low c q hq])
    (fun g u hg => by
      rcases hO g u hg with ⟨s, rfl⟩ | ⟨p, rfl⟩
      · rw [lv_recv]; split <;> decide
      · exact Nat.one_pos)

theorem owR_debt (c : Dev nD) (l : List (Fin 6)) (g : GSem nD τ sig) (u : Unit) (h : 0 < owR c l g u) :
    (∃ s, g = recvC (tgt s c) s) ∨ ∃ p : Dev nD, g = barC p := by
  obtain ⟨s, -, e⟩ := owR_pos h; exact .inl ⟨s, e⟩

/-- The barrier wait is allowed while receive credits are owed. -/
theorem mayWait_bar (c : Dev nD) (l : List (Fin 6)) :
    (levAts L lv : sProp 𝕄) ⊢ MayWait (c : Thread nD τ) (.reg barS) () (owR c l) :=
  MayOwe.of_cut (L := L) (lev := lv) 1 (fun p hp => by rw [Finset.mem_singleton.mp hp, L_tc]; exact Finset.mem_singleton_self _)
    (fun g u hg => by obtain ⟨s, -, rfl⟩ := owR_pos hg; rw [L_tc]; exact Finset.mem_singleton_self _)
    (fun p hp => by rw [Finset.mem_singleton.mp hp]; exact le_rfl)
    (fun g u hg => by obtain ⟨s, -, rfl⟩ := owR_pos hg; rw [lv_recv]; split <;> decide)

/-- The receive wait of one of the first three slots is allowed while only credits of the last three are owed. -/
theorem mayWait_recv (c : Dev nD) (s : Fin 6) (hs : s.val < 3) (l : List (Fin 6)) (hl : ∀ s' ∈ l, 3 ≤ s'.val) :
    (levAts L lv : sProp 𝕄) ⊢ MayWait (c : Thread nD τ) (.dma (recvS s)) () (owR c l) :=
  MayOwe.of_cut (L := L) (lev := lv) 2 (fun p hp => by rw [Finset.mem_singleton.mp hp, L_tc]; exact Finset.mem_singleton_self _)
    (fun g u hg => by obtain ⟨s, -, rfl⟩ := owR_pos hg; rw [L_tc]; exact Finset.mem_singleton_self _)
    (fun p hp => by rw [Finset.mem_singleton.mp hp, lv_recv, if_pos hs])
    (fun g u hg => by
      obtain ⟨s', hs', rfl⟩ := owR_pos hg
      rw [lv_recv, if_neg (by have := hl s' hs'; omega)]; decide)

/-! ## The cells' invariants, of every device's cells -/

theorem barC_inj : Function.Injective (fun c : Dev nD => barC c) := fun a b h => congrArg (fun g : GSem nD τ sig => g.1.1) h

/-- A send or receive cell, by its device, its direction and its slot. -/
def xcell (x : Dev nD × Bool × Fin 6) : GSem nD τ sig := if x.2.1 then sendC x.1 x.2.2 else recvC x.1 x.2.2

theorem xcell_inj : Function.Injective xcell := by
  rintro ⟨c, b, s⟩ ⟨c', b', s'⟩ h
  have hc : c = c' := by
    have := congrArg (fun g : GSem nD τ sig => g.1.1) h
    revert this
    unfold xcell
    split <;> split <;> exact id
  subst hc
  have hq : (xcell (c, b, s)).2 = (xcell (c, b', s')).2 := congrArg (fun g : GSem nD τ sig => g.2) h
  have key : ∀ (b b' : Bool) (s s' : Fin 6), (if b then (SemLoc.dma (sendS s) : SemLoc sig) else .dma (recvS s))
      = (if b' then .dma (sendS s') else .dma (recvS s')) → b = b' ∧ s = s' := by decide +kernel
  have hq' : (if b then (SemLoc.dma (sendS s) : SemLoc sig) else .dma (recvS s))
      = (if b' then .dma (sendS s') else .dma (recvS s')) := by
    revert hq; cases b <;> cases b' <;> exact id
  obtain ⟨rfl, rfl⟩ := key b b' s s' hq'
  rfl

/-- Every device's barrier cell. -/
def barCells : Finset (GSem nD τ sig) := Finset.univ.map ⟨fun c : Dev nD => barC c, barC_inj⟩
/-- Every device's send and receive cells. -/
def dmaCells : Finset (GSem nD τ sig) := Finset.univ.map ⟨xcell, xcell_inj⟩

theorem mem_bar (c : Dev nD) : barC c ∈ barCells ∪ dmaCells :=
  Finset.mem_union_left _ (Finset.mem_map_of_mem ⟨fun c : Dev nD => barC c, barC_inj⟩ (Finset.mem_univ c))
theorem mem_send (c : Dev nD) (s : Fin 6) : sendC c s ∈ barCells ∪ dmaCells :=
  Finset.mem_union_right _ (Finset.mem_map.mpr ⟨(c, true, s), Finset.mem_univ _, rfl⟩)
theorem mem_recv (c : Dev nD) (s : Fin 6) : recvC c s ∈ barCells ∪ dmaCells :=
  Finset.mem_union_right _ (Finset.mem_map.mpr ⟨(c, false, s), Finset.mem_univ _, rfl⟩)

/-- The invariants of every exchange cell and every cell's level, at the names `K`. -/
def Ctx (K : GSem nD τ sig → ℕ) : sProp 𝕄 :=
  iprop(bigSep (barCells ∪ dmaCells) (fun g => cellInv ER (Rd pk) (K g) g) ∗ (levAts L lv : sProp 𝕄))

instance Ctx_persistent (K : GSem nD τ sig → ℕ) : BI.Persistent (Ctx (F := F) pk K) := by unfold Ctx; infer_instance

variable (K : GSem nD τ sig → ℕ)

theorem Ctx_cell {g : GSem nD τ sig} (hg : g ∈ barCells ∪ dmaCells) : Ctx (F := F) pk K ⊢ cellInv ER (Rd pk) (K g) g := by
  have h : (bigSep (barCells ∪ dmaCells) (fun g => cellInv ER (Rd pk) (K g) g) : sProp 𝕄) ⊢ cellInv ER (Rd pk) (K g) g := bigSep_elim hg
  unfold Ctx
  iintro ⟨H, -⟩
  iapply h $$ H

theorem Ctx_lev : Ctx (F := F) pk K ⊢ (levAts L lv : sProp 𝕄) := by
  unfold Ctx
  iintro ⟨-, H⟩
  iexact H

/-! ## The four steps of the protocol, by the cells' names -/

section Steps

variable (c : Dev nD) {α : Type} {W : Waits sig Unit}

/-- A barrier signal to the device that sends to `c` in slot `s`: `c` lends it that slot. -/
theorem step_signal (s : Fin 6) (n : Dev nD) (hn : n = src s c) (l : List (Fin 6)) {k : PUnit → Prog (TpuEff nD τ sig (Elt F) Λ₀ .tc) α} {Q : α → sProp 𝕄} :
    iprop(Ctx (F := F) pk K ∗ owes (c : Thread nD τ) (owB c (s :: l)) W ∗ dutyTok ER (barC (src s c)) 0 s ∗ reached ER (barC (src s c)) 0
        ∗ (∃ X, owns (c : Thread nD τ) (slotM s.succ) fullShare X) ∗ reached ER (recvC c s) 0)
      ⊢ iprop((owes (c : Thread nD τ) (owB c l) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  iintro ⟨#HC, Ho, Ht, #Hr, Hs, #Hrc⟩ Hk
  ihave #HI := (Ctx_cell (F := F) pk K (mem_bar (src s c))) $$ HC
  iapply (Rounds.wp_signal 𝒱₀ ER (Rd pk) (c : Thread nD τ) none (κ := K (barC (src s c))) (r := 0) (d := s)
    (by rw [duties_bar]; exact Finset.mem_univ _) (amount_bar pk _ _) () (owB c l) rfl) $$ [Ho Ht Hs]
  · isplitr; · iexact HI
    isplitl [Ho]; · iexact Ho
    isplitl [Ht]; · iexact Ht
    isplitl [Hs]
    · rw [payload_bar]; unfold barPay; rw [tgt_src]
      isplitl [Hs]; · iexact Hs
      iexact Hrc
    iexact Hr
  iexact Hk

/-- The barrier wait: all six peers' slots come. -/
theorem step_barrier {k : PUnit → Prog (TpuEff nD τ sig (Elt F) Λ₀ .tc) α} {Q : α → sProp 𝕄} :
    iprop(Ctx (F := F) pk K ∗ owes (c : Thread nD τ) (owB c []) W ∗ cred (tallyAt (barC c) () 6) ∗ atPos ER (barC c) 0 ∅ 0)
      ⊢ iprop(((owes (c : Thread nD τ) (owR c [0, 1, 2, 5, 4, 3]) (insert (.reg barS, ()) W) ∗ atPos ER (barC c) 1 ∅ 0
            ∗ bigSep Finset.univ (barPay (F := F) c)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 6) k) Q) := by
  have hm : Ctx (F := F) pk K ⊢ MayWait (c : Thread nD τ) (.reg barS) () (owR c [0, 1, 2, 5, 4, 3]) :=
    (Ctx_lev pk K).trans (mayWait_bar c _)
  iintro ⟨#HC, Ho, Hc, Ha⟩ Hk
  ihave #HI := (Ctx_cell (F := F) pk K (mem_bar c)) $$ HC
  iapply (Rounds.wp_wait_rest_token 𝒱₀ ER (Rd pk) (c : Thread nD τ) none (κ := K (barC c)) (sm := .reg barS) (k' := 6)
    (wpE_semWait_eq 𝒱₀ (c : Thread nD τ) none Set.univ) (Set.mem_univ _) () (O := owR c [0, 1, 2, 5, 4, 3]) (W := W) (R := 0) (m := 0) (T := ∅)
    (by rw [expect_bar])) $$ [Ho Hc Ha]
  · isplitr; · iexact HI
    isplitl [Hc]; · iexact Hc
    isplitl [Ho]; · iexact Ho
    isplitr; · iapply hm $$ HC
    iexact Ha
  iintro ⟨Ho, Ha, -, Hp⟩
  have hp := Entails.of_eq (rest_bar (F := F) pk c)
  ihave Hp := hp $$ Hp
  iapply Hk
  isplitl [Ho]; · iexact Ho
  isplitl [Ha] <;> iassumption

/-- The send of slot `s`: the packet, at the share the slot borrows, to the slot lent by the device it goes to. -/
theorem step_send (s : Fin 6) (n : Dev nD) (hn : n = tgt s c) (l : List (Fin 6))
    {hsc : (slotM s.succ : Memref sig (Dev.tc n : Thread nD τ).2.kind .vmem S66x128 .bf16).view.ref.isScScratch = false}
    {hsrc : (slotM 0).view.WordExact} {hdst : (slotM s.succ).view.WordExact}
    {hsem : DmaTarget.Typed .vmem (.dma (recvS s)) (.remote (Dev.tc n : Thread nD τ) (slotM s.succ) (.dma (sendS s)) hsc)}
    {k : PUnit → Prog (TpuEff nD τ sig (Elt F) Λ₀ .tc) α} {Q : α → sProp 𝕄} :
    iprop(Ctx (F := F) pk K ∗ owns (c : Thread nD τ) (slotM 0) (qs s) (pk s c) ∗ barPay (F := F) c s
        ∗ owes (c : Thread nD τ) (owR c (s :: l)) W
        ∗ dutyTok ER (sendC c s) 0 0 ∗ reached ER (sendC c s) 0 ∗ dutyTok ER (recvC (tgt s c) s) 0 0)
      ⊢ iprop(((cred (tallyAt (sendC c s) () NC) ∗ owes (c : Thread nD τ) (owR c l) W) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (slotM 0) (.remote (Dev.tc n : Thread nD τ) (slotM s.succ) (.dma (sendS s)) hsc) (.dma (recvS s)) hsrc hdst hsem) k) Q) := by
  subst hn
  unfold barPay
  unfold owns
  iintro ⟨#HC, ⟨%fs, %hfs, Hs⟩, ⟨⟨%X, %fd, %hfd, Hd⟩, #Hrr⟩, Ho, Ht, #Hr, Ht'⟩ Hk
  ihave #HI := (Ctx_cell (F := F) pk K (mem_send c s)) $$ HC
  ihave #HI' := (Ctx_cell (F := F) pk K (mem_recv (tgt s c) s)) $$ HC
  iapply (Rounds.wp_send_pointsTo 𝒱₀ ER (Rd pk) (c : Thread nD τ) none (κ₁ := K (sendC c s)) (κ₂ := K (recvC (tgt s c) s)) (r₁ := 0) (r₂ := 0) (d₁ := 0) (d₂ := 0)
    (c' := (Dev.tc (tgt s c) : Thread nD τ)) (src := slotM 0) (dst := slotM s.succ) (q := qs s) (fs := fs) (fd := fd)
    (by rw [duties_send]; exact Finset.mem_singleton_self _) (by rw [duties_recv]; exact Finset.mem_singleton_self _) () () NC rfl
    (amount_send pk c s 0) (amount_recv pk (tgt s c) s 0) (owR c l) rfl (W := W)
    (by
      rw [payload_send]; unfold sendPay owns
      iintro H
      iexists fs
      isplitr; · ipureintro; exact hfs
      iexact H)
    (by
      rw [payload_recv]; unfold recvPay owns
      iintro H
      iexists _
      isplitr
      swap; · iexact H
      ipureintro
      rw [src_tgt, View.read_write_univ, hfs])) $$ [Hs Hd Ho Ht Ht']
  · isplitr; · iexact HI
    isplitr; · iexact HI'
    isplitl [Hs]; · iexact Hs
    isplitl [Hd]; · iexact Hd
    isplitl [Ho]; · iexact Ho
    isplitl [Ht]; · iexact Ht
    isplitr; · iexact Hr
    isplitl [Ht']; · iexact Ht'
    iexact Hrr
  iexact Hk

/-- The wait on a send cell: the lent share of the packet comes back. -/
theorem step_wait_send (s : Fin 6) (l : List (Fin 6)) {msrc mdst : Memref sig .tc .vmem S66x128 .bf16} {hs hd}
    {k : PUnit → Prog (TpuEff nD τ sig (Elt F) Λ₀ .tc) α} {Q : α → sProp 𝕄} (hN : mdst.view.dmaCredit = NC) :
    iprop(Ctx (F := F) pk K ∗ cred (tallyAt (sendC c s) () NC) ∗ owes (c : Thread nD τ) (owR c l) W ∗ atPos ER (sendC c s) 0 ∅ 0)
      ⊢ iprop(((owes (c : Thread nD τ) (owR c l) (insert (.dma (sendS s), ()) W) ∗ atPos ER (sendC c s) 1 ∅ 0
            ∗ owns (c : Thread nD τ) (slotM 0) (qs s) (pk s c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS s) msrc mdst hs hd) k) Q) := by
  have hm : Ctx (F := F) pk K ⊢ MayWait (c : Thread nD τ) (.dma (sendS s)) () (owR c l) :=
    (Ctx_lev pk K).trans (mayWait_low c (sendS s) (by show 8 + s.val < 14; omega) _ (owR_debt c l))
  iintro ⟨#HC, Hc, Ho, Ha⟩ Hk
  ihave #HI := (Ctx_cell (F := F) pk K (mem_send c s)) $$ HC
  iapply (Rounds.wp_wait_rest_token 𝒱₀ ER (Rd pk) (c : Thread nD τ) none (κ := K (sendC c s)) (sm := .dma (sendS s)) (k' := mdst.view.dmaCredit)
    (wpE_waitDma2_eq 𝒱₀ (c : Thread nD τ) none Set.univ) (Set.mem_univ _) () (O := owR c l) (W := W) (R := 0) (m := 0) (T := ∅)
    (by rw [expect_send, hN, Nat.zero_add])) $$ [Ho Hc Ha]
  · isplitr; · iexact HI
    isplitl [Hc]; · rw [hN]; iexact Hc
    isplitl [Ho]; · iexact Ho
    isplitr; · iapply hm $$ HC
    iexact Ha
  iintro ⟨Ho, Ha, -, Hp⟩
  have hp := Entails.of_eq (rest_send (F := F) pk c s)
  ihave Hp := hp $$ Hp
  unfold sendPay
  iapply Hk
  isplitl [Ho]; · iexact Ho
  isplitl [Ha]; · iexact Ha
  iexact Hp

/-- The wait on a receive cell: the peer's packet has landed. -/
theorem step_wait_recv (s : Fin 6) (l : List (Fin 6)) (hl : (s.val < 3 ∧ ∀ s' ∈ l, 3 ≤ s'.val) ∨ l = []) {msrc mdst : Memref sig .tc .vmem S66x128 .bf16} {hs hd}
    {k : PUnit → Prog (TpuEff nD τ sig (Elt F) Λ₀ .tc) α} {Q : α → sProp 𝕄} (hN : mdst.view.dmaCredit = NC) :
    iprop(Ctx (F := F) pk K ∗ cred (tallyAt (recvC c s) () NC) ∗ owes (c : Thread nD τ) (owR c l) W ∗ atPos ER (recvC c s) 0 ∅ 0)
      ⊢ iprop(((owes (c : Thread nD τ) (owR c l) (insert (.dma (recvS s), ()) W) ∗ atPos ER (recvC c s) 1 ∅ 0
            ∗ owns (c : Thread nD τ) (slotM s.succ) fullShare (pk s (src s c))) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS s) msrc mdst hs hd) k) Q) := by
  iintro ⟨#HC, Hc, Ho, Ha⟩ Hk
  ihave #HI := (Ctx_cell (F := F) pk K (mem_recv c s)) $$ HC
  have hm : Ctx (F := F) pk K ⊢ MayWait (c : Thread nD τ) (.dma (recvS s)) () (owR c l) := by
    refine (Ctx_lev pk K).trans ?_
    rcases hl with ⟨h3, hl⟩ | rfl
    · exact mayWait_recv c s h3 l hl
    · show _ ⊢ MayWait _ _ _ 0
      rw [MayWait_zero]; iintro -; iempintro
  iapply (Rounds.wp_wait_rest_token 𝒱₀ ER (Rd pk) (c : Thread nD τ) none (κ := K (recvC c s)) (sm := .dma (recvS s)) (k' := mdst.view.dmaCredit)
    (wpE_waitDma2_eq 𝒱₀ (c : Thread nD τ) none Set.univ) (Set.mem_univ _) () (O := owR c l) (W := W) (R := 0) (m := 0) (T := ∅)
    (by rw [expect_recv, hN, Nat.zero_add])) $$ [Ho Hc Ha]
  · isplitr; · iexact HI
    isplitl [Hc]; · rw [hN]; iexact Hc
    isplitl [Ho]; · iexact Ho
    isplitr; · iapply hm $$ HC
    iexact Ha
  iintro ⟨Ho, Ha, -, Hp⟩
  have hp := Entails.of_eq (rest_recv (F := F) pk c s)
  ihave Hp := hp $$ Hp
  unfold recvPay
  iapply Hk
  isplitl [Ho]; · iexact Ho
  isplitl [Ha]; · iexact Ha
  iexact Hp

end Steps

/-! ### The steps by bundles -/

/-- The device owes the receive credits of the list's slots. -/
def Owes (c : Dev nD) (l : List (Fin 6)) : sProp 𝕄 := iprop(∃ W, owes (c : Thread nD τ) (owR c l) W)
/-- What the send of slot `s` takes, beside the packet's share. -/
def SendRes (c : Dev nD) (s : Fin 6) : sProp 𝕄 :=
  iprop(barPay (F := F) c s ∗ dutyTok ER (sendC c s) 0 0 ∗ reached ER (sendC c s) 0 ∗ dutyTok ER (recvC (tgt s c) s) 0 0 ∗ atPos ER (sendC c s) 0 ∅ 0)
/-- What the wait on the send of slot `s` takes. -/
def Ws (c : Dev nD) (s : Fin 6) : sProp 𝕄 := iprop(cred (tallyAt (sendC c s) () NC) ∗ atPos ER (sendC c s) 0 ∅ 0)
/-- What the wait on the receive of slot `s` takes. -/
def Wr (c : Dev nD) (s : Fin 6) : sProp 𝕄 := iprop(cred (tallyAt (recvC c s) () NC) ∗ atPos ER (recvC c s) 0 ∅ 0)
/-- The two cells of slot `s` after their waits. -/
def DoneS (c : Dev nD) (s : Fin 6) : sProp 𝕄 := atPos ER (sendC c s) 1 ∅ 0
def DoneR (c : Dev nD) (s : Fin 6) : sProp 𝕄 := atPos ER (recvC c s) 1 ∅ 0

/-- The device owes the barrier units of the list's slots, and every receive credit. -/
def OwesB (c : Dev nD) (l : List (Fin 6)) : sProp 𝕄 := iprop(∃ W, owes (c : Thread nD τ) (owB c l) W)
/-- What the barrier signal of slot `s` takes. -/
def SigRes (c : Dev nD) (s : Fin 6) : sProp 𝕄 :=
  iprop(dutyTok ER (barC (src s c)) 0 s ∗ reached ER (barC (src s c)) 0 ∗ (∃ X, owns (c : Thread nD τ) (slotM s.succ) fullShare X) ∗ reached ER (recvC c s) 0)
/-- What the barrier wait takes, and the cell after it. -/
def BarRes (c : Dev nD) : sProp 𝕄 := iprop(cred (tallyAt (barC c) () 6) ∗ atPos ER (barC c) 0 ∅ 0)
def DoneB (c : Dev nD) : sProp 𝕄 := atPos ER (barC c) 1 ∅ 0

section Bundles

variable (c : Dev nD) {α : Type}

theorem signal_wp (s : Fin 6) (n : Dev nD) (hn : n = src s c) (l : List (Fin 6)) {k : PUnit → Prog (TpuEff nD τ sig (Elt F) Λ₀ .tc) α} {Q : α → sProp 𝕄} :
    iprop(Ctx (F := F) pk K ∗ OwesB (F := F) c (s :: l) ∗ SigRes (F := F) c s)
      ⊢ iprop((OwesB (F := F) c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS 1) k) Q) := by
  unfold OwesB SigRes
  iintro ⟨#HC, ⟨%W, Ho⟩, Ht, #Hr, Hs, #Hr'⟩ Hk
  iapply (step_signal pk K c s n hn l) $$ [Ho Ht Hs]
  · isplitr; · iexact HC
    isplitl [Ho]; · iexact Ho
    isplitl [Ht]; · iexact Ht
    isplitr; · iexact Hr
    isplitl [Hs]; · iexact Hs
    iexact Hr'
  iintro Ho
  iapply Hk
  iexists W
  iexact Ho

theorem barrier_wp {k : PUnit → Prog (TpuEff nD τ sig (Elt F) Λ₀ .tc) α} {Q : α → sProp 𝕄} :
    iprop(Ctx (F := F) pk K ∗ OwesB (F := F) c [] ∗ BarRes (F := F) c)
      ⊢ iprop(((Owes (F := F) c [0, 1, 2, 5, 4, 3] ∗ DoneB (F := F) c ∗ bigSep Finset.univ (barPay (F := F) c)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 6) k) Q) := by
  unfold OwesB BarRes DoneB Owes
  iintro ⟨#HC, ⟨%W, Ho⟩, Hc, Ha⟩ Hk
  iapply (step_barrier pk K c) $$ [Ho Hc Ha]
  · isplitr; · iexact HC
    isplitl [Ho]; · iexact Ho
    isplitl [Hc] <;> iassumption
  iintro ⟨Ho, Ha, Hb⟩
  iapply Hk
  isplitl [Ho]; · iexists _; iexact Ho
  isplitl [Ha] <;> iassumption

theorem send_wp (s : Fin 6) (n : Dev nD) (hn : n = tgt s c) (l : List (Fin 6))
    {hsc : (slotM s.succ : Memref sig (Dev.tc n : Thread nD τ).2.kind .vmem S66x128 .bf16).view.ref.isScScratch = false}
    {hsrc : (slotM 0).view.WordExact} {hdst : (slotM s.succ).view.WordExact}
    {hsem : DmaTarget.Typed .vmem (.dma (recvS s)) (.remote (Dev.tc n : Thread nD τ) (slotM s.succ) (.dma (sendS s)) hsc)}
    {k : PUnit → Prog (TpuEff nD τ sig (Elt F) Λ₀ .tc) α} {Q : α → sProp 𝕄} :
    iprop(Ctx (F := F) pk K ∗ owns (c : Thread nD τ) (slotM 0) (qs s) (pk s c) ∗ SendRes (F := F) c s ∗ Owes (F := F) c (s :: l))
      ⊢ iprop(((Ws (F := F) c s ∗ Owes (F := F) c l) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (slotM 0) (.remote (Dev.tc n : Thread nD τ) (slotM s.succ) (.dma (sendS s)) hsc) (.dma (recvS s)) hsrc hdst hsem) k) Q) := by
  unfold SendRes Owes Ws
  iintro ⟨#HC, Hs, ⟨Hb, Ht, #Hr, Ht', Ha⟩, ⟨%W, Ho⟩⟩ Hk
  iapply (step_send pk K c s n hn l) $$ [Hs Hb Ht Ht' Ho]
  · isplitr; · iexact HC
    isplitl [Hs]; · iexact Hs
    isplitl [Hb]; · iexact Hb
    isplitl [Ho]; · iexact Ho
    isplitl [Ht]; · iexact Ht
    isplitr; · iexact Hr
    iexact Ht'
  iintro ⟨Hc, Ho⟩
  iapply Hk
  isplitl [Hc Ha]
  · isplitl [Hc] <;> iassumption
  iexists W
  iexact Ho

theorem wait_send_wp (s : Fin 6) (l : List (Fin 6)) {msrc mdst : Memref sig .tc .vmem S66x128 .bf16} {hs hd}
    {k : PUnit → Prog (TpuEff nD τ sig (Elt F) Λ₀ .tc) α} {Q : α → sProp 𝕄} (hN : mdst.view.dmaCredit = NC) :
    iprop(Ctx (F := F) pk K ∗ Ws (F := F) c s ∗ Owes (F := F) c l)
      ⊢ iprop(((Owes (F := F) c l ∗ DoneS (F := F) c s ∗ owns (c : Thread nD τ) (slotM 0) (qs s) (pk s c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS s) msrc mdst hs hd) k) Q) := by
  unfold Owes Ws DoneS
  iintro ⟨#HC, ⟨Hc, Ha⟩, ⟨%W, Ho⟩⟩ Hk
  iapply (step_wait_send pk K c s l hN) $$ [Hc Ha Ho]
  · isplitr; · iexact HC
    isplitl [Hc]; · iexact Hc
    isplitl [Ho]; · iexact Ho
    iexact Ha
  iintro ⟨Ho, Ha, Hs⟩
  iapply Hk
  isplitl [Ho]; · iexists _; iexact Ho
  isplitl [Ha]; · iexact Ha
  iexact Hs

theorem wait_recv_wp (s : Fin 6) (k' : Fin 7) (hk' : s.succ = k') (l : List (Fin 6)) (hl : (s.val < 3 ∧ ∀ s' ∈ l, 3 ≤ s'.val) ∨ l = []) {msrc mdst : Memref sig .tc .vmem S66x128 .bf16} {hs hd}
    {k : PUnit → Prog (TpuEff nD τ sig (Elt F) Λ₀ .tc) α} {Q : α → sProp 𝕄} (hN : mdst.view.dmaCredit = NC) :
    iprop(Ctx (F := F) pk K ∗ Wr (F := F) c s ∗ Owes (F := F) c l)
      ⊢ iprop(((Owes (F := F) c l ∗ DoneR (F := F) c s ∗ owns (c : Thread nD τ) (slotM k') fullShare (pk s (src s c))) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS s) msrc mdst hs hd) k) Q) := by
  subst hk'
  unfold Owes Wr DoneR
  iintro ⟨#HC, ⟨Hc, Ha⟩, ⟨%W, Ho⟩⟩ Hk
  iapply (step_wait_recv pk K c s l hl hN) $$ [Hc Ha Ho]
  · isplitr; · iexact HC
    isplitl [Hc]; · iexact Hc
    isplitl [Ho]; · iexact Ho
    iexact Ha
  iintro ⟨Ho, Ha, Hs⟩
  iapply Hk
  isplitl [Ho]; · iexists _; iexact Ho
  isplitl [Ha]; · iexact Ha
  iexact Hs

end Bundles

end Cert.Paged
-- ==== Proof.Parts.lean ====
/-
# The body's parts

One theorem per part of the kernel's body: from what the device holds, the part runs and leaves what it leaves.
-/
module

public import proofs.«01_k».proof.Proof.Sched

@[expose] public section

set_option maxRecDepth 16000

noncomputable section

namespace Cert.Paged

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The running state and its packet -/

/-- The accumulated values, the running maxima, the running sums. -/
abbrev St (F : FTy → Type) : Type := (S64x128.Idx → Elt F .f32) × (S64x1.Idx → Elt F .f32) × (S64x1.Idx → Elt F .f32)

/-- The packet of a state: the values in rows 0 to 63, the maxima in row 64, the sums in row 65, all rounded. -/
def stage (st : St F) : S66x128.Idx → Elt F .bf16 := fun i =>
  if (i 0).val < 64 then k0_pay9 st.1 (ix3 (0 : Fin 1) ⟨(i 0).val % 64, Nat.mod_lt _ (by decide)⟩ ⟨(i 1).val, (i 1).isLt⟩)
  else if (i 0).val = 64 then k0_pay10 st.2.1 (ix3 (0 : Fin 1) (0 : Fin 1) ⟨(i 1).val, (i 1).isLt⟩)
  else k0_pay11 st.2.2 (ix3 (0 : Fin 1) (0 : Fin 1) ⟨(i 1).val, (i 1).isLt⟩)

/-- The values of a packet. -/
abbrev pV (X : S66x128.Idx → Elt F .bf16) : (⟨3, ![1, 64, 128]⟩ : Shape).Idx → Elt F .bf16 := packetRows X 0 64 128 (by decide) (by decide)
/-- The maxima of a packet. -/
abbrev pM (X : S66x128.Idx → Elt F .bf16) : (⟨3, ![1, 1, 64]⟩ : Shape).Idx → Elt F .bf16 := packetRows X 64 1 64 (by decide) (by decide)
/-- The sums of a packet. -/
abbrev pL (X : S66x128.Idx → Elt F .bf16) : (⟨3, ![1, 1, 64]⟩ : Shape).Idx → Elt F .bf16 := packetRows X 65 1 64 (by decide) (by decide)

/-- A state with a packet merged in. -/
def merge (st : St F) (X : S66x128.Idx → Elt F .bf16) : St F :=
  (k0_pay19 (k0_pay12 (pV X)) (k0_pay13 (pM X)) st.2.1 st.1, k0_pay17 (k0_pay13 (pM X)) st.2.1,
    k0_pay18 (k0_pay13 (pM X)) (pL X) st.2.1 st.2.2)

abbrev accM : Memref sig .tc .vmem S64x128 .f32 := Memref.whole cc0_scratch0
abbrev mM : Memref sig .tc .vmem S64x1 .f32 := Memref.whole cc0_scratch1
abbrev lM : Memref sig .tc .vmem S64x1 .f32 := Memref.whole cc0_scratch2
abbrev qM : Memref sig .tc .vmem S64x1024 .f32 := Memref.whole cc0_scratch3

/-- The device holds the running state. -/
def Scr (c : Dev nD) (st : St F) : sProp 𝕄 :=
  iprop(owns (c : Thread nD τ) accM fullShare st.1 ∗ owns (c : Thread nD τ) mM fullShare st.2.1 ∗ owns (c : Thread nD τ) lM fullShare st.2.2)

/-- One row of a two-row block replaced: that row is the new one. -/
theorem updateSlice_row {α : Type} (x : S1x2x128.Idx → α) (u : S1x1x128.Idx → α) (p : ℕ) (h : S1x2x128.Slices ![0, p, 0] S1x1x128) (r : Fin 2) (hr : r.val = p) (z : Fin 128) :
    updateSlice x u ![0, p, 0] h (ix3 (0 : Fin 1) r z) = u (ix3 (0 : Fin 1) (0 : Fin 1) z) := by
  unfold updateSlice
  rw [dif_pos (by
    intro a
    match a with
    | ⟨0, _⟩ => exact ⟨Nat.le_refl 0, Nat.one_pos⟩
    | ⟨1, _⟩ => exact ⟨by show p ≤ r.val; omega, by show r.val < p + 1; omega⟩
    | ⟨2, _⟩ => exact ⟨Nat.zero_le _, by show z.val < 0 + 128; have : z.val < 128 := z.isLt; omega⟩)]
  congr 1
  funext a
  refine Fin.ext ?_
  match a with
  | ⟨0, _⟩ => rfl
  | ⟨1, _⟩ => show r.val - p = 0; omega
  | ⟨2, _⟩ => rfl

/-- One row of a two-row block replaced: the other row stays. -/
theorem updateSlice_row_other {α : Type} (x : S1x2x128.Idx → α) (u : S1x1x128.Idx → α) (p : ℕ) (h : S1x2x128.Slices ![0, p, 0] S1x1x128) (r : Fin 2) (hr : r.val ≠ p) (z : Fin 128) :
    updateSlice x u ![0, p, 0] h (ix3 (0 : Fin 1) r z) = x (ix3 (0 : Fin 1) r z) := by
  unfold updateSlice
  rw [dif_neg (fun ha => by
    have h1 : p ≤ r.val := (ha 1).1
    have h2 : r.val < p + 1 := (ha 1).2
    omega)]

/-- The two rows after row 63, replaced: at either row. -/
theorem putRows_pair {α : Type} (Y : S66x128.Idx → α) (w : S1x2x128.Idx → α) (r : Fin 2) (z : Fin 128) :
    putRows Y 64 2 w (ix2 (⟨64 + r.val, by have := r.isLt; omega⟩ : Fin 66) z) = w (ix3 (0 : Fin 1) r z) := by
  have hr := r.isLt
  unfold putRows
  rw [dif_pos (by show 64 ≤ 64 + r.val ∧ 64 + r.val < 64 + 2; omega)]
  congr 1
  funext a
  refine Fin.ext ?_
  match a with
  | ⟨0, _⟩ => rfl
  | ⟨1, _⟩ => show 64 + r.val - 64 = r.val; omega
  | ⟨2, _⟩ => rfl

/-- Overwriting all rows of slot 0 by the state's packet, in the kernel's order: whatever the slot held. -/
theorem stage_eq (st : St F) (X : S66x128.Idx → Elt F .bf16) :
    putRows (putRows (putRows X 0 64 (k0_pay9 st.1)) 64 2
        (updateSlice (packetRows (putRows X 0 64 (k0_pay9 st.1)) 64 2 128 (by decide) (by decide)) (k0_pay10 st.2.1) ![0, 0, 0] slices_S1x2x128_S1x1x128_0_0_0)) 64 2
      (updateSlice (packetRows (putRows (putRows X 0 64 (k0_pay9 st.1)) 64 2
        (updateSlice (packetRows (putRows X 0 64 (k0_pay9 st.1)) 64 2 128 (by decide) (by decide)) (k0_pay10 st.2.1) ![0, 0, 0] slices_S1x2x128_S1x1x128_0_0_0)) 64 2 128 (by decide) (by decide))
        (k0_pay11 st.2.2) ![0, 1, 0] slices_S1x2x128_S1x1x128_0_1_0)
      = stage st := by
  funext i
  obtain ⟨y, z, rfl⟩ : ∃ y z, i = ix2 y z := ⟨i 0, i 1, eq_ix2 i⟩
  have hz : z.val < 128 := z.isLt
  by_cases h0 : y.val < 64
  · have e : ∀ (Y : S66x128.Idx → Elt F .bf16) w, putRows Y 64 2 w (ix2 y z) = Y (ix2 y z) := fun Y w => by
      unfold putRows; exact dif_neg (by show ¬ (64 ≤ y.val ∧ _); omega)
    rw [e, e]
    unfold putRows stage
    rw [dif_pos (by show 0 ≤ y.val ∧ y.val < 0 + 64; omega), if_pos (by exact h0)]
    congr 1
    funext x
    refine Fin.ext ?_
    match x with
    | ⟨0, _⟩ => rfl
    | ⟨1, _⟩ => show y.val - 0 = y.val % 64; omega
    | ⟨2, _⟩ => rfl
  by_cases h1 : y.val = 64
  · obtain rfl : y = (⟨64 + (0 : Fin 2).val, by decide⟩ : Fin 66) := Fin.ext h1
    rw [putRows_pair, updateSlice_row_other _ _ _ _ _ (by decide)]
    show putRows _ 64 2 _ (ix2 (⟨64 + (0 : Fin 2).val, by decide⟩ : Fin 66) z) = _
    rw [putRows_pair, updateSlice_row _ _ _ _ _ (by decide)]
    rfl
  · obtain rfl : y = (⟨64 + (1 : Fin 2).val, by decide⟩ : Fin 66) := Fin.ext (by have := y.isLt; show y.val = 65; change y.val < 66 at this; omega)
    rw [putRows_pair, updateSlice_row _ _ _ _ _ (by decide)]
    rfl

/-- Six resources, one by one. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The devices the kernel names -/

theorem dev1_eq (c : Dev nD) {h : k0_dev1 c < nD} : (⟨k0_dev1 c, h⟩ : Dev nD) = src 0 c :=
  Fin.ext ((by decide +kernel : ∀ c : Dev nD, k0_dev1 c = (src 0 c).val) c)
theorem dev2_eq (c : Dev nD) {h : k0_dev2 c < nD} : (⟨k0_dev2 c, h⟩ : Dev nD) = src 1 c :=
  Fin.ext ((by decide +kernel : ∀ c : Dev nD, k0_dev2 c = (src 1 c).val) c)
theorem dev3_eq (c : Dev nD) {h : k0_dev3 c < nD} : (⟨k0_dev3 c, h⟩ : Dev nD) = src 2 c :=
  Fin.ext ((by decide +kernel : ∀ c : Dev nD, k0_dev3 c = (src 2 c).val) c)
theorem dev4_eq (c : Dev nD) {h : k0_dev4 c < nD} : (⟨k0_dev4 c, h⟩ : Dev nD) = src 3 c :=
  Fin.ext ((by decide +kernel : ∀ c : Dev nD, k0_dev4 c = (src 3 c).val) c)
theorem dev5_eq (c : Dev nD) {h : k0_dev5 c < nD} : (⟨k0_dev5 c, h⟩ : Dev nD) = src 4 c :=
  Fin.ext ((by decide +kernel : ∀ c : Dev nD, k0_dev5 c = (src 4 c).val) c)
theorem dev6_eq (c : Dev nD) {h : k0_dev6 c < nD} : (⟨k0_dev6 c, h⟩ : Dev nD) = src 5 c :=
  Fin.ext ((by decide +kernel : ∀ c : Dev nD, k0_dev6 c = (src 5 c).val) c)
theorem dev7_eq (c : Dev nD) {h : k0_dev7 c < nD} : (⟨k0_dev7 c, h⟩ : Dev nD) = tgt 0 c :=
  Fin.ext ((by decide +kernel : ∀ c : Dev nD, k0_dev7 c = (tgt 0 c).val) c)
theorem dev8_eq (c : Dev nD) {h : k0_dev8 c < nD} : (⟨k0_dev8 c, h⟩ : Dev nD) = tgt 1 c :=
  Fin.ext ((by decide +kernel : ∀ c : Dev nD, k0_dev8 c = (tgt 1 c).val) c)
theorem dev9_eq (c : Dev nD) {h : k0_dev9 c < nD} : (⟨k0_dev9 c, h⟩ : Dev nD) = tgt 2 c :=
  Fin.ext ((by decide +kernel : ∀ c : Dev nD, k0_dev9 c = (tgt 2 c).val) c)
theorem dev10_eq (c : Dev nD) {h : k0_dev10 c < nD} : (⟨k0_dev10 c, h⟩ : Dev nD) = tgt 5 c :=
  Fin.ext ((by decide +kernel : ∀ c : Dev nD, k0_dev10 c = (tgt 5 c).val) c)
theorem dev11_eq (c : Dev nD) {h : k0_dev11 c < nD} : (⟨k0_dev11 c, h⟩ : Dev nD) = tgt 4 c :=
  Fin.ext ((by decide +kernel : ∀ c : Dev nD, k0_dev11 c = (tgt 4 c).val) c)
theorem dev12_eq (c : Dev nD) {h : k0_dev12 c < nD} : (⟨k0_dev12 c, h⟩ : Dev nD) = tgt 3 c :=
  Fin.ext ((by decide +kernel : ∀ c : Dev nD, k0_dev12 c = (tgt 3 c).val) c)

section Parts

variable (i : grid0.Coords) (arg1 : Memref sig .tc .smem S1 .i32) (harg1 : arg1.IsWhole) (arg2 : Memref sig .tc .vmem S8x1x8x128 .bf16) (harg2 : arg2.IsWhole)
  (arg3 : Memref sig .tc .vmem S32x16x8x128 .bf16) (harg3 : arg3.IsWhole) (arg4 : Memref sig .tc .vmem S32x16x8x128 .bf16) (harg4 : arg4.IsWhole)
  (arg5 : Memref sig .tc .vmem S8x512 .f32) (harg5 : arg5.IsWhole) (arg6 : Memref sig .tc .vmem S8x1x8x128 .f32) (harg6 : arg6.IsWhole)
  (hA : (accM : Memref sig .tc .vmem S64x128 .f32).IsWhole) (hM : (mM : Memref sig .tc .vmem S64x1 .f32).IsWhole)
  (hL : (lM : Memref sig .tc .vmem S64x1 .f32).IsWhole) (hQ : (qM : Memref sig .tc .vmem S64x1024 .f32).IsWhole) (hC : (commM : Memref sig .tc .vmem S7x66x128 .bf16).IsWhole)
  (c : Dev nD)

/-- The first staging: the state's packet in slot 0. -/
theorem part3_wp (v5 v8 v9 : BitVec 32) (st : St F) {Q : PUnit → sProp 𝕄} :
    iprop(Scr c st ∗ (∃ X, owns (c : Thread nD τ) (slotM 0) fullShare X)
        ∗ ((Scr c st ∗ owns (c : Thread nD τ) (slotM 0) fullShare (stage st)) -∗ Q ⟨⟩))
      ⊢ wp frame (wpE (defs₀ (F := F)) 𝒱₀ (c : Thread nD τ) none) Set.univ (k0_part3 (F := F) i arg1 harg1 arg2 harg2 arg3 harg3 arg4 harg4 arg5 harg5 arg6 harg6 accM hA mM hM lM hL qM hQ commM hC cc0_scratch5 cc0_scratch6 v5 v8 v9) Q := by
  simp only [k0_part3_eq_skeleton]; unfold k0_part3_skel
  simp only [storeSubelements, Prog.lift, Prog.bind_op, Prog.bind_ret, Prog.pure_eq_ret]
  unfold Scr
  iintro ⟨⟨Ha, Hm, Hl⟩, ⟨%X, Hs⟩, Hk⟩
  iapply (wp_load_full (c := (c : Thread nD τ)) (m := accM)) $$ Ha
  iintro Ha
  iapply (wp_load_slot c 0 0 64 128 (by decide) (by decide)) $$ Hs
  iintro Hs
  iapply (wp_store_slot c 0 0 64) $$ Hs
  iintro Hs
  iapply (wp_load_full (c := (c : Thread nD τ)) (m := mM)) $$ Hm
  iintro Hm
  iapply (wp_load_slot c 0 64 1 128 (by decide) (by decide)) $$ Hs
  iintro Hs
  iapply (wp_load_slot c 0 64 2 128 (by decide) (by decide)) $$ Hs
  iintro Hs
  iapply (wp_store_slot c 0 64 2) $$ Hs
  iintro Hs
  iapply (wp_load_full (c := (c : Thread nD τ)) (m := lM)) $$ Hl
  iintro Hl
  iapply (wp_load_slot c 0 65 1 128 (by decide) (by decide)) $$ Hs
  iintro Hs
  iapply (wp_load_slot c 0 64 2 128 (by decide) (by decide)) $$ Hs
  iintro Hs
  iapply (wp_store_slot c 0 64 2) $$ Hs
  iintro Hs
  rw [wp_ret]
  imodintro
  iapply Hk
  isplitl [Ha Hm Hl]
  · isplitl [Ha]; · iexact Ha
    isplitl [Hm] <;> iassumption
  rw [← stage_eq st X]
  iexact Hs

variable (pk : Fin 6 → Dev nD → S66x128.Idx → Elt F .bf16) (K : GSem nD τ sig → ℕ)

/-- The first two sends of the first exchange. -/
theorem part4_wp (v2 v8 v10 v11 v12 : BitVec 32) (h2 : k0_cond2 i = 1#1) {Q : PUnit → sProp 𝕄} :
    iprop(Ctx (F := F) pk K ∗ owns (c : Thread nD τ) (slotM 0) (qs 0) (pk 0 c) ∗ owns (c : Thread nD τ) (slotM 0) (qs 1) (pk 1 c)
        ∗ SendRes (F := F) c 0 ∗ SendRes (F := F) c 1 ∗ Owes (F := F) c [0, 1, 2, 5, 4, 3]
        ∗ ((Ws (F := F) c 0 ∗ Ws (F := F) c 1 ∗ Owes (F := F) c [2, 5, 4, 3]) -∗ Q ⟨⟩))
      ⊢ wp frame (wpE (defs₀ (F := F)) 𝒱₀ (c : Thread nD τ) none) Set.univ (k0_part4 (F := F) i arg1 harg1 arg2 harg2 arg3 harg3 arg4 harg4 arg5 harg5 arg6 harg6 accM hA mM hM lM hL qM hQ commM hC cc0_scratch5 cc0_scratch6 c v2 v8 v10 v11 v12 h2) Q := by
  simp only [k0_part4_eq_skeleton]; unfold k0_part4_skel
  simp only [Prog.lift, Prog.bind_op, Prog.bind_ret, Prog.pure_eq_ret]
  iintro ⟨#HC, H0, H1, S0, S1, Ho, Hk⟩
  iapply (send_wp pk K c 0 _ (dev7_eq c) [1, 2, 5, 4, 3]) $$ [H0 S0 Ho]
  · isplitr; · iexact HC
    isplitl [H0]; · iexact H0
    isplitl [S0] <;> iassumption
  iintro ⟨W0, Ho⟩
  iapply (send_wp pk K c 1 _ (dev8_eq c) [2, 5, 4, 3]) $$ [H1 S1 Ho]
  · isplitr; · iexact HC
    isplitl [H1]; · iexact H1
    isplitl [S1] <;> iassumption
  iintro ⟨W1, Ho⟩
  rw [wp_ret]
  imodintro
  iapply Hk
  isplitl [W0]; · iexact W0
  isplitl [W1] <;> iassumption

/-- The third send, the first packet's arrival. -/
theorem part5_wp (v5 v8 v9 : BitVec 32) (h2 : k0_cond2 i = 1#1) {Q : _ → sProp 𝕄} :
    iprop(Ctx (F := F) pk K ∗ owns (c : Thread nD τ) (slotM 0) (qs 2) (pk 2 c) ∗ SendRes (F := F) c 2 ∗ Owes (F := F) c [2, 5, 4, 3]
        ∗ Ws (F := F) c 0 ∗ Wr (F := F) c 0
        ∗ ((Ws (F := F) c 2 ∗ Owes (F := F) c [5, 4, 3] ∗ DoneS (F := F) c 0 ∗ owns (c : Thread nD τ) (slotM 0) (qs 0) (pk 0 c) ∗ DoneR (F := F) c 0
            ∗ owns (c : Thread nD τ) (slotM 1) fullShare (pk 0 (src 0 c)))
          -∗ Q ⟨k0_pay12 (pV (pk 0 (src 0 c))), k0_pay13 (pM (pk 0 (src 0 c))), pL (pk 0 (src 0 c))⟩))
      ⊢ wp frame (wpE (defs₀ (F := F)) 𝒱₀ (c : Thread nD τ) none) Set.univ (k0_part5 (F := F) i arg1 harg1 arg2 harg2 arg3 harg3 arg4 harg4 arg5 harg5 arg6 harg6 accM hA mM hM lM hL qM hQ commM hC cc0_scratch5 cc0_scratch6 c v5 v8 v9 h2) Q := by
  simp only [k0_part5_eq_skeleton]; unfold k0_part5_skel
  simp only [Prog.lift, Prog.bind_op, Prog.bind_ret, Prog.pure_eq_ret]
  iintro ⟨#HC, H0, S0, Ho, W0, R0, Hk⟩
  iapply (send_wp pk K c 2 _ (dev9_eq c) [5, 4, 3]) $$ [H0 S0 Ho]
  · isplitr; · iexact HC
    isplitl [H0]; · iexact H0
    isplitl [S0] <;> iassumption
  iintro ⟨W2, Ho⟩
  iapply (wait_send_wp pk K c 0 [5, 4, 3] (msrc := slotM 1) (mdst := slotM 0) rfl) $$ [W0 Ho]
  · isplitr; · iexact HC
    isplitl [W0] <;> iassumption
  iintro ⟨Ho, D0, B0⟩
  iapply (wait_recv_wp pk K c 0 1 rfl [5, 4, 3] (.inl (by decide)) (msrc := slotM 0) (mdst := slotM 1) rfl) $$ [R0 Ho]
  · isplitr; · iexact HC
    isplitl [R0] <;> iassumption
  iintro ⟨Ho, D1, Hs⟩
  iapply (wp_load_slot c 1 0 64 128 (by decide) (by decide)) $$ Hs
  iintro Hs
  iapply (wp_load_slot c 1 64 1 64 (by decide) (by decide)) $$ Hs
  iintro Hs
  iapply (wp_load_slot c 1 65 1 64 (by decide) (by decide)) $$ Hs
  iintro Hs
  rw [wp_ret]
  imodintro
  iapply Hk
  isplitl [W2]; · iexact W2
  isplitl [Ho]; · iexact Ho
  isplitl [D0]; · iexact D0
  isplitl [B0]; · iexact B0
  isplitl [D1]; · iexact D1
  iexact Hs

/-- The first merge; the second send's packet is back. -/
theorem part6_wp (st : St F) (X : S66x128.Idx → Elt F .bf16) {Q : PUnit → sProp 𝕄} :
    iprop(Ctx (F := F) pk K ∗ Scr c st ∗ Owes (F := F) c [5, 4, 3] ∗ Ws (F := F) c 1
        ∗ ((Scr c (merge st X) ∗ Owes (F := F) c [5, 4, 3] ∗ DoneS (F := F) c 1 ∗ owns (c : Thread nD τ) (slotM 0) (qs 1) (pk 1 c)) -∗ Q ⟨⟩))
      ⊢ wp frame (wpE (defs₀ (F := F)) 𝒱₀ (c : Thread nD τ) none) Set.univ (k0_part6 (F := F) i arg1 harg1 arg2 harg2 arg3 harg3 arg4 harg4 arg5 harg5 arg6 harg6 accM hA mM hM lM hL qM hQ commM hC cc0_scratch5 cc0_scratch6 (k0_pay12 (pV X)) (k0_pay13 (pM X)) (pL X)) Q := by
  simp only [k0_part6_eq_skeleton]; unfold k0_part6_skel
  simp only [storeSubelements, semSignalWord, semWaitWord, Prog.lift, Prog.bind_op, Prog.bind_ret, Prog.pure_eq_ret]
  unfold Scr
  iintro ⟨#HC, ⟨Ha, Hm, Hl⟩, Ho, W, Hk⟩
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  iapply (wp_load_full (c := (c : Thread nD τ)) (m := accM)) $$ Ha; iintro Ha
  iapply (wp_store_full (c := (c : Thread nD τ)) (m := accM)) $$ Ha; iintro Ha
  iapply (wait_send_wp pk K c 1 [5, 4, 3] (msrc := slotM 2) (mdst := slotM 0) rfl) $$ [W Ho]
  · isplitr; · iexact HC
    isplitl [W] <;> iassumption
  iintro ⟨Ho, D, B⟩
  rw [wp_ret]; imodintro
  iapply Hk
  isplitl [Ha Hm Hl]
  · isplitl [Ha]; · iexact Ha
    isplitl [Hm]; · iexact Hm
    iexact Hl
  isplitl [Ho]; · iexact Ho
  isplitl [D]; · iexact D
  iexact B

/-- The second packet's arrival. -/
theorem part7_wp (v2 v8 v10 : BitVec 32) (st : St F) {Q : _ → sProp 𝕄} :
    iprop(Ctx (F := F) pk K ∗ Scr c st ∗ Owes (F := F) c [5, 4, 3] ∗ Wr (F := F) c 1
        ∗ ((Scr c st ∗ Owes (F := F) c [5, 4, 3] ∗ DoneR (F := F) c 1 ∗ owns (c : Thread nD τ) (slotM 2) fullShare (pk 1 (src 1 c))) -∗ Q ⟨k0_pay20 (pV (pk 1 (src 1 c))), k0_pay22 (pL (pk 1 (src 1 c))), st.2.2, st.1, k0_pay23 (pM (pk 1 (src 1 c))) st.2.1, k0_pay24 (pM (pk 1 (src 1 c))) st.2.1, k0_pay25 (pM (pk 1 (src 1 c))) st.2.1⟩))
      ⊢ wp frame (wpE (defs₀ (F := F)) 𝒱₀ (c : Thread nD τ) none) Set.univ (k0_part7 (F := F) i arg1 harg1 arg2 harg2 arg3 harg3 arg4 harg4 arg5 harg5 arg6 harg6 accM hA mM hM lM hL qM hQ commM hC cc0_scratch5 cc0_scratch6 v2 v8 v10) Q := by
  simp only [k0_part7_eq_skeleton]; unfold k0_part7_skel
  simp only [storeSubelements, semSignalWord, semWaitWord, Prog.lift, Prog.bind_op, Prog.bind_ret, Prog.pure_eq_ret]
  unfold Scr
  iintro ⟨#HC, ⟨Ha, Hm, Hl⟩, Ho, R, Hk⟩
  iapply (wait_recv_wp pk K c 1 2 rfl [5, 4, 3] (.inl (by decide)) (msrc := slotM 0) (mdst := slotM 2) rfl) $$ [R Ho]
  · isplitr; · iexact HC
    isplitl [R] <;> iassumption
  iintro ⟨Ho, D', Hs⟩
  iapply (wp_load_slot c 2 0 64 128 (by decide) (by decide)) $$ Hs; iintro Hs
  iapply (wp_load_slot c 2 64 1 64 (by decide) (by decide)) $$ Hs; iintro Hs
  iapply (wp_load_slot c 2 65 1 64 (by decide) (by decide)) $$ Hs; iintro Hs
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  rw [wp_ret]; imodintro
  iapply Hk
  isplitl [Ha Hm Hl]
  · isplitl [Ha]; · iexact Ha
    isplitl [Hm]; · iexact Hm
    iexact Hl
  isplitl [Ho]; · iexact Ho
  isplitl [D']; · iexact D'
  iexact Hs

/-- The second merge; the third send's packet is back. -/
theorem part8_wp (v8 v11 v12 : BitVec 32) (st : St F) (X : S66x128.Idx → Elt F .bf16) {Q : PUnit → sProp 𝕄} :
    iprop(Ctx (F := F) pk K ∗ Scr c st ∗ Owes (F := F) c [5, 4, 3] ∗ Ws (F := F) c 2
        ∗ ((Scr c (merge st X) ∗ Owes (F := F) c [5, 4, 3] ∗ DoneS (F := F) c 2 ∗ owns (c : Thread nD τ) (slotM 0) (qs 2) (pk 2 c)) -∗ Q ⟨⟩))
      ⊢ wp frame (wpE (defs₀ (F := F)) 𝒱₀ (c : Thread nD τ) none) Set.univ (k0_part8 (F := F) i arg1 harg1 arg2 harg2 arg3 harg3 arg4 harg4 arg5 harg5 arg6 harg6 accM hA mM hM lM hL qM hQ commM hC cc0_scratch5 cc0_scratch6 v8 v11 v12 (k0_pay20 (pV X)) (k0_pay22 (pL X)) st.2.2 st.1 (k0_pay23 (pM X) st.2.1) (k0_pay24 (pM X) st.2.1) (k0_pay25 (pM X) st.2.1)) Q := by
  simp only [k0_part8_eq_skeleton]; unfold k0_part8_skel
  simp only [storeSubelements, semSignalWord, semWaitWord, Prog.lift, Prog.bind_op, Prog.bind_ret, Prog.pure_eq_ret]
  unfold Scr
  iintro ⟨#HC, ⟨Ha, Hm, Hl⟩, Ho, W, Hk⟩
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  iapply (wp_load_full (c := (c : Thread nD τ)) (m := accM)) $$ Ha; iintro Ha
  iapply (wp_store_full (c := (c : Thread nD τ)) (m := accM)) $$ Ha; iintro Ha
  iapply (wait_send_wp pk K c 2 [5, 4, 3] (msrc := slotM 3) (mdst := slotM 0) rfl) $$ [W Ho]
  · isplitr; · iexact HC
    isplitl [W] <;> iassumption
  iintro ⟨Ho, D, B⟩
  rw [wp_ret]; imodintro
  iapply Hk
  isplitl [Ha Hm Hl]
  · isplitl [Ha]; · iexact Ha
    isplitl [Hm]; · iexact Hm
    iexact Hl
  isplitl [Ho]; · iexact Ho
  isplitl [D]; · iexact D
  iexact B

/-- The third packet's arrival and the third merge, all but the accumulated values. -/
theorem part9_wp (st : St F) {Q : _ → sProp 𝕄} :
    iprop(Ctx (F := F) pk K ∗ Scr c st ∗ Owes (F := F) c [5, 4, 3] ∗ Wr (F := F) c 2
        ∗ ((Scr c (st.1, (merge st (pk 2 (src 2 c))).2) ∗ Owes (F := F) c [5, 4, 3] ∗ DoneR (F := F) c 2 ∗ owns (c : Thread nD τ) (slotM 3) fullShare (pk 2 (src 2 c))) -∗ Q (k0_pay35 (pV (pk 2 (src 2 c))) (pM (pk 2 (src 2 c))) st.2.1 st.1)))
      ⊢ wp frame (wpE (defs₀ (F := F)) 𝒱₀ (c : Thread nD τ) none) Set.univ (k0_part9 (F := F) i arg1 harg1 arg2 harg2 arg3 harg3 arg4 harg4 arg5 harg5 arg6 harg6 accM hA mM hM lM hL qM hQ commM hC cc0_scratch5 cc0_scratch6) Q := by
  simp only [k0_part9_eq_skeleton]; unfold k0_part9_skel
  simp only [storeSubelements, semSignalWord, semWaitWord, Prog.lift, Prog.bind_op, Prog.bind_ret, Prog.pure_eq_ret]
  unfold Scr
  iintro ⟨#HC, ⟨Ha, Hm, Hl⟩, Ho, R, Hk⟩
  iapply (wait_recv_wp pk K c 2 3 rfl [5, 4, 3] (.inl (by decide)) (msrc := slotM 0) (mdst := slotM 3) rfl) $$ [R Ho]
  · isplitr; · iexact HC
    isplitl [R] <;> iassumption
  iintro ⟨Ho, D', Hs⟩
  iapply (wp_load_slot c 3 0 64 128 (by decide) (by decide)) $$ Hs; iintro Hs
  iapply (wp_load_slot c 3 64 1 64 (by decide) (by decide)) $$ Hs; iintro Hs
  iapply (wp_load_slot c 3 65 1 64 (by decide) (by decide)) $$ Hs; iintro Hs
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  rw [wp_ret]; imodintro
  iapply Hk
  isplitl [Ha Hm Hl]
  · isplitl [Ha]; · iexact Ha
    isplitl [Hm]; · iexact Hm
    iexact Hl
  isplitl [Ho]; · iexact Ho
  isplitl [D']; · iexact D'
  iexact Hs

/-- The third merge's accumulated values, and the second staging. -/
theorem part10_wp (v2 v5 v23 : BitVec 32) (v348 : FVec F S64x128 .f32) (st : St F) (hv : k0_pay36 v348 = st.1) {Q : PUnit → sProp 𝕄} :
    iprop((∃ A, Scr c (A, st.2)) ∗ (∃ X, owns (c : Thread nD τ) (slotM 0) fullShare X)
        ∗ ((Scr c st ∗ owns (c : Thread nD τ) (slotM 0) fullShare (stage st)) -∗ Q ⟨⟩))
      ⊢ wp frame (wpE (defs₀ (F := F)) 𝒱₀ (c : Thread nD τ) none) Set.univ (k0_part10 (F := F) i arg1 harg1 arg2 harg2 arg3 harg3 arg4 harg4 arg5 harg5 arg6 harg6 accM hA mM hM lM hL qM hQ commM hC cc0_scratch5 cc0_scratch6 v2 v5 v23 v348) Q := by
  simp only [k0_part10_eq_skeleton]; unfold k0_part10_skel
  simp only [storeSubelements, semSignalWord, semWaitWord, Prog.lift, Prog.bind_op, Prog.bind_ret, Prog.pure_eq_ret]
  unfold Scr
  iintro ⟨⟨%A, ⟨Ha, Hm, Hl⟩⟩, ⟨%X, Hs⟩, Hk⟩
  iapply (wp_load_full (c := (c : Thread nD τ)) (m := accM)) $$ Ha; iintro Ha
  iapply (wp_store_full (c := (c : Thread nD τ)) (m := accM)) $$ Ha; iintro Ha
  rw [hv]
  iapply (wp_load_full (c := (c : Thread nD τ)) (m := accM)) $$ Ha; iintro Ha
  iapply (wp_load_slot c 0 0 64 128 (by decide) (by decide)) $$ Hs; iintro Hs
  iapply (wp_store_slot c 0 0 64) $$ Hs; iintro Hs
  iapply (wp_load_full (c := (c : Thread nD τ)) (m := mM)) $$ Hm; iintro Hm
  iapply (wp_load_slot c 0 64 1 128 (by decide) (by decide)) $$ Hs; iintro Hs
  iapply (wp_load_slot c 0 64 2 128 (by decide) (by decide)) $$ Hs; iintro Hs
  iapply (wp_store_slot c 0 64 2) $$ Hs; iintro Hs
  iapply (wp_load_full (c := (c : Thread nD τ)) (m := lM)) $$ Hl; iintro Hl
  iapply (wp_load_slot c 0 65 1 128 (by decide) (by decide)) $$ Hs; iintro Hs
  iapply (wp_load_slot c 0 64 2 128 (by decide) (by decide)) $$ Hs; iintro Hs
  iapply (wp_store_slot c 0 64 2) $$ Hs; iintro Hs
  rw [wp_ret]; imodintro
  iapply Hk
  isplitl [Ha Hm Hl]
  · isplitl [Ha]; · iexact Ha
    isplitl [Hm]; · iexact Hm
    iexact Hl
  rw [← stage_eq st X]
  iexact Hs

/-- The first two sends of the second exchange. -/
theorem part11_wp (v2 v5 v34 v45 : BitVec 32) (h2 : k0_cond2 i = 1#1) {Q : PUnit → sProp 𝕄} :
    iprop(Ctx (F := F) pk K ∗ owns (c : Thread nD τ) (slotM 0) (qs 5) (pk 5 c) ∗ owns (c : Thread nD τ) (slotM 0) (qs 4) (pk 4 c) ∗ SendRes (F := F) c 5 ∗ SendRes (F := F) c 4 ∗ Owes (F := F) c [5, 4, 3]
        ∗ ((Ws (F := F) c 5 ∗ Ws (F := F) c 4 ∗ Owes (F := F) c [3]) -∗ Q ⟨⟩))
      ⊢ wp frame (wpE (defs₀ (F := F)) 𝒱₀ (c : Thread nD τ) none) Set.univ (k0_part11 (F := F) i arg1 harg1 arg2 harg2 arg3 harg3 arg4 harg4 arg5 harg5 arg6 harg6 accM hA mM hM lM hL qM hQ commM hC cc0_scratch5 cc0_scratch6 c v2 v5 v34 v45 h2) Q := by
  simp only [k0_part11_eq_skeleton]; unfold k0_part11_skel
  simp only [storeSubelements, semSignalWord, semWaitWord, Prog.lift, Prog.bind_op, Prog.bind_ret, Prog.pure_eq_ret]
  iintro ⟨#HC, H5, H4, S5, S4, Ho, Hk⟩
  iapply (send_wp pk K c 5 _ (dev10_eq c) [4, 3]) $$ [H5 S5 Ho]
  · isplitr; · iexact HC
    isplitl [H5]; · iexact H5
    isplitl [S5] <;> iassumption
  iintro ⟨W5, Ho⟩
  iapply (send_wp pk K c 4 _ (dev11_eq c) [3]) $$ [H4 S4 Ho]
  · isplitr; · iexact HC
    isplitl [H4]; · iexact H4
    isplitl [S4] <;> iassumption
  iintro ⟨W4, Ho⟩
  rw [wp_ret]; imodintro
  iapply Hk
  isplitl [W5]; · iexact W5
  isplitl [W4]; · iexact W4
  iexact Ho

/-- The third send of the second exchange; the first send's packet is back and the first packet arrives. -/
theorem part12_wp (v2 v5 v23 : BitVec 32) (h2 : k0_cond2 i = 1#1) {Q : _ → sProp 𝕄} :
    iprop(Ctx (F := F) pk K ∗ owns (c : Thread nD τ) (slotM 0) (qs 3) (pk 3 c) ∗ SendRes (F := F) c 3 ∗ Owes (F := F) c [3] ∗ Ws (F := F) c 5 ∗ Wr (F := F) c 5
        ∗ ((Ws (F := F) c 3 ∗ Owes (F := F) c [] ∗ DoneS (F := F) c 5 ∗ owns (c : Thread nD τ) (slotM 0) (qs 5) (pk 5 c) ∗ DoneR (F := F) c 5 ∗ owns (c : Thread nD τ) (slotM 6) fullShare (pk 5 (src 5 c))) -∗ Q ⟨k0_pay40 (pV (pk 5 (src 5 c))), k0_pay41 (pM (pk 5 (src 5 c)))⟩))
      ⊢ wp frame (wpE (defs₀ (F := F)) 𝒱₀ (c : Thread nD τ) none) Set.univ (k0_part12 (F := F) i arg1 harg1 arg2 harg2 arg3 harg3 arg4 harg4 arg5 harg5 arg6 harg6 accM hA mM hM lM hL qM hQ commM hC cc0_scratch5 cc0_scratch6 c v2 v5 v23 h2) Q := by
  simp only [k0_part12_eq_skeleton]; unfold k0_part12_skel
  simp only [storeSubelements, semSignalWord, semWaitWord, Prog.lift, Prog.bind_op, Prog.bind_ret, Prog.pure_eq_ret]
  iintro ⟨#HC, H3, S3, Ho, W, R, Hk⟩
  iapply (send_wp pk K c 3 _ (dev12_eq c) []) $$ [H3 S3 Ho]
  · isplitr; · iexact HC
    isplitl [H3]; · iexact H3
    isplitl [S3] <;> iassumption
  iintro ⟨W3, Ho⟩
  iapply (wait_send_wp pk K c 5 [] (msrc := slotM 6) (mdst := slotM 0) rfl) $$ [W Ho]
  · isplitr; · iexact HC
    isplitl [W] <;> iassumption
  iintro ⟨Ho, D, B⟩
  iapply (wait_recv_wp pk K c 5 6 rfl [] (.inr rfl) (msrc := slotM 0) (mdst := slotM 6) rfl) $$ [R Ho]
  · isplitr; · iexact HC
    isplitl [R] <;> iassumption
  iintro ⟨Ho, D', Hs⟩
  iapply (wp_load_slot c 6 0 64 128 (by decide) (by decide)) $$ Hs; iintro Hs
  iapply (wp_load_slot c 6 64 1 64 (by decide) (by decide)) $$ Hs; iintro Hs
  rw [wp_ret]; imodintro
  iapply Hk
  isplitl [W3]; · iexact W3
  isplitl [Ho]; · iexact Ho
  isplitl [D]; · iexact D
  isplitl [B]; · iexact B
  isplitl [D']; · iexact D'
  iexact Hs

/-- The fourth merge. -/
theorem part13_wp (st : St F) (X : S66x128.Idx → Elt F .bf16) {Q : PUnit → sProp 𝕄} :
    iprop(Scr c st ∗ owns (c : Thread nD τ) (slotM 6) fullShare X
        ∗ ((Scr c (merge st X) ∗ owns (c : Thread nD τ) (slotM 6) fullShare X) -∗ Q ⟨⟩))
      ⊢ wp frame (wpE (defs₀ (F := F)) 𝒱₀ (c : Thread nD τ) none) Set.univ (k0_part13 (F := F) i arg1 harg1 arg2 harg2 arg3 harg3 arg4 harg4 arg5 harg5 arg6 harg6 accM hA mM hM lM hL qM hQ commM hC cc0_scratch5 cc0_scratch6 (k0_pay40 (pV X)) (k0_pay41 (pM X))) Q := by
  simp only [k0_part13_eq_skeleton]; unfold k0_part13_skel
  simp only [storeSubelements, semSignalWord, semWaitWord, Prog.lift, Prog.bind_op, Prog.bind_ret, Prog.pure_eq_ret]
  unfold Scr
  iintro ⟨⟨Ha, Hm, Hl⟩, Hs, Hk⟩
  iapply (wp_load_slot c 6 65 1 64 (by decide) (by decide)) $$ Hs; iintro Hs
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  iapply (wp_load_full (c := (c : Thread nD τ)) (m := accM)) $$ Ha; iintro Ha
  iapply (wp_store_full (c := (c : Thread nD τ)) (m := accM)) $$ Ha; iintro Ha
  rw [wp_ret]; imodintro
  iapply Hk
  isplitl [Ha Hm Hl]
  · isplitl [Ha]; · iexact Ha
    isplitl [Hm]; · iexact Hm
    iexact Hl
  iexact Hs

/-- The second send of the second exchange is back, the second packet arrives. -/
theorem part14_wp (v2 v5 v34 : BitVec 32) (st : St F) {Q : _ → sProp 𝕄} :
    iprop(Ctx (F := F) pk K ∗ Scr c st ∗ Owes (F := F) c [] ∗ Ws (F := F) c 4 ∗ Wr (F := F) c 4
        ∗ ((Scr c st ∗ Owes (F := F) c [] ∗ DoneS (F := F) c 4 ∗ owns (c : Thread nD τ) (slotM 0) (qs 4) (pk 4 c) ∗ DoneR (F := F) c 4 ∗ owns (c : Thread nD τ) (slotM 5) fullShare (pk 4 (src 4 c))) -∗ Q ⟨k0_pay49 (pV (pk 4 (src 4 c))), k0_pay50 (pM (pk 4 (src 4 c))), k0_pay51 (pL (pk 4 (src 4 c))), st.2.2, st.1, k0_pay52 (pM (pk 4 (src 4 c))) st.2.1, k0_pay53 (pM (pk 4 (src 4 c))) st.2.1⟩))
      ⊢ wp frame (wpE (defs₀ (F := F)) 𝒱₀ (c : Thread nD τ) none) Set.univ (k0_part14 (F := F) i arg1 harg1 arg2 harg2 arg3 harg3 arg4 harg4 arg5 harg5 arg6 harg6 accM hA mM hM lM hL qM hQ commM hC cc0_scratch5 cc0_scratch6 v2 v5 v34) Q := by
  simp only [k0_part14_eq_skeleton]; unfold k0_part14_skel
  simp only [storeSubelements, semSignalWord, semWaitWord, Prog.lift, Prog.bind_op, Prog.bind_ret, Prog.pure_eq_ret]
  unfold Scr
  iintro ⟨#HC, ⟨Ha, Hm, Hl⟩, Ho, W, R, Hk⟩
  iapply (wait_send_wp pk K c 4 [] (msrc := slotM 5) (mdst := slotM 0) rfl) $$ [W Ho]
  · isplitr; · iexact HC
    isplitl [W] <;> iassumption
  iintro ⟨Ho, D, B⟩
  iapply (wait_recv_wp pk K c 4 5 rfl [] (.inr rfl) (msrc := slotM 0) (mdst := slotM 5) rfl) $$ [R Ho]
  · isplitr; · iexact HC
    isplitl [R] <;> iassumption
  iintro ⟨Ho, D', Hs⟩
  iapply (wp_load_slot c 5 0 64 128 (by decide) (by decide)) $$ Hs; iintro Hs
  iapply (wp_load_slot c 5 64 1 64 (by decide) (by decide)) $$ Hs; iintro Hs
  iapply (wp_load_slot c 5 65 1 64 (by decide) (by decide)) $$ Hs; iintro Hs
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  rw [wp_ret]; imodintro
  iapply Hk
  isplitl [Ha Hm Hl]
  · isplitl [Ha]; · iexact Ha
    isplitl [Hm]; · iexact Hm
    iexact Hl
  isplitl [Ho]; · iexact Ho
  isplitl [D]; · iexact D
  isplitl [B]; · iexact B
  isplitl [D']; · iexact D'
  iexact Hs

/-- The fifth merge; the last send is back. -/
theorem part15_wp (v2 v5 v45 : BitVec 32) (st : St F) (X : S66x128.Idx → Elt F .bf16) {Q : PUnit → sProp 𝕄} :
    iprop(Ctx (F := F) pk K ∗ Scr c st ∗ Owes (F := F) c [] ∗ Ws (F := F) c 3
        ∗ ((Scr c (merge st X) ∗ Owes (F := F) c [] ∗ DoneS (F := F) c 3 ∗ owns (c : Thread nD τ) (slotM 0) (qs 3) (pk 3 c)) -∗ Q ⟨⟩))
      ⊢ wp frame (wpE (defs₀ (F := F)) 𝒱₀ (c : Thread nD τ) none) Set.univ (k0_part15 (F := F) i arg1 harg1 arg2 harg2 arg3 harg3 arg4 harg4 arg5 harg5 arg6 harg6 accM hA mM hM lM hL qM hQ commM hC cc0_scratch5 cc0_scratch6 v2 v5 v45 (k0_pay49 (pV X)) (k0_pay50 (pM X)) (k0_pay51 (pL X)) st.2.2 st.1 (k0_pay52 (pM X) st.2.1) (k0_pay53 (pM X) st.2.1)) Q := by
  simp only [k0_part15_eq_skeleton]; unfold k0_part15_skel
  simp only [storeSubelements, semSignalWord, semWaitWord, Prog.lift, Prog.bind_op, Prog.bind_ret, Prog.pure_eq_ret]
  unfold Scr
  iintro ⟨#HC, ⟨Ha, Hm, Hl⟩, Ho, W, Hk⟩
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  iapply (wp_load_full (c := (c : Thread nD τ)) (m := accM)) $$ Ha; iintro Ha
  iapply (wp_store_full (c := (c : Thread nD τ)) (m := accM)) $$ Ha; iintro Ha
  iapply (wait_send_wp pk K c 3 [] (msrc := slotM 4) (mdst := slotM 0) rfl) $$ [W Ho]
  · isplitr; · iexact HC
    isplitl [W] <;> iassumption
  iintro ⟨Ho, D, B⟩
  rw [wp_ret]; imodintro
  iapply Hk
  isplitl [Ha Hm Hl]
  · isplitl [Ha]; · iexact Ha
    isplitl [Hm]; · iexact Hm
    iexact Hl
  isplitl [Ho]; · iexact Ho
  isplitl [D]; · iexact D
  iexact B

/-- The last packet arrives; the last merge, all but the accumulated values. -/
theorem part16_wp (st : St F) {Q : _ → sProp 𝕄} :
    iprop(Ctx (F := F) pk K ∗ Scr c st ∗ Owes (F := F) c [] ∗ Wr (F := F) c 3
        ∗ ((Scr c (st.1, (merge st (pk 3 (src 3 c))).2) ∗ Owes (F := F) c [] ∗ DoneR (F := F) c 3 ∗ owns (c : Thread nD τ) (slotM 4) fullShare (pk 3 (src 3 c))) -∗ Q ⟨k0_pay59 (pV (pk 3 (src 3 c))), st.1, k0_pay63 (pM (pk 3 (src 3 c))) st.2.1, k0_pay66 (pM (pk 3 (src 3 c))) st.2.1⟩))
      ⊢ wp frame (wpE (defs₀ (F := F)) 𝒱₀ (c : Thread nD τ) none) Set.univ (k0_part16 (F := F) i arg1 harg1 arg2 harg2 arg3 harg3 arg4 harg4 arg5 harg5 arg6 harg6 accM hA mM hM lM hL qM hQ commM hC cc0_scratch5 cc0_scratch6) Q := by
  simp only [k0_part16_eq_skeleton]; unfold k0_part16_skel
  simp only [storeSubelements, semSignalWord, semWaitWord, Prog.lift, Prog.bind_op, Prog.bind_ret, Prog.pure_eq_ret]
  unfold Scr
  iintro ⟨#HC, ⟨Ha, Hm, Hl⟩, Ho, R, Hk⟩
  iapply (wait_recv_wp pk K c 3 4 rfl [] (.inr rfl) (msrc := slotM 0) (mdst := slotM 4) rfl) $$ [R Ho]
  · isplitr; · iexact HC
    isplitl [R] <;> iassumption
  iintro ⟨Ho, D', Hs⟩
  iapply (wp_load_slot c 4 0 64 128 (by decide) (by decide)) $$ Hs; iintro Hs
  iapply (wp_load_slot c 4 64 1 64 (by decide) (by decide)) $$ Hs; iintro Hs
  iapply (wp_load_slot c 4 65 1 64 (by decide) (by decide)) $$ Hs; iintro Hs
  iapply (wp_load_full (c := (c : Thread nD τ)) (m := mM)) $$ Hm; iintro Hm
  iapply (wp_load_full (c := (c : Thread nD τ)) (m := lM)) $$ Hl; iintro Hl
  iapply (wp_load_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  rw [wp_ret]; imodintro
  iapply Hk
  isplitl [Ha Hm Hl]
  · isplitl [Ha]; · iexact Ha
    isplitl [Hm]; · iexact Hm
    iexact Hl
  isplitl [Ho]; · iexact Ho
  isplitl [D']; · iexact D'
  iexact Hs

/-- The empty running state: values zero, maxima the least number the kernel starts at, sums zero. -/
def st₀ : St F := (k0_pay7, k0_pay5, k0_pay6)

/-- The first four barrier signals. -/
theorem part1_wp (v2 v5 v8 v9 v10 v11 v12 v23 v34 : BitVec 32) (h1 : k0_cond1 i = 1#1) {Q : _ → sProp 𝕄} :
    iprop(Ctx (F := F) pk K ∗ OwesB (F := F) c [0, 1, 2, 3, 4, 5] ∗ SigRes (F := F) c 0 ∗ SigRes (F := F) c 1 ∗ SigRes (F := F) c 2 ∗ SigRes (F := F) c 3
        ∗ (OwesB (F := F) c [4, 5] -∗ Q (SemArray.scalar (sig.barrier 0 rfl))))
      ⊢ wp frame (wpE (defs₀ (F := F)) 𝒱₀ (c : Thread nD τ) none) Set.univ (k0_part1 (F := F) i arg1 harg1 arg2 harg2 arg3 harg3 arg4 harg4 arg5 harg5 arg6 harg6 accM hA mM hM lM hL qM hQ commM hC cc0_scratch5 cc0_scratch6 c v2 v5 v8 v9 v10 v11 v12 v23 v34 h1) Q := by
  simp only [k0_part1_eq_skeleton]; unfold k0_part1_skel
  simp only [storeSubelements, semSignalWord, semWaitWord, Prog.lift, Prog.bind_op, Prog.bind_ret, Prog.pure_eq_ret]
  iintro ⟨#HC, Ho, S0, S1, S2, S3, Hk⟩
  iapply (signal_wp pk K c 0 _ (dev1_eq c) [1, 2, 3, 4, 5]) $$ [Ho S0]
  · isplitr; · iexact HC
    isplitl [Ho] <;> iassumption
  iintro Ho
  iapply (signal_wp pk K c 1 _ (dev2_eq c) [2, 3, 4, 5]) $$ [Ho S1]
  · isplitr; · iexact HC
    isplitl [Ho] <;> iassumption
  iintro Ho
  iapply (signal_wp pk K c 2 _ (dev3_eq c) [3, 4, 5]) $$ [Ho S2]
  · isplitr; · iexact HC
    isplitl [Ho] <;> iassumption
  iintro Ho
  iapply (signal_wp pk K c 3 _ (dev4_eq c) [4, 5]) $$ [Ho S3]
  · isplitr; · iexact HC
    isplitl [Ho] <;> iassumption
  iintro Ho
  rw [wp_ret]; imodintro
  iapply Hk
  iexact Ho

/-- The last two barrier signals, the barrier wait, the empty running state, the load of the queries. -/
theorem part2_wp (v2 v5 v45 : BitVec 32) (h1 : k0_cond1 i = 1#1) (Y : S8x1x8x128.Idx → Elt F .bf16) {Q : _ → sProp 𝕄} :
    iprop(Ctx (F := F) pk K ∗ OwesB (F := F) c [4, 5] ∗ SigRes (F := F) c 4 ∗ SigRes (F := F) c 5 ∗ BarRes (F := F) c ∗ (∃ st, Scr (F := F) c st) ∗ owns (c : Thread nD τ) arg2 fullShare Y
        ∗ ((Owes (F := F) c [0, 1, 2, 5, 4, 3] ∗ DoneB (F := F) c ∗ bigSep Finset.univ (barPay (F := F) c) ∗ Scr c st₀ ∗ owns (c : Thread nD τ) arg2 fullShare Y) -∗ Q (k0_pay8 Y)))
      ⊢ wp frame (wpE (defs₀ (F := F)) 𝒱₀ (c : Thread nD τ) none) Set.univ (k0_part2 (F := F) i arg1 harg1 arg2 harg2 arg3 harg3 arg4 harg4 arg5 harg5 arg6 harg6 accM hA mM hM lM hL qM hQ commM hC cc0_scratch5 cc0_scratch6 c v2 v5 v45 h1 (SemArray.scalar (sig.barrier 0 rfl))) Q := by
  simp only [k0_part2_eq_skeleton]; unfold k0_part2_skel
  simp only [storeSubelements, semSignalWord, semWaitWord, Prog.lift, Prog.bind_op, Prog.bind_ret, Prog.pure_eq_ret]
  unfold Scr st₀
  iintro ⟨#HC, Ho, S4, S5, Hb, ⟨%st, ⟨Ha, Hm, Hl⟩⟩, Hq, Hk⟩
  iapply (signal_wp pk K c 4 _ (dev5_eq c) [5]) $$ [Ho S4]
  · isplitr; · iexact HC
    isplitl [Ho] <;> iassumption
  iintro Ho
  iapply (signal_wp pk K c 5 _ (dev6_eq c) []) $$ [Ho S5]
  · isplitr; · iexact HC
    isplitl [Ho] <;> iassumption
  iintro Ho
  iapply (barrier_wp pk K c) $$ [Ho Hb]
  · isplitr; · iexact HC
    isplitl [Ho] <;> iassumption
  iintro ⟨Ho, D, Hp⟩
  iapply (wp_load_full (c := (c : Thread nD τ)) (m := mM)) $$ Hm; iintro Hm
  iapply (wp_store_full (c := (c : Thread nD τ)) (m := mM)) $$ Hm; iintro Hm
  iapply (wp_load_full (c := (c : Thread nD τ)) (m := lM)) $$ Hl; iintro Hl
  iapply (wp_store_full (c := (c : Thread nD τ)) (m := lM)) $$ Hl; iintro Hl
  iapply (wp_load_full (c := (c : Thread nD τ)) (m := accM)) $$ Ha; iintro Ha
  iapply (wp_store_full (c := (c : Thread nD τ)) (m := accM)) $$ Ha; iintro Ha
  iapply (wp_load_full (c := (c : Thread nD τ)) (m := arg2)) $$ Hq; iintro Hq
  rw [wp_ret]; imodintro
  iapply Hk
  isplitl [Ho]; · iexact Ho
  isplitl [D]; · iexact D
  isplitl [Hp]; · iexact Hp
  isplitl [Ha Hm Hl]
  · isplitl [Ha]; · iexact Ha
    isplitl [Hm]; · iexact Hm
    iexact Hl
  iexact Hq

end Parts

end Cert.Paged
-- ==== Proof.Body.lean ====
/-
# The body

The kernel's body at its two grid points: the first point opens the exchange's barrier and folds the first chunk of pages,
the second folds the second chunk, runs the two exchanges and writes the result.
-/
module

public import proofs.«01_k».proof.Proof.Parts

@[expose] public section

set_option maxRecDepth 16000

noncomputable section

namespace Cert.Paged

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- A running state with one chunk of pages folded in: the scaled queries, the chunk's keys and values, the chunk's page counts. -/
def chunk (st : St F) (qb : S64x1024.Idx → Elt F .f32) (Kv Vv : S32x16x8x128.Idx → Elt F .bf16) (C : S8x512.Idx → Elt F .f32) : St F :=
  (k0_pay1 (k0_pay75 (k0_pay70 Kv qb) (k0_pay71 C) k0_pay72 st.2.1) (k0_pay78 (k0_pay68 Vv) (k0_pay69 C) (k0_pay70 Kv qb) (k0_pay71 C) k0_pay72 st.2.1) k0_pay79 st.1,
    k0_pay2 (k0_pay74 (k0_pay70 Kv qb) (k0_pay71 C) k0_pay72 st.2.1),
    k0_pay77 (k0_pay69 C) (k0_pay70 Kv qb) (k0_pay71 C) k0_pay72 st.2.1 st.2.2)

/-- The queries as the kernel keeps them. -/
abbrev qbd (Y : S8x1x8x128.Idx → Elt F .bf16) : S64x1024.Idx → Elt F .f32 := k0_pay67 (k0_pay8 Y)

section Body

variable (i : grid0.Coords) (arg1 : Memref sig .tc .smem S1 .i32) (harg1 : arg1.IsWhole) (arg2 : Memref sig .tc .vmem S8x1x8x128 .bf16) (harg2 : arg2.IsWhole)
  (arg3 : Memref sig .tc .vmem S32x16x8x128 .bf16) (harg3 : arg3.IsWhole) (arg4 : Memref sig .tc .vmem S32x16x8x128 .bf16) (harg4 : arg4.IsWhole)
  (arg5 : Memref sig .tc .vmem S8x512 .f32) (harg5 : arg5.IsWhole) (arg6 : Memref sig .tc .vmem S8x1x8x128 .f32) (harg6 : arg6.IsWhole)
  (hA : (accM : Memref sig .tc .vmem S64x128 .f32).IsWhole) (hM : (mM : Memref sig .tc .vmem S64x1 .f32).IsWhole)
  (hL : (lM : Memref sig .tc .vmem S64x1 .f32).IsWhole) (hQ : (qM : Memref sig .tc .vmem S64x1024 .f32).IsWhole) (hC : (commM : Memref sig .tc .vmem S7x66x128 .bf16).IsWhole)
  (c : Dev nD)

variable (pk : Fin 6 → Dev nD → S66x128.Idx → Elt F .bf16) (K : GSem nD τ sig → ℕ)

/-- The body names its device and computes words that name its peers. -/
theorem part17_wp {Q : _ → sProp 𝕄} :
    iprop(∀ r, ⌜r.2.1 = c⌝ -∗ Q r)
      ⊢ wp frame (wpE (defs₀ (F := F)) 𝒱₀ (c : Thread nD τ) none) Set.univ (k0_part17 (F := F) i arg1 harg1 arg2 harg2 arg3 harg3 arg4 harg4 arg5 harg5 arg6 harg6 accM hA mM hM lM hL qM hQ commM hC cc0_scratch5 cc0_scratch6) Q := by
  simp only [k0_part17_eq_skeleton]; unfold k0_part17_skel
  simp only [Prog.lift, Prog.bind_op, Prog.bind_ret, Prog.pure_eq_ret, wp_deviceId]
  iintro Hk
  rw [wp_ret]; imodintro
  iapply Hk
  ipureintro
  rfl

/-- The chunk's inputs: the keys, the values, the page counts. -/
def Ins (Kv Vv : S32x16x8x128.Idx → Elt F .bf16) (C : S8x512.Idx → Elt F .f32) : sProp 𝕄 :=
  iprop(owns (c : Thread nD τ) arg3 fullShare Kv ∗ owns (c : Thread nD τ) arg4 fullShare Vv ∗ owns (c : Thread nD τ) arg5 fullShare C)

/-- The loads of a chunk, after the first point's opening. -/
theorem part18_first (v2 v5 v8 v9 v10 v11 v12 v23 v27 v33 : BitVec 32) (v32 : BitVec 1) (w : BitVec 32) (h1 : k0_cond1 i = 1#1) (Y : S8x1x8x128.Idx → Elt F .bf16)
    (Kv Vv : S32x16x8x128.Idx → Elt F .bf16) (C : S8x512.Idx → Elt F .f32) {Q : _ → sProp 𝕄} :
    iprop(Ctx (F := F) pk K ∗ OwesB (F := F) c [0, 1, 2, 3, 4, 5] ∗ bigSep Finset.univ (SigRes (F := F) c) ∗ BarRes (F := F) c
        ∗ (∃ st, Scr (F := F) c st) ∗ (∃ q, owns (c : Thread nD τ) qM fullShare q) ∗ owns (c : Thread nD τ) arg2 fullShare Y ∗ Ins arg3 arg4 arg5 c Kv Vv C
        ∗ (∀ a b, (Owes (F := F) c [0, 1, 2, 5, 4, 3] ∗ DoneB (F := F) c ∗ bigSep Finset.univ (barPay (F := F) c) ∗ Scr c st₀ ∗ owns (c : Thread nD τ) arg2 fullShare Y
            ∗ owns (c : Thread nD τ) qM fullShare (qbd Y) ∗ Ins arg3 arg4 arg5 c Kv Vv C)
          -∗ Q ⟨a, b, k0_pay68 Vv, k0_pay69 C, k0_pay70 Kv (qbd Y), k0_pay71 C, k0_pay72⟩))
      ⊢ wp frame (wpE (defs₀ (F := F)) 𝒱₀ (c : Thread nD τ) none) Set.univ (k0_part18 (F := F) i arg1 harg1 arg2 harg2 arg3 harg3 arg4 harg4 arg5 harg5 arg6 harg6 accM hA mM hM lM hL qM hQ commM hC cc0_scratch5 cc0_scratch6 w c v2 v5 v8 v9 v10 v11 v12 v23 v27 v32 v33) Q := by
  simp only [k0_part18_eq_skeleton]; unfold k0_part18_skel
  simp only [Prog.lift, Prog.bind_op, Prog.bind_ret, Prog.pure_eq_ret, Prog.bind_assoc]
  rw [dif_pos h1, bigSep_six]
  unfold Ins
  iintro ⟨#HC, Ho, ⟨S0, S1, S2, S3, S4, S5⟩, Hb, Hscr, ⟨%q, Hqb⟩, Hq, ⟨H3, H4, H5⟩, Hk⟩
  rw [wp_bind]
  iapply (part1_wp i arg1 harg1 arg2 harg2 arg3 harg3 arg4 harg4 arg5 harg5 arg6 harg6 hA hM hL hQ hC c pk K)
  isplitr; · iexact HC
  isplitl [Ho]; · iexact Ho
  isplitl [S0]; · iexact S0
  isplitl [S1]; · iexact S1
  isplitl [S2]; · iexact S2
  isplitl [S3]; · iexact S3
  iintro Ho
  rw [wp_bind]
  iapply (part2_wp i arg1 harg1 arg2 harg2 arg3 harg3 arg4 harg4 arg5 harg5 arg6 harg6 hA hM hL hQ hC c pk K)
  isplitr; · iexact HC
  isplitl [Ho]; · iexact Ho
  isplitl [S4]; · iexact S4
  isplitl [S5]; · iexact S5
  isplitl [Hb]; · iexact Hb
  isplitl [Hscr]; · iexact Hscr
  isplitl [Hq]; · iexact Hq
  iintro ⟨Ho, D, Hp, Hscr, Hq⟩
  iapply (wp_load_full (c := (c : Thread nD τ)) (m := qM)) $$ Hqb; iintro Hqb
  iapply (wp_store_full (c := (c : Thread nD τ)) (m := qM)) $$ Hqb; iintro Hqb
  iapply (wp_load_full (c := (c : Thread nD τ)) (m := arg3)) $$ H3; iintro H3
  iapply (wp_load_full (c := (c : Thread nD τ)) (m := arg4)) $$ H4; iintro H4
  iapply (wp_load_full (c := (c : Thread nD τ)) (m := arg5)) $$ H5; iintro H5
  iapply (wp_load_full (c := (c : Thread nD τ)) (m := qM)) $$ Hqb; iintro Hqb
  rw [wp_ret]; imodintro
  iapply Hk
  isplitl [Ho]; · iexact Ho
  isplitl [D]; · iexact D
  isplitl [Hp]; · iexact Hp
  isplitl [Hscr]; · iexact Hscr
  isplitl [Hq]; · iexact Hq
  isplitl [Hqb]; · iexact Hqb
  isplitl [H3]; · iexact H3
  isplitl [H4]; · iexact H4
  iexact H5

/-- The loads of a chunk, at the second point. -/
theorem part18_later (v2 v5 v8 v9 v10 v11 v12 v23 v27 v33 : BitVec 32) (v32 : BitVec 1) (w : BitVec 32) (h1 : ¬ k0_cond1 i = 1#1)
    (qb : S64x1024.Idx → Elt F .f32) (Kv Vv : S32x16x8x128.Idx → Elt F .bf16) (C : S8x512.Idx → Elt F .f32) {Q : _ → sProp 𝕄} :
    iprop(owns (c : Thread nD τ) qM fullShare qb ∗ Ins arg3 arg4 arg5 c Kv Vv C
        ∗ (∀ a b, (owns (c : Thread nD τ) qM fullShare qb ∗ Ins arg3 arg4 arg5 c Kv Vv C)
          -∗ Q ⟨a, b, k0_pay68 Vv, k0_pay69 C, k0_pay70 Kv qb, k0_pay71 C, k0_pay72⟩))
      ⊢ wp frame (wpE (defs₀ (F := F)) 𝒱₀ (c : Thread nD τ) none) Set.univ (k0_part18 (F := F) i arg1 harg1 arg2 harg2 arg3 harg3 arg4 harg4 arg5 harg5 arg6 harg6 accM hA mM hM lM hL qM hQ commM hC cc0_scratch5 cc0_scratch6 w c v2 v5 v8 v9 v10 v11 v12 v23 v27 v32 v33) Q := by
  simp only [k0_part18_eq_skeleton]; unfold k0_part18_skel
  simp only [Prog.lift, Prog.bind_op, Prog.bind_ret, Prog.pure_eq_ret, Prog.bind_assoc]
  rw [dif_neg h1]
  unfold Ins
  iintro ⟨Hqb, ⟨H3, H4, H5⟩, Hk⟩
  iapply (wp_load_full (c := (c : Thread nD τ)) (m := arg3)) $$ H3; iintro H3
  iapply (wp_load_full (c := (c : Thread nD τ)) (m := arg4)) $$ H4; iintro H4
  iapply (wp_load_full (c := (c : Thread nD τ)) (m := arg5)) $$ H5; iintro H5
  iapply (wp_load_full (c := (c : Thread nD τ)) (m := qM)) $$ Hqb; iintro Hqb
  rw [wp_ret]; imodintro
  iapply Hk
  isplitl [Hqb]; · iexact Hqb
  isplitl [H3]; · iexact H3
  isplitl [H4]; · iexact H4
  iexact H5

/-- The chunk's maxima and weights; the running sums with the chunk's weights added. -/
theorem part19_wp (st : St F) (a54 : FVec F S512x1024 .bf16) (a60 a64 a67 : FVec F S64x512 .f32) (a66 : IVec S64x512 1) {Q : _ → sProp 𝕄} :
    iprop(Scr c st
        ∗ (Scr c (st.1, st.2.1, k0_pay77 a60 a64 a66 a67 st.2.1 st.2.2)
          -∗ Q ⟨k0_pay74 a64 a66 a67 st.2.1, k0_pay75 a64 a66 a67 st.2.1, k0_pay78 a54 a60 a64 a66 a67 st.2.1, k0_pay79⟩))
      ⊢ wp frame (wpE (defs₀ (F := F)) 𝒱₀ (c : Thread nD τ) none) Set.univ (k0_part19 (F := F) i arg1 harg1 arg2 harg2 arg3 harg3 arg4 harg4 arg5 harg5 arg6 harg6 accM hA mM hM lM hL qM hQ commM hC cc0_scratch5 cc0_scratch6 a54 a60 a64 a66 a67) Q := by
  simp only [k0_part19_eq_skeleton]; unfold k0_part19_skel
  simp only [Prog.lift, Prog.bind_op, Prog.bind_ret, Prog.pure_eq_ret]
  unfold Scr
  iintro ⟨⟨Ha, Hm, Hl⟩, Hk⟩
  iapply (wp_load_full (c := (c : Thread nD τ)) (m := mM)) $$ Hm; iintro Hm
  iapply (wp_load_full (c := (c : Thread nD τ)) (m := lM)) $$ Hl; iintro Hl
  iapply (wp_load_full (c := (c : Thread nD τ)) (m := lM)) $$ Hl; iintro Hl
  iapply (wp_store_full (c := (c : Thread nD τ)) (m := lM)) $$ Hl; iintro Hl
  rw [wp_ret]; imodintro
  iapply Hk
  isplitl [Ha]; · iexact Ha
  isplitl [Hm]; · iexact Hm
  iexact Hl

/-- The body at the first point: the barrier, then the first chunk folded into the empty state. -/
theorem body_first (h1 : k0_cond1 i = 1#1) (h2 : ¬ k0_cond2 i = 1#1) (Y : S8x1x8x128.Idx → Elt F .bf16)
    (Kv Vv : S32x16x8x128.Idx → Elt F .bf16) (C : S8x512.Idx → Elt F .f32) {Q : PUnit → sProp 𝕄} :
    iprop(Ctx (F := F) pk K ∗ OwesB (F := F) c [0, 1, 2, 3, 4, 5] ∗ bigSep Finset.univ (SigRes (F := F) c) ∗ BarRes (F := F) c
        ∗ (∃ st, Scr (F := F) c st) ∗ (∃ q, owns (c : Thread nD τ) qM fullShare q) ∗ owns (c : Thread nD τ) arg2 fullShare Y ∗ Ins arg3 arg4 arg5 c Kv Vv C
        ∗ ((Owes (F := F) c [0, 1, 2, 5, 4, 3] ∗ DoneB (F := F) c ∗ bigSep Finset.univ (barPay (F := F) c) ∗ Scr c (chunk st₀ (qbd Y) Kv Vv C) ∗ owns (c : Thread nD τ) arg2 fullShare Y
            ∗ owns (c : Thread nD τ) qM fullShare (qbd Y) ∗ Ins arg3 arg4 arg5 c Kv Vv C)
          -∗ Q ⟨⟩))
      ⊢ wp frame (wpE (defs₀ (F := F)) 𝒱₀ (c : Thread nD τ) none) Set.univ (cc0_body (F := F) i arg1 harg1 arg2 harg2 arg3 harg3 arg4 harg4 arg5 harg5 arg6 harg6 accM hA mM hM lM hL qM hQ commM hC cc0_scratch5 cc0_scratch6) Q := by
  simp only [cc0_body_eq_skeleton]; unfold cc0_body_skel
  simp only [Prog.lift, Prog.bind_op, Prog.bind_ret, Prog.pure_eq_ret]
  iintro ⟨#HC, Ho, Hs, Hb, Hscr, Hqb, Hq, Hin, Hk⟩
  rw [wp_bind]
  iapply (part17_wp i arg1 harg1 arg2 harg2 arg3 harg3 arg4 harg4 arg5 harg5 arg6 harg6 hA hM hL hQ hC c)
  iintro %r %hr
  obtain ⟨a0, d0, v2, v5, v8, v9, v10, v11, v12, v23, v27, v32, v33⟩ := r
  obtain rfl : c = d0 := hr.symm
  dsimp only
  rw [wp_bind]
  iapply (part18_first i arg1 harg1 arg2 harg2 arg3 harg3 arg4 harg4 arg5 harg5 arg6 harg6 hA hM hL hQ hC c pk K v2 v5 v8 v9 v10 v11 v12 v23 v27 v33 v32 a0 h1)
  isplitr; · iexact HC
  isplitl [Ho]; · iexact Ho
  isplitl [Hs]; · iexact Hs
  isplitl [Hb]; · iexact Hb
  isplitl [Hscr]; · iexact Hscr
  isplitl [Hqb]; · iexact Hqb
  isplitl [Hq]; · iexact Hq
  isplitl [Hin]; · iexact Hin
  iintro %v34 %v45 ⟨Ho, D, Hp, Hscr, Hq, Hqb, Hin⟩
  dsimp only
  rw [wp_bind]
  iapply (part19_wp i arg1 harg1 arg2 harg2 arg3 harg3 arg4 harg4 arg5 harg5 arg6 harg6 hA hM hL hQ hC c)
  isplitl [Hscr]; · iexact Hscr
  iintro Hscr
  dsimp only
  unfold Scr
  icases Hscr with ⟨Ha, Hm, Hl⟩
  iapply (wp_load_full (c := (c : Thread nD τ)) (m := accM)) $$ Ha; iintro Ha
  iapply (wp_load_full (c := (c : Thread nD τ)) (m := accM)) $$ Ha; iintro Ha
  iapply (wp_store_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  rw [dif_neg h2, wp_ret]; imodintro
  iapply Hk
  isplitl [Ho]; · iexact Ho
  isplitl [D]; · iexact D
  isplitl [Hp]; · iexact Hp
  isplitl [Ha Hm Hl]
  · isplitl [Ha]; · iexact Ha
    isplitl [Hm]; · iexact Hm
    iexact Hl
  isplitl [Hq]; · iexact Hq
  isplitl [Hqb]; · iexact Hqb
  iexact Hin

/-- The running state's three buffers are the running state. -/
theorem Scr_intro (st st' : St F) (h : st = st') :
    iprop(owns (c : Thread nD τ) accM fullShare st.1 ∗ owns (c : Thread nD τ) mM fullShare st.2.1 ∗ owns (c : Thread nD τ) lM fullShare st.2.2)
      ⊢ (Scr c st' : sProp 𝕄) := by
  subst h; exact BI.Entails.refl _

/-- The running state is its three buffers. -/
theorem Scr_elim (st : St F) :
    (Scr c st : sProp 𝕄)
      ⊢ iprop(owns (c : Thread nD τ) accM fullShare st.1 ∗ owns (c : Thread nD τ) mM fullShare st.2.1 ∗ owns (c : Thread nD τ) lM fullShare st.2.2) :=
  BI.Entails.refl _

/-- A packet held whole is held in its three shares. -/
theorem split3 (X : S66x128.Idx → Elt F .bf16) :
    (owns (c : Thread nD τ) (slotM 0) fullShare X : sProp 𝕄)
      ⊢ iprop(owns (c : Thread nD τ) (slotM 0) fullShare.left X ∗ owns (c : Thread nD τ) (slotM 0) fullShare.right.left X ∗ owns (c : Thread nD τ) (slotM 0) fullShare.right.right X) :=
  (owns_halves _ _ _ X).1.trans (sep_mono .rfl (owns_halves _ _ _ X).1)

/-- Three shares of a packet are the packet held whole. -/
theorem join3 (X : S66x128.Idx → Elt F .bf16) :
    iprop(owns (c : Thread nD τ) (slotM 0) fullShare.left X ∗ owns (c : Thread nD τ) (slotM 0) fullShare.right.left X ∗ owns (c : Thread nD τ) (slotM 0) fullShare.right.right X)
      ⊢ (owns (c : Thread nD τ) (slotM 0) fullShare X : sProp 𝕄) :=
  (sep_mono .rfl (owns_halves _ _ _ X).2).trans (owns_halves _ _ _ X).2

/-- A state after the first exchange's three merges. -/
def mergeA (st : St F) : St F := merge (merge (merge st (pk 0 (src 0 c))) (pk 1 (src 1 c))) (pk 2 (src 2 c))
/-- A state after the second exchange's three merges. -/
def mergeB (st : St F) : St F := merge (merge (merge st (pk 5 (src 5 c))) (pk 4 (src 4 c))) (pk 3 (src 3 c))

set_option maxHeartbeats 1000000 in
/-- The body at the second point: the second chunk, the two exchanges, the result. -/
theorem body_second (h1 : ¬ k0_cond1 i = 1#1) (h2 : k0_cond2 i = 1#1) (st st' : St F) (qb : S64x1024.Idx → Elt F .f32)
    (Kv Vv : S32x16x8x128.Idx → Elt F .bf16) (C : S8x512.Idx → Elt F .f32) (hst : chunk st qb Kv Vv C = st')
    (hp : ∀ s : Fin 6, s.val < 3 → pk s c = stage st') (hp' : ∀ s : Fin 6, 3 ≤ s.val → pk s c = stage (mergeA c pk st')) {Q : PUnit → sProp 𝕄} :
    iprop(Ctx (F := F) pk K ∗ Owes (F := F) c [0, 1, 2, 5, 4, 3] ∗ bigSep Finset.univ (SendRes (F := F) c) ∗ bigSep Finset.univ (Wr (F := F) c)
        ∗ Scr c st ∗ (∃ X, owns (c : Thread nD τ) (slotM 0) fullShare X) ∗ owns (c : Thread nD τ) qM fullShare qb ∗ Ins arg3 arg4 arg5 c Kv Vv C
        ∗ (∃ o, owns (c : Thread nD τ) arg6 fullShare o)
        ∗ ((Owes (F := F) c [] ∗ bigSep Finset.univ (DoneS (F := F) c) ∗ bigSep Finset.univ (DoneR (F := F) c)
            ∗ bigSep Finset.univ (fun s : Fin 6 => iprop(∃ X, owns (c : Thread nD τ) (slotM s.succ) fullShare X)) ∗ (∃ X, owns (c : Thread nD τ) (slotM 0) fullShare X)
            ∗ (∃ st, Scr (F := F) c st) ∗ owns (c : Thread nD τ) qM fullShare qb ∗ Ins arg3 arg4 arg5 c Kv Vv C
            ∗ owns (c : Thread nD τ) arg6 fullShare (k0_pay4 (mergeB c pk (mergeA c pk st')).1 (mergeB c pk (mergeA c pk st')).2.2))
          -∗ Q ⟨⟩))
      ⊢ wp frame (wpE (defs₀ (F := F)) 𝒱₀ (c : Thread nD τ) none) Set.univ (cc0_body (F := F) i arg1 harg1 arg2 harg2 arg3 harg3 arg4 harg4 arg5 harg5 arg6 harg6 accM hA mM hM lM hL qM hQ commM hC cc0_scratch5 cc0_scratch6) Q := by
  simp only [cc0_body_eq_skeleton]; unfold cc0_body_skel
  simp only [Prog.lift, Prog.bind_op, Prog.bind_ret, Prog.pure_eq_ret]
  rw [bigSep_six (SendRes (F := F) c), bigSep_six (Wr (F := F) c)]
  iintro ⟨#HC, Ho, Hs, Hr, Hscr, ⟨%X₀, Hx⟩, Hqb, Hin, ⟨%o, H6⟩, Hk⟩
  rw [wp_bind]
  iapply (part17_wp i arg1 harg1 arg2 harg2 arg3 harg3 arg4 harg4 arg5 harg5 arg6 harg6 hA hM hL hQ hC c)
  iintro %r %hr
  obtain ⟨a0, d0, v2, v5, v8, v9, v10, v11, v12, v23, v27, v32, v33⟩ := r
  obtain rfl : c = d0 := hr.symm
  dsimp only
  rw [wp_bind]
  iapply (part18_later i arg1 harg1 arg2 harg2 arg3 harg3 arg4 harg4 arg5 harg5 arg6 harg6 hA hM hL hQ hC c v2 v5 v8 v9 v10 v11 v12 v23 v27 v33 v32 a0 h1)
  isplitl [Hqb]; · iexact Hqb
  isplitl [Hin]; · iexact Hin
  iintro %v34 %v45 ⟨Hqb, Hin⟩
  dsimp only
  rw [wp_bind]
  iapply (part19_wp i arg1 harg1 arg2 harg2 arg3 harg3 arg4 harg4 arg5 harg5 arg6 harg6 hA hM hL hQ hC c)
  isplitl [Hscr]; · iexact Hscr
  iintro Hscr
  dsimp only
  ihave Hscr := (Scr_elim c _) $$ Hscr
  icases Hscr with ⟨Ha, Hm, Hl⟩
  iapply (wp_load_full (c := (c : Thread nD τ)) (m := accM)) $$ Ha; iintro Ha
  iapply (wp_load_full (c := (c : Thread nD τ)) (m := accM)) $$ Ha; iintro Ha
  iapply (wp_store_full (c := (c : Thread nD τ)) (m := accM)) $$ Ha; iintro Ha
  iapply (wp_load_full (c := (c : Thread nD τ)) (m := mM)) $$ Hm; iintro Hm
  iapply (wp_store_full (c := (c : Thread nD τ)) (m := mM)) $$ Hm; iintro Hm
  rw [dif_pos h2]
  icases Hs with ⟨S0, S1, S2, S3, S4, S5⟩
  icases Hr with ⟨R0, R1, R2, R3, R4, R5⟩
  ihave Hscr := (Scr_intro c _ _ hst) $$ [Ha Hm Hl]
  · isplitl [Ha]; · iexact Ha
    isplitl [Hm]; · iexact Hm
    iexact Hl
  simp only [Prog.bind_assoc, Prog.bind_op, Prog.bind_ret]
  rw [wp_bind]
  iapply (part3_wp i arg1 harg1 arg2 harg2 arg3 harg3 arg4 harg4 arg5 harg5 arg6 harg6 hA hM hL hQ hC c v5 v8 v9 st')
  isplitl [Hscr]; · iexact Hscr
  isplitl [Hx]; · iexists X₀; iexact Hx
  iintro ⟨Hscr, Hx⟩
  ihave Hx := (split3 c _) $$ Hx
  icases Hx with ⟨B0, B1, B2⟩
  rw [wp_bind]
  iapply (part4_wp i arg1 harg1 arg2 harg2 arg3 harg3 arg4 harg4 arg5 harg5 arg6 harg6 hA hM hL hQ hC c pk K)
  isplitr; · iexact HC
  isplitl [B0]; · rw [hp 0 (by decide)]; iexact B0
  isplitl [B1]; · rw [hp 1 (by decide)]; iexact B1
  isplitl [S0]; · iexact S0
  isplitl [S1]; · iexact S1
  isplitl [Ho]; · iexact Ho
  iintro ⟨W0, W1, Ho⟩
  rw [wp_bind]
  iapply (part5_wp i arg1 harg1 arg2 harg2 arg3 harg3 arg4 harg4 arg5 harg5 arg6 harg6 hA hM hL hQ hC c pk K)
  isplitr; · iexact HC
  isplitl [B2]; · rw [hp 2 (by decide)]; iexact B2
  isplitl [S2]; · iexact S2
  isplitl [Ho]; · iexact Ho
  isplitl [W0]; · iexact W0
  isplitl [R0]; · iexact R0
  iintro ⟨W2, Ho, DS0, B0, DR0, L0⟩
  dsimp only
  rw [wp_bind]
  iapply (part6_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [W1]; · iexact W1
  iintro ⟨Hscr, Ho, DS1, B1⟩
  rw [wp_bind]
  iapply (part7_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [R1]; · iexact R1
  iintro ⟨Hscr, Ho, DR1, L1⟩
  dsimp only
  rw [wp_bind]
  iapply (part8_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [W2]; · iexact W2
  iintro ⟨Hscr, Ho, DS2, B2⟩
  rw [wp_bind]
  iapply (part9_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [R2]; · iexact R2
  iintro ⟨Hscr, Ho, DR2, L2⟩
  ihave Hx := (join3 c (stage st')) $$ [B0 B1 B2]
  · rw [hp 0 (by decide), hp 1 (by decide), hp 2 (by decide)]
    isplitl [B0]; · iexact B0
    isplitl [B1]; · iexact B1
    iexact B2
  rw [wp_bind]
  iapply (part10_wp i arg1 harg1 arg2 harg2 arg3 harg3 arg4 harg4 arg5 harg5 arg6 harg6 hA hM hL hQ hC c v2 v5 v23 _ (mergeA c pk st') rfl)
  isplitl [Hscr]; · iexists _; iexact Hscr
  isplitl [Hx]; · iexists _; iexact Hx
  iintro ⟨Hscr, Hx⟩
  ihave Hx := (split3 c _) $$ Hx
  icases Hx with ⟨B5, B4, B3⟩
  rw [wp_bind]
  iapply (part11_wp i arg1 harg1 arg2 harg2 arg3 harg3 arg4 harg4 arg5 harg5 arg6 harg6 hA hM hL hQ hC c pk K)
  isplitr; · iexact HC
  isplitl [B5]; · rw [hp' 5 (by decide)]; iexact B5
  isplitl [B4]; · rw [hp' 4 (by decide)]; iexact B4
  isplitl [S5]; · iexact S5
  isplitl [S4]; · iexact S4
  isplitl [Ho]; · iexact Ho
  iintro ⟨W5, W4, Ho⟩
  rw [wp_bind]
  iapply (part12_wp i arg1 harg1 arg2 harg2 arg3 harg3 arg4 harg4 arg5 harg5 arg6 harg6 hA hM hL hQ hC c pk K)
  isplitr; · iexact HC
  isplitl [B3]; · rw [hp' 3 (by decide)]; iexact B3
  isplitl [S3]; · iexact S3
  isplitl [Ho]; · iexact Ho
  isplitl [W5]; · iexact W5
  isplitl [R5]; · iexact R5
  iintro ⟨W3, Ho, DS5, B5, DR5, L5⟩
  dsimp only
  rw [wp_bind]
  iapply (part13_wp i arg1 harg1 arg2 harg2 arg3 harg3 arg4 harg4 arg5 harg5 arg6 harg6 hA hM hL hQ hC c)
  isplitl [Hscr]; · iexact Hscr
  isplitl [L5]; · iexact L5
  iintro ⟨Hscr, L5⟩
  rw [wp_bind]
  iapply (part14_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [W4]; · iexact W4
  isplitl [R4]; · iexact R4
  iintro ⟨Hscr, Ho, DS4, B4, DR4, L4⟩
  dsimp only
  rw [wp_bind]
  iapply (part15_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [W3]; · iexact W3
  iintro ⟨Hscr, Ho, DS3, B3⟩
  rw [wp_bind]
  iapply (part16_wp i arg1 harg1 arg2 harg2 arg3 harg3 arg4 harg4 arg5 harg5 arg6 harg6 hA hM hL hQ hC c pk K)
  isplitr; · iexact HC
  isplitl [Hscr]; · iexact Hscr
  isplitl [Ho]; · iexact Ho
  isplitl [R3]; · iexact R3
  iintro ⟨Hscr, Ho, DR3, L3⟩
  dsimp only
  ihave Hscr := (Scr_elim c _) $$ Hscr
  icases Hscr with ⟨Ha, Hm, Hl⟩
  iapply (wp_load_full (c := (c : Thread nD τ)) (m := accM)) $$ Ha; iintro Ha
  iapply (wp_store_full (c := (c : Thread nD τ)) (m := accM)) $$ Ha; iintro Ha
  iapply (wp_load_full (c := (c : Thread nD τ)) (m := accM)) $$ Ha; iintro Ha
  iapply (wp_load_full (c := (c : Thread nD τ)) (m := lM)) $$ Hl; iintro Hl
  iapply (wp_load_full (c := (c : Thread nD τ)) (m := arg6)) $$ H6; iintro H6
  iapply (wp_store_full (c := (c : Thread nD τ)) (m := arg6)) $$ H6; iintro H6
  rw [wp_ret]; imodintro
  ihave Hx := (join3 c (stage (mergeA c pk st'))) $$ [B3 B4 B5]
  · rw [hp' 3 (by decide), hp' 4 (by decide), hp' 5 (by decide)]
    isplitl [B5]; · iexact B5
    isplitl [B4]; · iexact B4
    iexact B3
  iapply Hk
  isplitl [Ho]; · iexact Ho
  rw [bigSep_six, bigSep_six, bigSep_six]
  isplitl [DS0 DS1 DS2 DS3 DS4 DS5]
  · isplitl [DS0]; · iexact DS0
    isplitl [DS1]; · iexact DS1
    isplitl [DS2]; · iexact DS2
    isplitl [DS3]; · iexact DS3
    isplitl [DS4] <;> iassumption
  isplitl [DR0 DR1 DR2 DR3 DR4 DR5]
  · isplitl [DR0]; · iexact DR0
    isplitl [DR1]; · iexact DR1
    isplitl [DR2]; · iexact DR2
    isplitl [DR3]; · iexact DR3
    isplitl [DR4] <;> iassumption
  isplitl [L0 L1 L2 L3 L4 L5]
  · isplitl [L0]; · iexists _; iexact L0
    isplitl [L1]; · iexists _; iexact L1
    isplitl [L2]; · iexists _; iexact L2
    isplitl [L3]; · iexists _; iexact L3
    isplitl [L4]; · iexists _; iexact L4
    iexists _; iexact L5
  isplitl [Hx]; · iexists _; iexact Hx
  isplitl [Ha Hm Hl]
  · iexists (mergeB c pk (mergeA c pk st'))
    iapply (Scr_intro c _ _ rfl)
    isplitl [Ha]; · iexact Ha
    isplitl [Hm]; · iexact Hm
    iexact Hl
  isplitl [Hqb]; · iexact Hqb
  isplitl [Hin]; · iexact Hin
  iexact H6

end Body

end Cert.Paged
-- ==== Proof.Slots.lean ====
/-
# The scratch buffers

The packet buffer is its seven slots; the kernel's scratch is the running state, the scaled queries and those slots.
-/
module

public import proofs.«01_k».proof.Proof.Body

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An element of the packet buffer is in slot `k` when its first coordinate is `k`. -/
theorem mem_slot (k : Fin 7) (i : S7x66x128.Idx) : i ∈ (slotM k).view.set ↔ (i 0).val = k.val := by
  rw [Memref.set_view_squeeze]
  show i ∈ (commM.view.slice (Rect.unit (s := S7x66x128) ![k.val, 0, 0] S1x66x128.size (slot_inb k))).set ↔ _
  rw [View.set_slice_whole, Rect.mem_set_unit]
  constructor
  · intro h
    have h0 : k.val ≤ (i 0).val ∧ (i 0).val < k.val + 1 := h 0
    omega
  · intro h x
    match x with
    | ⟨0, _⟩ => exact ⟨le_of_eq h.symm, by show (i 0).val < k.val + 1; omega⟩
    | ⟨1, _⟩ => exact ⟨Nat.zero_le _, by show (i 1).val < 0 + 66; have : (i 1).val < 66 := (i 1).isLt; omega⟩
    | ⟨2, _⟩ => exact ⟨Nat.zero_le _, by show (i 2).val < 0 + 128; have : (i 2).val < 128 := (i 2).isLt; omega⟩

/-- The elements of slot `k`. -/
def slotSet (k : Fin 7) : Finset S7x66x128.Idx := (slotM k).view.set

/-- The seven slots are disjoint, -/
theorem slots_disjoint : ∀ k ∈ (Finset.univ : Finset (Fin 7)), ∀ k' ∈ (Finset.univ : Finset (Fin 7)), k ≠ k' →
    Disjoint (slotSet k) (slotSet k') := fun k _ k' _ h =>
  Finset.disjoint_left.mpr fun i hi hi' => h (Fin.ext (((mem_slot k i).mp hi).symm.trans ((mem_slot k' i).mp hi')))

/-- and are all of the buffer. -/
theorem slots_union : (Finset.univ : Finset (Fin 7)).biUnion slotSet = Finset.univ :=
  Finset.eq_univ_iff_forall.mpr fun i => Finset.mem_biUnion.mpr ⟨⟨(i 0).val, (i 0).isLt⟩, Finset.mem_univ _, (mem_slot _ i).mpr rfl⟩

theorem bigSep_seven (Φ : Fin 7 → sProp 𝕄) : bigSep Finset.univ Φ = iprop(Φ 0 ∗ bigSep Finset.univ fun s : Fin 6 => Φ s.succ) := by
  rw [bigSep_univ_eq_bigSepL [0, 1, 2, 3, 4, 5, 6] (by decide) (by decide) Φ, bigSep_univ_eq_bigSepL [0, 1, 2, 3, 4, 5] (by decide) (by decide) fun s : Fin 6 => Φ s.succ]
  rfl

variable (c : Dev nD)

/-- The whole packet buffer. -/
abbrev commL : Loc nD τ sig := (c : Thread nD τ).loc cc0_scratch4

theorem slot_intro (k : Fin 7) (f : Buf (Elt F) (commL c)) : (commL c ↦[slotSet k]{fullShare} f : sProp 𝕄) ⊢ iprop(∃ X, owns (c : Thread nD τ) (slotM k) fullShare X) :=
  (owns_intro (c : Thread nD τ) (slotM k) fullShare f).trans (exists_intro (Φ := fun X => owns (c : Thread nD τ) (slotM k) fullShare X) _)

theorem slot_elim (k : Fin 7) : (iprop(∃ X, owns (c : Thread nD τ) (slotM k) fullShare X) : sProp 𝕄) ⊢ iprop(∃ f : Buf (Elt F) (commL c), commL c ↦[slotSet k]{fullShare} f) := by
  unfold owns
  refine exists_elim fun X => exists_elim fun f => ?_
  have h : (((slotM k).view.loc (c : Thread nD τ)) ↦[(slotM k).view.set]{fullShare} f : sProp 𝕄) ⊢ iprop(∃ f : Buf (Elt F) (commL c), commL c ↦[slotSet k]{fullShare} f) :=
    exists_intro (Φ := fun f : Buf (Elt F) (commL c) => (commL c ↦[slotSet k]{fullShare} f : sProp 𝕄)) f
  iintro ⟨-, H⟩
  iapply h
  iexact H

/-- The packet buffer at some contents is its slots, each at some packet; -/
theorem slots_split : iprop(∃ f : Buf (Elt F) (commL c), (commL c) ↦{fullShare} f)
    ⊢ (iprop((∃ X, owns (c : Thread nD τ) (slotM 0) fullShare X) ∗ bigSep Finset.univ fun s : Fin 6 => iprop(∃ X, owns (c : Thread nD τ) (slotM s.succ) fullShare X)) : sProp 𝕄) := by
  rw [← bigSep_seven fun k : Fin 7 => iprop(∃ X, owns (c : Thread nD τ) (slotM k) fullShare X)]
  refine exists_elim fun f => ?_
  have h1 : ((commL c) ↦{fullShare} f : sProp 𝕄) ⊢ bigSep Finset.univ fun k : Fin 7 => (commL c ↦[slotSet k]{fullShare} f : sProp 𝕄) := by
    rw [← pointsTo_biUnion (ℓ := commL c) Finset.univ slotSet slots_disjoint, slots_union]
  exact h1.trans (bigSep_mono fun k _ => slot_intro c k f)

/-- and back. -/
theorem slots_join : (iprop((∃ X, owns (c : Thread nD τ) (slotM 0) fullShare X) ∗ bigSep Finset.univ fun s : Fin 6 => iprop(∃ X, owns (c : Thread nD τ) (slotM s.succ) fullShare X)) : sProp 𝕄)
    ⊢ iprop(∃ f : Buf (Elt F) (commL c), (commL c) ↦{fullShare} f) := by
  rw [← bigSep_seven fun k : Fin 7 => iprop(∃ X, owns (c : Thread nD τ) (slotM k) fullShare X)]
  refine (bigSep_mono fun k _ => slot_elim c k).trans ?_
  have h0 : (bigSep Finset.univ fun k : Fin 7 => iprop(∃ f : Buf (Elt F) (commL c), commL c ↦[slotSet k]{fullShare} f) : sProp 𝕄)
      ⊢ iprop(∃ fs : Fin 7 → Buf (Elt F) (commL c), bigSep Finset.univ fun k : Fin 7 => (commL c ↦[slotSet k]{fullShare} fs k : sProp 𝕄)) := by
    rw [bigSep_seven, bigSep_six]
    iintro ⟨⟨%f0, H0⟩, ⟨%f1, H1⟩, ⟨%f2, H2⟩, ⟨%f3, H3⟩, ⟨%f4, H4⟩, ⟨%f5, H5⟩, ⟨%f6, H6⟩⟩
    iexists ![f0, f1, f2, f3, f4, f5, f6]
    have h : (iprop((commL c ↦[slotSet 0]{fullShare} f0) ∗ (commL c ↦[slotSet 1]{fullShare} f1) ∗ (commL c ↦[slotSet 2]{fullShare} f2) ∗ (commL c ↦[slotSet 3]{fullShare} f3)
        ∗ (commL c ↦[slotSet 4]{fullShare} f4) ∗ (commL c ↦[slotSet 5]{fullShare} f5) ∗ (commL c ↦[slotSet 6]{fullShare} f6)) : sProp 𝕄)
        ⊢ bigSep Finset.univ fun k : Fin 7 => (commL c ↦[slotSet k]{fullShare} (![f0, f1, f2, f3, f4, f5, f6] : Fin 7 → Buf (Elt F) (commL c)) k : sProp 𝕄) := by
      rw [bigSep_seven, bigSep_six]
      exact Entails.refl _
    iapply h
    isplitl [H0]; · iexact H0
    isplitl [H1]; · iexact H1
    isplitl [H2]; · iexact H2
    isplitl [H3]; · iexact H3
    isplitl [H4]; · iexact H4
    isplitl [H5]; · iexact H5
    iexact H6
  refine h0.trans (exists_elim fun fs => (pointsTo_biUnion_join (ℓ := commL c) Finset.univ slotSet fs (fs 0) slots_disjoint).trans (exists_elim fun g => ?_))
  rw [slots_union]
  iintro ⟨-, H⟩
  iexists g
  iexact H

/-- The scratch as the body takes it. -/
def Scratch : sProp 𝕄 := iprop((∃ st, Scr (F := F) c st) ∗ (∃ q, owns (c : Thread nD τ) qM fullShare q)
  ∗ (∃ X, owns (c : Thread nD τ) (slotM 0) fullShare X) ∗ bigSep Finset.univ fun s : Fin 6 => iprop(∃ X, owns (c : Thread nD τ) (slotM s.succ) fullShare X))

theorem scratch_open : (Pipeline.scopedRest (Ix := Unit) (Name := ℕ) (U := UU) (Lvl := ℕ) (Val := Elt F) spec0 c : sProp 𝕄) ⊢ Scratch (F := F) c := by
  rw [scopedRest0_eq]
  unfold Scratch Scr
  iintro ⟨⟨%f0, H0⟩, ⟨%f1, H1⟩, ⟨%f2, H2⟩, ⟨%f3, H3⟩, H4⟩
  ihave H4 := (slots_split c) $$ H4
  isplitl [H0 H1 H2]
  · iexists (f0, f1, f2)
    rw [owns_whole, owns_whole, owns_whole]
    isplitl [H0]; · iexact H0
    isplitl [H1]; · iexact H1
    iexact H2
  isplitl [H3]
  · iexists f3
    rw [owns_whole]
    iexact H3
  iexact H4

theorem scratch_close : Scratch (F := F) c ⊢ (Pipeline.scopedRest (Ix := Unit) (Name := ℕ) (U := UU) (Lvl := ℕ) (Val := Elt F) spec0 c : sProp 𝕄) := by
  rw [scopedRest0_eq]
  unfold Scratch Scr
  iintro ⟨⟨%st, HS⟩, ⟨%q, H3⟩, H4⟩
  have hs : (iprop(owns (c : Thread nD τ) accM fullShare st.1 ∗ owns (c : Thread nD τ) mM fullShare st.2.1 ∗ owns (c : Thread nD τ) lM fullShare st.2.2) : sProp 𝕄)
      ⊢ iprop((((c : Thread nD τ).loc cc0_scratch0) ↦{fullShare} st.1) ∗ (((c : Thread nD τ).loc cc0_scratch1) ↦{fullShare} st.2.1) ∗ (((c : Thread nD τ).loc cc0_scratch2) ↦{fullShare} st.2.2)) := by
    rw [owns_whole, owns_whole, owns_whole]
  have hq : (owns (c : Thread nD τ) qM fullShare q : sProp 𝕄) ⊢ (((c : Thread nD τ).loc cc0_scratch3) ↦{fullShare} q) := by
    rw [owns_whole]
  ihave HS := hs $$ HS
  icases HS with ⟨H0, H1, H2⟩
  ihave H3 := hq $$ H3
  ihave H4 := (slots_join c) $$ H4
  isplitl [H0]; · iexists _; iexact H0
  isplitl [H1]; · iexists _; iexact H1
  isplitl [H2]; · iexists _; iexact H2
  isplitl [H3]; · iexists _; iexact H3
  iexact H4

end Cert.Paged
-- ==== Proof.Host.lean ====
module

public import proofs.«01_k».proof.Proof.Body
public import proofs.«01_k».proof.Proof.Gen.KernelIdeal.Regions
public import Idealize.ShloMosaic.Lib.StableHlo.RunRead

@[expose] public section

set_option maxRecDepth 16000

noncomputable section

namespace Cert.Paged

open Idealize.ShloMosaic Idealize.ShloMosaic.TcCoe
open Idealize.SL Idealize.SL.RA Idealize.SL.BI
open Cert.KernelIdeal Cert.KernelIdeal.Gen

variable {F : FTy → Type} [FloatOps F]
variable (m : (ℓ : Loc nD τ sig) → Buf (Elt F) ℓ)

/-- The table a device prefetches: the one word y * 4 + z of its place in the mesh. -/
def tab (c : Dev nD) : pre0.Contents (Elt F) := fun
  | 0 => fun _ => BitVec.ofNat 32 (c.val % 8)
  | ⟨_ + 1, h⟩ => absurd h (Nat.not_lt.2 (Nat.le_add_left _ _))

/-- The host operations leave that word in the table's buffer. -/
theorem V1_v46 (c : Dev nD) : V1 m c main_v46 = tab (F := F) c 0 := by
  show StableHlo.after (hostOps0 c) (V0 m c) (Proc.devRef .tc main_v46) = _
  after_reads_simp
  funext i
  show IntOp.addi (IntOp.muli (IntOp.remui .host (IntOp.divui .host c.word 4#32) 2#32) 4#32) (IntOp.remui .host (IntOp.divui .host c.word 1#32) 4#32) = BitVec.ofNat 32 (c.val % 8)
  revert c; decide

/-- The block of pages a device folds at a grid point. -/
theorem transform_1_eq (c : Dev nD) (i : grid0.Coords) :
    cc0_transform_1 inb_S1_S1_0 numel1_S1 (tab (F := F) c) i = ![c.val % 8 * 2 + (i 0).val, 0, 0, 0] := by
  show ![(Scalar.addi (Scalar.muli (BitVec.ofNat 32 (c.val % 8)) 2#32) (BitVec.ofNat 32 (i 0).val)).toNat, 0, 0, 0] = _
  have h : ∀ (c : Dev nD) (j : Fin 2), (Scalar.addi (Scalar.muli (BitVec.ofNat 32 (c.val % 8)) 2#32) (BitVec.ofNat 32 j.val)).toNat = c.val % 8 * 2 + j.val := by decide
  rw [h c (i 0)]

theorem transform_2_eq (c : Dev nD) (i : grid0.Coords) :
    cc0_transform_2 inb_S1_S1_0 numel1_S1 (tab (F := F) c) i = ![c.val % 8 * 2 + (i 0).val, 0, 0, 0] := transform_1_eq c i

theorem ok_tab (c : Dev nD) : ok0 (tab (F := F) c) := by
  have hb (i : grid0.Coords) (a : Fin 4) : ((![c.val % 8 * 2 + (i 0).val, 0, 0, 0] : Fin 4 → ℕ) a + 1) * S32x16x8x128.size a ≤ S512x16x8x128.size a := by
    have h0 : (i 0).val < 2 := (i 0).isLt
    fin_cases a
    · show (c.val % 8 * 2 + (i 0).val + 1) * 32 ≤ 512
      omega
    all_goals exact of_decide_eq_true rfl
  refine ⟨fun i => ⟨fun a => ?_, .inr (Affine.block_words_dvd (of_decide_eq_true rfl) (by decide))⟩,
    fun i => ⟨fun a => ?_, .inr (Affine.block_words_dvd (of_decide_eq_true rfl) (by decide))⟩⟩
  · rw [transform_1_eq]; exact hb i a
  · rw [transform_2_eq]; exact hb i a

/-- The table as the region admits it. -/
def adm (c : Dev nD) : (p : Fin 1) → (pcfgs (F := F) p).Adm := fun _ => ⟨tab c, ok_tab c⟩

end Cert.Paged
-- ==== Proof.Data.lean ====
/-
# The run's data

The blocks a device reads, the state its two chunks leave, the packets it sends, and the proof data of the pipeline.
-/
module

public import proofs.«01_k».proof.Proof.Slots
public import proofs.«01_k».proof.Proof.Host

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (c : Dev nD)

/-- The pipeline at the table device `c` prefetches. -/
abbrev cfgD : Cfg sig Λ₀ := Pipeline.pinD (pcfgs (F := F)) adm c 0

/-- The block of window `w` at point `t`, of the arrays as the region finds them. -/
def inB (w : Fin (cfgD (F := F) c).W) (t : Fin (cfgD (F := F) c).N) : ((cfgD (F := F) c).win w).block.Idx → Elt F ((cfgD (F := F) c).win w).elt :=
  (((cfgD (F := F) c).win w).blk t).view.read (Elt F) (V1 m c (Pipeline.arrRef spec0 w))

/-- The four input blocks. -/
def qIn (t : Fin grid0.N) : S8x1x8x128.Idx → Elt F .bf16 := inB m c 0 t
def kIn (t : Fin grid0.N) : S32x16x8x128.Idx → Elt F .bf16 := inB m c 1 t
def vIn (t : Fin grid0.N) : S32x16x8x128.Idx → Elt F .bf16 := inB m c 2 t
def cIn (t : Fin grid0.N) : S8x512.Idx → Elt F .f32 := inB m c 3 t

/-- The scaled queries, the state after the first chunk and after both. -/
def qb : S64x1024.Idx → Elt F .f32 := qbd (qIn m c t0_0)
def loc1 : St F := chunk st₀ (qb m c) (kIn m c t0_0) (vIn m c t0_0) (cIn m c t0_0)
def loc : St F := chunk (loc1 m c) (qb m c) (kIn m c t0_1) (vIn m c t0_1) (cIn m c t0_1)

/-- The packets: a device's own state in the first three slots, the state after their merge in the last three. -/
def pkA (s : Fin 6) (c : Dev nD) : S66x128.Idx → Elt F .bf16 := stage (loc m c)
def sum1 : St F := mergeA c (pkA m) (loc m c)
def pk (s : Fin 6) (c : Dev nD) : S66x128.Idx → Elt F .bf16 := if s.val < 3 then stage (loc m c) else stage (sum1 m c)

theorem mergeA_pk : mergeA c (pk m) (loc m c) = sum1 m c := rfl

/-- The state after both exchanges, and the result. -/
def sum2 : St F := mergeB c (pk m) (sum1 m c)
def res : S8x1x8x128.Idx → Elt F .f32 := k0_pay4 (sum2 m c).1 (sum2 m c).2.2

theorem pk_low (s : Fin 6) (hs : s.val < 3) : pk m s c = stage (loc m c) := if_pos hs
theorem pk_high (s : Fin 6) (hs : 3 ≤ s.val) : pk m s c = stage (mergeA c (pk m) (loc m c)) := by
  rw [mergeA_pk]; exact if_neg (by omega)

/-! ## The invariants -/

/-- What a signal takes, beside the slot it lends. -/
def Sig₀ (s : Fin 6) : sProp 𝕄 := iprop(dutyTok ER (barC (src s c)) 0 s ∗ reached ER (barC (src s c)) 0 ∗ reached ER (recvC c s) 0)
/-- What a send takes, beside the slot it is lent. -/
def Snd₀ (s : Fin 6) : sProp 𝕄 := iprop(dutyTok ER (sendC c s) 0 0 ∗ reached ER (sendC c s) 0 ∗ dutyTok ER (recvC (tgt s c) s) 0 0 ∗ atPos ER (sendC c s) 0 ∅ 0)

/-- What a device brings to the region: the cells' invariants and what its own signals, sends and waits take. -/
def Start : sProp 𝕄 := iprop((∃ K, Ctx (F := F) (pk m) K) ∗ bigSep Finset.univ (Sig₀ (F := F) c) ∗ BarRes (F := F) c
  ∗ bigSep Finset.univ (Snd₀ (F := F) c) ∗ bigSep Finset.univ (Wr (F := F) c))

/-- Between the points: the barrier passed, the first chunk folded. -/
def Mid : sProp 𝕄 := iprop((∃ K, Ctx (F := F) (pk m) K) ∗ DoneB (F := F) c ∗ bigSep Finset.univ (SendRes (F := F) c) ∗ bigSep Finset.univ (Wr (F := F) c)
  ∗ Scr c (loc1 m c) ∗ owns (c : Thread nD τ) qM fullShare (qb m c) ∗ (∃ X, owns (c : Thread nD τ) (slotM 0) fullShare X))

/-- A slot's two counters at zero. -/
def Zero (s : Fin 6) : sProp 𝕄 := iprop(semVal (sendC c s) 0 ∗ semVal (recvC c s) 0)
/-- At the end: every counter of the exchange at zero. -/
def Done : sProp 𝕄 := iprop(semVal (barC c) 0 ∗ bigSep Finset.univ (Zero (F := F) c))

/-- The pipeline's proof data. -/
def dat : Dat τ (Elt F) Unit ℕ UU ℕ (cfgD (F := F) c) c where
  A w := V1 m c (Pipeline.arrRef spec0 w)
  after w t := match w with
    | ⟨0, _⟩ => inB m c 0 t
    | ⟨1, _⟩ => inB m c 1 t
    | ⟨2, _⟩ => inB m c 2 t
    | ⟨3, _⟩ => inB m c 3 t
    | ⟨4, _⟩ => res m c
  Φ t := if t.val = 0 then iprop(Start m c ∗ Scratch (F := F) c) else if t.val = 1 then Mid m c else iprop(Done (F := F) c ∗ Scratch (F := F) c)
  q _ := fullShare
  owed t := if t.val = 0 then O₀ c else if t.val = 1 then owR c [0, 1, 2, 5, 4, 3] else 0

def pdats : (p : Fin 1) → (c : Dev nD) → Dat τ (Elt F) Unit ℕ UU ℕ (Pipeline.pinD (pcfgs (F := F)) adm c p) c
  | 0 => dat m

theorem Φ_0 : (dat m c).Φ t0_0.castSucc = iprop(Start m c ∗ Scratch (F := F) c) := rfl
theorem Φ_1 : (dat m c).Φ t0_0.succ = Mid m c := rfl
theorem Φ_1' : (dat m c).Φ t0_1.castSucc = Mid m c := rfl
theorem Φ_2 : (dat m c).Φ t0_1.succ = iprop(Done (F := F) c ∗ Scratch (F := F) c) := rfl
theorem owed_0 : (dat m c).owed t0_0.castSucc = owB c [0, 1, 2, 3, 4, 5] := rfl
theorem owed_1 : (dat m c).owed t0_0.succ = owR c [0, 1, 2, 5, 4, 3] := rfl
theorem owed_1' : (dat m c).owed t0_1.castSucc = owR c [0, 1, 2, 5, 4, 3] := rfl
theorem owed_2 : (dat m c).owed t0_1.succ = owR c [] := rfl

/-- The core's debts as a point's and back. -/
theorem owesAt_of (d : Dat τ (Elt F) Unit ℕ UU ℕ (cfgD (F := F) c) c) (t : Fin ((cfgD (F := F) c).N + 1)) (O : CellTallies nD τ sig Unit) (h0 : d.owed t = O)
    (hr : d.recorded t = Set.univ) : (iprop(∃ W, owes (c : Thread nD τ) O W) : sProp 𝕄) ⊢ d.owesAt () t := by
  unfold Dat.owesAt Pipeline.owesWithin Dat.bound
  rw [h0, hr]
  iintro ⟨%W, H⟩
  iexists W
  isplitr
  · ipureintro; exact fun _ _ => Or.inl trivial
  iexact H
theorem of_owesAt (d : Dat τ (Elt F) Unit ℕ UU ℕ (cfgD (F := F) c) c) (t : Fin ((cfgD (F := F) c).N + 1)) (O : CellTallies nD τ sig Unit) (h0 : d.owed t = O) :
    (d.owesAt () t : sProp 𝕄) ⊢ iprop(∃ W, owes (c : Thread nD τ) O W) := by
  unfold Dat.owesAt Pipeline.owesWithin
  rw [h0]
  iintro ⟨%W, -, H⟩
  iexists W
  iexact H

/-- An input window holds its block at every point. -/
theorem before_in (w : Fin (cfgD (F := F) c).W) (hw : ((cfgD (F := F) c).win w).isOut = false) (hlive : ∀ i, (cfgD (F := F) c).idle w i = false)
    (hclip : ∀ t t' : Fin (cfgD (F := F) c).N, ((cfgD (F := F) c).win w).index t = ((cfgD (F := F) c).win w).index t' →
      ((cfgD (F := F) c).win w).clip ((cfgD (F := F) c).grid.coords t) = ((cfgD (F := F) c).win w).clip ((cfgD (F := F) c).grid.coords t'))
    (hkeep : ∀ t, ((cfgD (F := F) c).win w).cut ((cfgD (F := F) c).grid.coords t) ((dat m c).after w t) = (dat m c).blockOf w t) (t : Fin (cfgD (F := F) c).N) (d) :
    (dat m c).before w t d = (dat m c).fetched w t d :=
  (dat m c).before_in_eq_fetched w hw hlive hclip hkeep t d

theorem before_0 (t : Fin grid0.N) (d) : (dat m c).before 0 t d = qIn m c t := before_in m c 0 rfl (fun _ => rfl) (fun _ _ _ => rfl) (fun _ => rfl) t d
theorem before_1 (t : Fin grid0.N) (d) : (dat m c).before 1 t d = kIn m c t := before_in m c 1 rfl (fun _ => rfl) (fun _ _ _ => rfl) (fun _ => rfl) t d
theorem before_2 (t : Fin grid0.N) (d) : (dat m c).before 2 t d = vIn m c t := before_in m c 2 rfl (fun _ => rfl) (fun _ _ _ => rfl) (fun _ => rfl) t d
theorem before_3 (t : Fin grid0.N) (d) : (dat m c).before 3 t d = cIn m c t := before_in m c 3 rfl (fun _ => rfl) (fun _ _ _ => rfl) (fun _ => rfl) t d

end Cert.Paged
-- ==== Proof.Points.lean ====
/-
# The body at the two points

The pipeline's body obligation, from the body's run at each point.
-/
module

public import proofs.«01_k».proof.Proof.Data

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (c : Dev nD)

/-- The staging buffer of window `w` at point `t`. -/
abbrev stg (w : Fin (cfgD (F := F) c).W) (t : Fin (cfgD (F := F) c).N) := ((cfgD (F := F) c).win w).stage ((cfgD (F := F) c).slots t w)

/-- The body of point `t`. -/
abbrev bodyAt (t : Fin (cfgD (F := F) c).N) := defs₀ (F := F) .tc (cfgD (F := F) c).body ((cfgD (F := F) c).bodyArgs t ((cfgD (F := F) c).slots t))

theorem run_first (K : GSem nD τ sig → ℕ) {Q : PUnit → sProp 𝕄} :
    iprop(Ctx (F := F) (pk m) K ∗ OwesB (F := F) c [0, 1, 2, 3, 4, 5] ∗ bigSep Finset.univ (SigRes (F := F) c) ∗ BarRes (F := F) c
        ∗ (∃ st, Scr (F := F) c st) ∗ (∃ q, owns (c : Thread nD τ) qM fullShare q) ∗ owns (c : Thread nD τ) (stg (F := F) c 0 t0_0) fullShare (qIn m c t0_0)
        ∗ Ins (stg (F := F) c 1 t0_0) (stg (F := F) c 2 t0_0) (stg (F := F) c 3 t0_0) c (kIn m c t0_0) (vIn m c t0_0) (cIn m c t0_0)
        ∗ ((Owes (F := F) c [0, 1, 2, 5, 4, 3] ∗ DoneB (F := F) c ∗ bigSep Finset.univ (barPay (F := F) c) ∗ Scr c (loc1 m c)
            ∗ owns (c : Thread nD τ) (stg (F := F) c 0 t0_0) fullShare (qIn m c t0_0) ∗ owns (c : Thread nD τ) qM fullShare (qb m c)
            ∗ Ins (stg (F := F) c 1 t0_0) (stg (F := F) c 2 t0_0) (stg (F := F) c 3 t0_0) c (kIn m c t0_0) (vIn m c t0_0) (cIn m c t0_0))
          -∗ Q ⟨⟩))
      ⊢ wp frame (wpE (defs₀ (F := F)) 𝒱₀ (c : Thread nD τ) none) Set.univ (bodyAt (F := F) c t0_0) Q :=
  body_first (grid0.coords t0_0) (Memref.whole main_v46) (Memref.isWhole_whole _) _ _ _ _ _ _ _ _ _ _ _ _ _ _ _ c (pk m) K (by decide) (by decide) _ _ _ _

theorem run_second (K : GSem nD τ sig → ℕ) {Q : PUnit → sProp 𝕄} :
    iprop(Ctx (F := F) (pk m) K ∗ Owes (F := F) c [0, 1, 2, 5, 4, 3] ∗ bigSep Finset.univ (SendRes (F := F) c) ∗ bigSep Finset.univ (Wr (F := F) c)
        ∗ Scr c (loc1 m c) ∗ (∃ X, owns (c : Thread nD τ) (slotM 0) fullShare X) ∗ owns (c : Thread nD τ) qM fullShare (qb m c)
        ∗ Ins (stg (F := F) c 1 t0_1) (stg (F := F) c 2 t0_1) (stg (F := F) c 3 t0_1) c (kIn m c t0_1) (vIn m c t0_1) (cIn m c t0_1)
        ∗ (∃ o, owns (c : Thread nD τ) (stg (F := F) c 4 t0_1) fullShare o)
        ∗ ((Owes (F := F) c [] ∗ bigSep Finset.univ (DoneS (F := F) c) ∗ bigSep Finset.univ (DoneR (F := F) c)
            ∗ bigSep Finset.univ (fun s : Fin 6 => iprop(∃ X, owns (c : Thread nD τ) (slotM s.succ) fullShare X)) ∗ (∃ X, owns (c : Thread nD τ) (slotM 0) fullShare X)
            ∗ (∃ st, Scr (F := F) c st) ∗ owns (c : Thread nD τ) qM fullShare (qb m c)
            ∗ Ins (stg (F := F) c 1 t0_1) (stg (F := F) c 2 t0_1) (stg (F := F) c 3 t0_1) c (kIn m c t0_1) (vIn m c t0_1) (cIn m c t0_1)
            ∗ owns (c : Thread nD τ) (stg (F := F) c 4 t0_1) fullShare (res m c))
          -∗ Q ⟨⟩))
      ⊢ wp frame (wpE (defs₀ (F := F)) 𝒱₀ (c : Thread nD τ) none) Set.univ (bodyAt (F := F) c t0_1) Q :=
  body_second (grid0.coords t0_1) (Memref.whole main_v46) (Memref.isWhole_whole _) (stg (F := F) c 0 t0_1) _ _ _ _ _ _ _ _ _ _ _ _ _ _ c (pk m) K (by decide) (by decide) (loc1 m c) (loc m c) (qb m c) _ _ _ rfl
    (pk_low m c) (pk_high m c)

/-- A waited cell, closed: its counter reads zero. -/
theorem close_cell (K : GSem nD τ sig → ℕ) {g : GSem nD τ sig} (hg : g ∈ barCells ∪ dmaCells) :
    (iprop(Ctx (F := F) (pk m) K ∗ atPos ER g 1 ∅ 0) : sProp 𝕄) ⊢ |={Set.univ}=> semVal g 0 := by
  iintro ⟨#HC, H⟩
  ihave #HI := (Ctx_cell (F := F) (pk m) K hg) $$ HC
  imod (Rounds.cell_close ER (Rd (pk m)) (Set.mem_univ _) (fun h => h) (R := 0 + 1) (duties_later (pk m) _)) $$ [H] with H
  · isplitr; · iexact HI
    iexact H
  imodintro
  iexact H

theorem close_slot (K : GSem nD τ sig → ℕ) (s : Fin 6) :
    (iprop(Ctx (F := F) (pk m) K ∗ DoneS (F := F) c s ∗ DoneR (F := F) c s) : sProp 𝕄) ⊢ |={Set.univ}=> Zero (F := F) c s := by
  unfold DoneS DoneR Zero
  iintro ⟨#HC, H1, H2⟩
  imod (close_cell m K (mem_send c s)) $$ [H1] with H1
  · isplitr; · iexact HC
    iexact H1
  imod (close_cell m K (mem_recv c s)) $$ [H2] with H2
  · isplitr; · iexact HC
    iexact H2
  imodintro
  isplitl [H1] <;> iassumption

/-- Every cell of the device closed after its waits. -/
theorem close_all (K : GSem nD τ sig → ℕ) :
    (iprop(Ctx (F := F) (pk m) K ∗ DoneB (F := F) c ∗ bigSep Finset.univ (DoneS (F := F) c) ∗ bigSep Finset.univ (DoneR (F := F) c)) : sProp 𝕄) ⊢ |={Set.univ}=> Done (F := F) c := by
  have hs : (iprop(Ctx (F := F) (pk m) K ∗ bigSep Finset.univ fun s : Fin 6 => iprop(DoneS (F := F) c s ∗ DoneR (F := F) c s)) : sProp 𝕄)
      ⊢ |={Set.univ}=> bigSep Finset.univ (Zero (F := F) c) :=
    ((sep_mono_left (BI.bigSep_of_persistent Finset.univ (Ctx (F := F) (pk m) K))).trans (by rw [← bigSep_sep']; exact bigSep_mono fun s _ => close_slot m c K s)).trans (bigSep_fupd _ _)
  unfold Done DoneB
  iintro ⟨#HC, HB, HS, HR⟩
  imod (close_cell m K (mem_bar c)) $$ [HB] with HB
  · isplitr; · iexact HC
    iexact HB
  imod hs $$ [HS HR] with HZ
  · isplitr; · iexact HC
    rw [bigSep_sep']
    isplitl [HS] <;> iassumption
  imodintro
  isplitl [HB] <;> iassumption

theorem sig_one (s : Fin 6) : (iprop(Sig₀ (F := F) c s ∗ ∃ X, owns (c : Thread nD τ) (slotM s.succ) fullShare X) : sProp 𝕄) ⊢ SigRes (F := F) c s := by
  unfold Sig₀ SigRes
  iintro ⟨⟨H1, H2, H3⟩, H4⟩
  isplitl [H1]; · iexact H1
  isplitl [H2]; · iexact H2
  isplitl [H4]; · iexact H4
  iexact H3

/-- What a signal takes, the slot it lends put in; -/
theorem sig_join : (iprop(bigSep Finset.univ (Sig₀ (F := F) c) ∗ bigSep Finset.univ fun s : Fin 6 => iprop(∃ X, owns (c : Thread nD τ) (slotM s.succ) fullShare X)) : sProp 𝕄)
    ⊢ bigSep Finset.univ (SigRes (F := F) c) := by
  rw [← bigSep_sep']
  exact bigSep_mono fun s _ => sig_one c s

/-- what a send takes, the slot it is lent put in. -/
theorem snd_join : (iprop(bigSep Finset.univ (barPay (F := F) c) ∗ bigSep Finset.univ (Snd₀ (F := F) c)) : sProp 𝕄) ⊢ bigSep Finset.univ (SendRes (F := F) c) := by
  rw [← bigSep_sep']
  exact bigSep_mono fun s _ => Entails.refl _

/-- The five windows at a point: the inputs at their blocks, the output's buffer as given. -/
def Wins (t : Fin (cfgD (F := F) c).N) (O : sProp 𝕄) : sProp 𝕄 :=
  iprop(owns (c : Thread nD τ) (stg (F := F) c 0 t) fullShare (qIn m c t) ∗ owns (c : Thread nD τ) (stg (F := F) c 1 t) fullShare (kIn m c t)
    ∗ owns (c : Thread nD τ) (stg (F := F) c 2 t) fullShare (vIn m c t) ∗ owns (c : Thread nD τ) (stg (F := F) c 3 t) fullShare (cIn m c t) ∗ O)

/-- The windows before a point. -/
theorem wins_before (t : Fin (cfgD (F := F) c).N) :
    (bigSep Finset.univ fun w : Fin (cfgD (F := F) c).W => iprop(∃ d, owns (c : Thread nD τ) (stg (F := F) c w t) fullShare ((dat m c).before w t d)))
      ⊢ Wins m c t iprop(∃ d, owns (c : Thread nD τ) (stg (F := F) c 4 t) fullShare ((dat m c).before 4 t d)) := by
  refine (Entails.of_eq (bigSep_W0 _)).trans ?_
  unfold Wins
  have h0 : (iprop(∃ d, owns (c : Thread nD τ) (stg (F := F) c 0 t) fullShare ((dat m c).before 0 t d)) : sProp 𝕄) ⊢ owns (c : Thread nD τ) (stg (F := F) c 0 t) fullShare (qIn m c t) :=
    exists_elim fun d => by rw [before_0]
  have h1 : (iprop(∃ d, owns (c : Thread nD τ) (stg (F := F) c 1 t) fullShare ((dat m c).before 1 t d)) : sProp 𝕄) ⊢ owns (c : Thread nD τ) (stg (F := F) c 1 t) fullShare (kIn m c t) :=
    exists_elim fun d => by rw [before_1]
  have h2 : (iprop(∃ d, owns (c : Thread nD τ) (stg (F := F) c 2 t) fullShare ((dat m c).before 2 t d)) : sProp 𝕄) ⊢ owns (c : Thread nD τ) (stg (F := F) c 2 t) fullShare (vIn m c t) :=
    exists_elim fun d => by rw [before_2]
  have h3 : (iprop(∃ d, owns (c : Thread nD τ) (stg (F := F) c 3 t) fullShare ((dat m c).before 3 t d)) : sProp 𝕄) ⊢ owns (c : Thread nD τ) (stg (F := F) c 3 t) fullShare (cIn m c t) :=
    exists_elim fun d => by rw [before_3]
  exact BI.sep_mono h0 (BI.sep_mono h1 (BI.sep_mono h2 (BI.sep_mono h3 (Entails.refl _))))

/-- A device's run of the first point. -/
theorem point_first {Q : PUnit → sProp 𝕄} :
    iprop((Start m c ∗ Scratch (F := F) c) ∗ OwesB (F := F) c [0, 1, 2, 3, 4, 5]
        ∗ Wins m c t0_0 iprop(∃ d, owns (c : Thread nD τ) (stg (F := F) c 4 t0_0) fullShare ((dat m c).before 4 t0_0 d))
        ∗ ((Mid m c ∗ Owes (F := F) c [0, 1, 2, 5, 4, 3] ∗ Wins m c t0_0 iprop(∃ d, owns (c : Thread nD τ) (stg (F := F) c 4 t0_0) fullShare ((dat m c).before 4 t0_0 d))) -∗ Q ⟨⟩))
      ⊢ wp frame (wpE (defs₀ (F := F)) 𝒱₀ (c : Thread nD τ) none) Set.univ (bodyAt (F := F) c t0_0) Q := by
  unfold Start Scratch Mid Wins
  iintro ⟨⟨⟨⟨%K, #HC⟩, Hsig, Hbar, Hsnd, Hwr⟩, Hst, Hq, Hx0, Hsl⟩, Ho, ⟨H0, H1, H2, H3, H4⟩, Hk⟩
  ihave Hs := (sig_join c) $$ [Hsig Hsl]
  · isplitl [Hsig] <;> iassumption
  iapply (run_first m c K)
  isplitr; · iexact HC
  isplitl [Ho]; · iexact Ho
  isplitl [Hs]; · iexact Hs
  isplitl [Hbar]; · iexact Hbar
  isplitl [Hst]; · iexact Hst
  isplitl [Hq]; · iexact Hq
  isplitl [H0]; · iexact H0
  isplitl [H1 H2 H3]
  · unfold Ins
    isplitl [H1]; · iexact H1
    isplitl [H2]; · iexact H2
    iexact H3
  unfold Ins
  iintro ⟨Ho, Hd, Hp, Hst, H0, Hq, ⟨H1, H2, H3⟩⟩
  ihave Hs := (snd_join c) $$ [Hp Hsnd]
  · isplitl [Hp] <;> iassumption
  iapply Hk
  isplitl [Hd Hs Hwr Hst Hq Hx0]
  · isplitr; · iexists K; iexact HC
    isplitl [Hd]; · iexact Hd
    isplitl [Hs]; · iexact Hs
    isplitl [Hwr]; · iexact Hwr
    isplitl [Hst]; · iexact Hst
    isplitl [Hq] <;> iassumption
  isplitl [Ho]; · iexact Ho
  isplitl [H0]; · iexact H0
  isplitl [H1]; · iexact H1
  isplitl [H2]; · iexact H2
  isplitl [H3]; · iexact H3
  iexact H4

/-- A device's run of the second point. -/
theorem point_second_upd {Q : PUnit → sProp 𝕄} :
    iprop(Mid m c ∗ Owes (F := F) c [0, 1, 2, 5, 4, 3]
        ∗ Wins m c t0_1 iprop(∃ d, owns (c : Thread nD τ) (stg (F := F) c 4 t0_1) fullShare ((dat m c).before 4 t0_1 d))
        ∗ (((Done (F := F) c ∗ Scratch (F := F) c) ∗ Owes (F := F) c [] ∗ Wins m c t0_1 (owns (c : Thread nD τ) (stg (F := F) c 4 t0_1) fullShare (res m c))) -∗ Q ⟨⟩))
      ⊢ wp frame (wpE (defs₀ (F := F)) 𝒱₀ (c : Thread nD τ) none) Set.univ (bodyAt (F := F) c t0_1) fun x => iprop(|={Set.univ}=> Q x) := by
  unfold Mid Wins
  iintro ⟨⟨⟨%K, #HC⟩, Hd, Hsnd, Hwr, Hst, Hq, Hx0⟩, Ho, ⟨H0, H1, H2, H3, ⟨%d, H4⟩⟩, Hk⟩
  iapply (run_second m c K)
  isplitr; · iexact HC
  isplitl [Ho]; · iexact Ho
  isplitl [Hsnd]; · iexact Hsnd
  isplitl [Hwr]; · iexact Hwr
  isplitl [Hst]; · iexact Hst
  isplitl [Hx0]; · iexact Hx0
  isplitl [Hq]; · iexact Hq
  isplitl [H1 H2 H3]
  · unfold Ins
    isplitl [H1]; · iexact H1
    isplitl [H2]; · iexact H2
    iexact H3
  isplitl [H4]; · iexists _; iexact H4
  unfold Ins
  iintro ⟨Ho, HS, HR, Hsl, Hx0, Hst, Hq, ⟨H1, H2, H3⟩, H4⟩
  imod (close_all m c K) $$ [Hd HS HR] with HD
  · isplitr; · iexact HC
    isplitl [Hd]; · iexact Hd
    isplitl [HS] <;> iassumption
  imodintro
  iapply Hk
  isplitl [HD Hsl Hx0 Hst Hq]
  · isplitl [HD]; · iexact HD
    unfold Scratch
    isplitl [Hst]; · iexact Hst
    isplitl [Hq]; · iexists _; iexact Hq
    isplitl [Hx0] <;> iassumption
  isplitl [Ho]; · iexact Ho
  isplitl [H0]; · iexact H0
  isplitl [H1]; · iexact H1
  isplitl [H2]; · iexact H2
  isplitl [H3]; · iexact H3
  iexact H4

theorem point_second {Q : PUnit → sProp 𝕄} :
    iprop(Mid m c ∗ Owes (F := F) c [0, 1, 2, 5, 4, 3]
        ∗ Wins m c t0_1 iprop(∃ d, owns (c : Thread nD τ) (stg (F := F) c 4 t0_1) fullShare ((dat m c).before 4 t0_1 d))
        ∗ (((Done (F := F) c ∗ Scratch (F := F) c) ∗ Owes (F := F) c [] ∗ Wins m c t0_1 (owns (c : Thread nD τ) (stg (F := F) c 4 t0_1) fullShare (res m c))) -∗ Q ⟨⟩))
      ⊢ wp frame (wpE (defs₀ (F := F)) 𝒱₀ (c : Thread nD τ) none) Set.univ (bodyAt (F := F) c t0_1) Q :=
  (point_second_upd m c).trans (wp_fupd _ _ _ _ _)

theorem owesB_of : ((dat m c).owesAt () t0_0.castSucc : sProp 𝕄) ⊢ OwesB (F := F) c [0, 1, 2, 3, 4, 5] := of_owesAt c (dat m c) _ _ (owed_0 m c)
theorem of_owes1 : Owes (F := F) c [0, 1, 2, 5, 4, 3] ⊢ ((dat m c).owesAt () t0_0.succ : sProp 𝕄) := owesAt_of c (dat m c) _ _ (owed_1 m c) rfl
theorem owes1_of : ((dat m c).owesAt () t0_1.castSucc : sProp 𝕄) ⊢ Owes (F := F) c [0, 1, 2, 5, 4, 3] := of_owesAt c (dat m c) _ _ (owed_1' m c)
theorem of_owes2 : Owes (F := F) c [] ⊢ ((dat m c).owesAt () t0_1.succ : sProp 𝕄) := owesAt_of c (dat m c) _ _ (owed_2 m c) rfl

/-- What the obligation asks a window's buffer to hold after a point. -/
def Leaves (t : Fin (cfgD (F := F) c).N) (w : Fin (cfgD (F := F) c).W) : sProp 𝕄 :=
  match (cfgD (F := F) c).idle w ((cfgD (F := F) c).grid.coords t) with
  | true => match ((cfgD (F := F) c).win w).flush t with
    | false => iprop(∃ d, owns (c : Thread nD τ) (stg (F := F) c w t) fullShare ((dat m c).before w t d))
    | true => owns (c : Thread nD τ) (stg (F := F) c w t) fullShare ((dat m c).after w t)
  | false => owns (c : Thread nD τ) (stg (F := F) c w t) fullShare ((dat m c).after w t)

theorem leaves_live (t : Fin (cfgD (F := F) c).N) (w : Fin (cfgD (F := F) c).W) (h : (cfgD (F := F) c).idle w ((cfgD (F := F) c).grid.coords t) = false) :
    Leaves m c t w = owns (c : Thread nD τ) (stg (F := F) c w t) fullShare ((dat m c).after w t) := by
  unfold Leaves; rw [h]
theorem leaves_idle (t : Fin (cfgD (F := F) c).N) (w : Fin (cfgD (F := F) c).W) (h : (cfgD (F := F) c).idle w ((cfgD (F := F) c).grid.coords t) = true)
    (hf : ((cfgD (F := F) c).win w).flush t = false) :
    Leaves m c t w = iprop(∃ d, owns (c : Thread nD τ) (stg (F := F) c w t) fullShare ((dat m c).before w t d)) := by
  unfold Leaves; rw [h, hf]

theorem idle_out (i : grid0.Coords) : (cfgD (F := F) c).idle (4 : Fin 5) i = !(k0_cond2 i == 1#1) := rfl
theorem idle_in (t : Fin (cfgD (F := F) c).N) (w : Fin 5) (hw : w ≠ 4) : (cfgD (F := F) c).idle w ((cfgD (F := F) c).grid.coords t) = false := by
  match w, hw with
  | ⟨0, _⟩, _ => rfl
  | ⟨1, _⟩, _ => rfl
  | ⟨2, _⟩, _ => rfl
  | ⟨3, _⟩, _ => rfl
  | ⟨4, _⟩, h => exact absurd rfl h
theorem idle_first : (cfgD (F := F) c).idle (4 : Fin 5) ((cfgD (F := F) c).grid.coords t0_0) = true :=
  (idle_out c (grid0.coords t0_0)).trans (by decide)
theorem live_second : (cfgD (F := F) c).idle (4 : Fin 5) ((cfgD (F := F) c).grid.coords t0_1) = false :=
  (idle_out c (grid0.coords t0_1)).trans (by decide)
theorem flush_first : ((cfgD (F := F) c).win (4 : Fin 5)).flush t0_0 = false := by
  refine Bool.eq_false_iff.mpr fun hf => ?_
  have := (Window.flush_const ((cfgD (F := F) c).win (4 : Fin 5)) rfl (fun _ _ => rfl) N_0 (m := 1) rfl t0_0).mp hf
  exact absurd (show (0 : ℕ) % 2 = 1 from this) (by decide)

theorem leaves_0 (t : Fin (cfgD (F := F) c).N) : Leaves m c t (0 : Fin 5) = owns (c : Thread nD τ) (stg (F := F) c (0 : Fin 5) t) fullShare (qIn m c t) :=
  leaves_live m c t (0 : Fin 5) (idle_in c t 0 (by decide))
theorem leaves_1 (t : Fin (cfgD (F := F) c).N) : Leaves m c t (1 : Fin 5) = owns (c : Thread nD τ) (stg (F := F) c (1 : Fin 5) t) fullShare (kIn m c t) :=
  leaves_live m c t (1 : Fin 5) (idle_in c t 1 (by decide))
theorem leaves_2 (t : Fin (cfgD (F := F) c).N) : Leaves m c t (2 : Fin 5) = owns (c : Thread nD τ) (stg (F := F) c (2 : Fin 5) t) fullShare (vIn m c t) :=
  leaves_live m c t (2 : Fin 5) (idle_in c t 2 (by decide))
theorem leaves_3 (t : Fin (cfgD (F := F) c).N) : Leaves m c t (3 : Fin 5) = owns (c : Thread nD τ) (stg (F := F) c (3 : Fin 5) t) fullShare (cIn m c t) :=
  leaves_live m c t (3 : Fin 5) (idle_in c t 3 (by decide))
theorem leaves_all (t : Fin (cfgD (F := F) c).N) : bigSep Finset.univ (Leaves m c t)
    = iprop(Leaves m c t (0 : Fin 5) ∗ Leaves m c t (1 : Fin 5) ∗ Leaves m c t (2 : Fin 5) ∗ Leaves m c t (3 : Fin 5) ∗ Leaves m c t (4 : Fin 5)) := bigSep_W0 _

/-- The five windows after a point, put together. -/
theorem wins_join (t : Fin (cfgD (F := F) c).N) (O : sProp 𝕄) (hO : O ⊢ Leaves m c t (4 : Fin 5)) : Wins m c t O ⊢ bigSep Finset.univ (Leaves m c t) := by
  rw [leaves_all, leaves_0, leaves_1, leaves_2, leaves_3]
  unfold Wins
  exact BI.sep_mono (BI.Entails.refl _) (BI.sep_mono (BI.Entails.refl _) (BI.sep_mono (BI.Entails.refl _) (BI.sep_mono (BI.Entails.refl _) hO)))

theorem wins_first : Wins m c t0_0 iprop(∃ d, owns (c : Thread nD τ) (stg (F := F) c 4 t0_0) fullShare ((dat m c).before 4 t0_0 d)) ⊢ bigSep Finset.univ (Leaves m c t0_0) :=
  wins_join m c t0_0 _ (Entails.of_eq (leaves_idle m c t0_0 (4 : Fin 5) (idle_first c) (flush_first c)).symm)
theorem wins_second : Wins m c t0_1 (owns (c : Thread nD τ) (stg (F := F) c 4 t0_1) fullShare (res m c)) ⊢ bigSep Finset.univ (Leaves m c t0_1) :=
  wins_join m c t0_1 _ (Entails.of_eq (leaves_live m c t0_1 (4 : Fin 5) (live_second c)).symm)

theorem ob_first : iprop((dat m c).Φ t0_0.castSucc ∗ (dat m c).owesAt () t0_0.castSucc
      ∗ bigSep Finset.univ fun w : Fin (cfgD (F := F) c).W => iprop(∃ d, owns (c : Thread nD τ) (stg (F := F) c w t0_0) fullShare ((dat m c).before w t0_0 d)))
    ⊢ wp frame (wpE (defs₀ (F := F)) 𝒱₀ (c : Thread nD τ) none) Set.univ (bodyAt (F := F) c t0_0) fun _ =>
      iprop((dat m c).Φ t0_0.succ ∗ (dat m c).owesAt () t0_0.succ ∗ bigSep Finset.univ (Leaves m c t0_0)) := by
  rw [Φ_0, Φ_1]
  iintro ⟨HΦ, Ho, Hw⟩
  ihave Ho := (owesB_of m c) $$ Ho
  ihave Hw := (wins_before m c t0_0) $$ Hw
  iapply (point_first m c)
  isplitl [HΦ]; · iexact HΦ
  isplitl [Ho]; · iexact Ho
  isplitl [Hw]; · iexact Hw
  iintro ⟨HΦ, Ho, Hw⟩
  isplitl [HΦ]; · iexact HΦ
  isplitl [Ho]; · iapply (of_owes1 m c); iexact Ho
  iapply (wins_first m c)
  iexact Hw

theorem ob_second : iprop((dat m c).Φ t0_1.castSucc ∗ (dat m c).owesAt () t0_1.castSucc
      ∗ bigSep Finset.univ fun w : Fin (cfgD (F := F) c).W => iprop(∃ d, owns (c : Thread nD τ) (stg (F := F) c w t0_1) fullShare ((dat m c).before w t0_1 d)))
    ⊢ wp frame (wpE (defs₀ (F := F)) 𝒱₀ (c : Thread nD τ) none) Set.univ (bodyAt (F := F) c t0_1) fun _ =>
      iprop((dat m c).Φ t0_1.succ ∗ (dat m c).owesAt () t0_1.succ ∗ bigSep Finset.univ (Leaves m c t0_1)) := by
  rw [Φ_1', Φ_2]
  iintro ⟨HΦ, Ho, Hw⟩
  ihave Ho := (owes1_of m c) $$ Ho
  ihave Hw := (wins_before m c t0_1) $$ Hw
  iapply (point_second m c)
  isplitl [HΦ]; · iexact HΦ
  isplitl [Ho]; · iexact Ho
  isplitl [Hw]; · iexact Hw
  iintro ⟨HΦ, Ho, Hw⟩
  isplitl [HΦ]; · iexact HΦ
  isplitl [Ho]; · iapply (of_owes2 m c); iexact Ho
  iapply (wins_second m c)
  iexact Hw

/-- The body obligation. -/
theorem body_ob : BodyObligation (dat m c) (defs₀ (F := F)) 𝒱₀ () Set.univ := fun t => by
  rcases fin_N0 t with rfl | rfl
  · exact ob_first m c
  · exact ob_second m c

end Cert.Paged
-- ==== Proof.Launch.lean ====
/-
# The launch

What the launch deals every device: the cells' invariants, its tokens, its credits and its debts.
-/
module

public import proofs.«01_k».proof.Proof.Points

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The tokens -/

/-- The duties of a device's slot: its barrier unit, its send, its receive. -/
def duty (x : Dev nD × Fin 6 × Fin 3) : GSem nD τ sig × ℕ × Fin 6 :=
  match x.2.2 with
  | 0 => (barC x.1, 0, x.2.1)
  | 1 => (xcell (x.1, true, x.2.1), 0, 0)
  | 2 => (xcell (x.1, false, x.2.1), 0, 0)

theorem bar_ne_x (d : Dev nD) (x : Dev nD × Bool × Fin 6) : barC d ≠ xcell x := by
  obtain ⟨e, b, s⟩ := x
  intro h
  have h2 := congrArg (fun g : GSem nD τ sig => g.2) h
  cases b
  · exact absurd (show (SemLoc.reg barS : SemLoc sig) = .dma (recvS s) from h2) (fun h => by cases h)
  · exact absurd (show (SemLoc.reg barS : SemLoc sig) = .dma (sendS s) from h2) (fun h => by cases h)

theorem duty_inj : Function.Injective duty := by
  rintro ⟨d, s, k⟩ ⟨d', s', k'⟩ h
  have h1 : (duty (d, s, k)).1 = (duty (d', s', k')).1 := congrArg Prod.fst h
  have h3 : (duty (d, s, k)).2.2 = (duty (d', s', k')).2.2 := congrArg (fun y : GSem nD τ sig × ℕ × Fin 6 => y.2.2) h
  have key : ∀ {b b' : Bool}, xcell (d, b, s) = xcell (d', b', s') → d = d' ∧ b = b' ∧ s = s' := fun e => by
    have e' := xcell_inj e
    exact ⟨congrArg Prod.fst e', congrArg (fun y : Dev nD × Bool × Fin 6 => y.2.1) e', congrArg (fun y : Dev nD × Bool × Fin 6 => y.2.2) e'⟩
  match k, k', h1, h3 with
  | 0, 0, h1, h3 =>
    have e1 : d = d' := barC_inj h1
    have e2 : s = s' := h3
    rw [e1, e2]
  | 0, 1, h1, _ => exact absurd h1 (bar_ne_x d (d', true, s'))
  | 0, 2, h1, _ => exact absurd h1 (bar_ne_x d (d', false, s'))
  | 1, 0, h1, _ => exact absurd h1.symm (bar_ne_x d' (d, true, s))
  | 2, 0, h1, _ => exact absurd h1.symm (bar_ne_x d' (d, false, s))
  | 1, 1, h1, _ => obtain ⟨e1, _, e2⟩ := key (b := true) (b' := true) h1; rw [e1, e2]
  | 2, 2, h1, _ => obtain ⟨e1, _, e2⟩ := key (b := false) (b' := false) h1; rw [e1, e2]
  | 1, 2, h1, _ => exact absurd (key (b := true) (b' := false) h1).2.1 (by decide)
  | 2, 1, h1, _ => exact absurd (key (b := false) (b' := true) h1).2.1 (by decide)

def toks : Finset (GSem nD τ sig × ℕ × Fin 6) := Finset.univ.map ⟨duty, duty_inj⟩

theorem cells_disjoint : Disjoint barCells dmaCells := Finset.disjoint_left.mpr fun g h h' => by
  obtain ⟨d, -, rfl⟩ := Finset.mem_map.mp h
  obtain ⟨x, -, e⟩ := Finset.mem_map.mp h'
  exact bar_ne_x d x e.symm

/-- The device that sends to a device in a slot, as a permutation of the pairs. -/
def around (t : Fin 6 → Dev nD → Dev nD) (u : Fin 6 → Dev nD → Dev nD) (h : ∀ s c, t s (u s c) = c) (h' : ∀ s c, u s (t s c) = c) : Dev nD × Fin 6 ≃ Dev nD × Fin 6 where
  toFun x := (t x.2 x.1, x.2)
  invFun x := (u x.2 x.1, x.2)
  left_inv x := by show (u x.2 (t x.2 x.1), x.2) = x; rw [h']
  right_inv x := by show (t x.2 (u x.2 x.1), x.2) = x; rw [h]

/-- A family over devices and slots, read at the device that each device sends to or is sent to by. -/
theorem bigSep_around (t u : Fin 6 → Dev nD → Dev nD) (h : ∀ s c, t s (u s c) = c) (h' : ∀ s c, u s (t s c) = c) (Φ : Dev nD → Fin 6 → sProp 𝕄) :
    (bigSep Finset.univ fun c : Dev nD => bigSep Finset.univ fun s : Fin 6 => Φ c s) = bigSep Finset.univ fun c : Dev nD => bigSep Finset.univ fun s : Fin 6 => Φ (t s c) s := by
  rw [← bigSep_univ_prod (fun x : Dev nD × Fin 6 => Φ x.1 x.2), ← bigSep_univ_prod (fun x : Dev nD × Fin 6 => Φ (t x.2 x.1) x.2),
    bigSep_univ_equiv (around t u h h') (fun x : Dev nD × Fin 6 => Φ x.1 x.2)]
  rfl

/-- The tokens a device's slot needs: of the barrier it signals, of its send and of the receive it pays. -/
def Tok (s : Fin 6) : sProp 𝕄 := iprop(dutyTok ER (barC (src s c)) 0 s ∗ dutyTok ER (sendC c s) 0 0 ∗ dutyTok ER (recvC (tgt s c) s) 0 0)

theorem toks_deal : (bigSep toks (fun x => dutyTok ER x.1 x.2.1 x.2.2) : sProp 𝕄) = bigSep Finset.univ fun c : Dev nD => bigSep Finset.univ fun s : Fin 6 => Tok (F := F) c s := by
  have h3 (Φ : Fin 3 → sProp 𝕄) : bigSep Finset.univ Φ = iprop(Φ 0 ∗ Φ 1 ∗ Φ 2) := bigSep_univ_eq_bigSepL [0, 1, 2] (by decide) (by decide) Φ
  have e1 := bigSep_around src tgt (fun s c => src_tgt s c) (fun s c => tgt_src s c) (fun (c : Dev nD) (s : Fin 6) => (dutyTok ER (barC c) 0 s : sProp 𝕄))
  have e2 := bigSep_around tgt src (fun s c => tgt_src s c) (fun s c => src_tgt s c) (fun (c : Dev nD) (s : Fin 6) => (dutyTok ER (recvC c s) 0 0 : sProp 𝕄))
  have el : (bigSep toks (fun x => dutyTok ER x.1 x.2.1 x.2.2) : sProp 𝕄) = bigSep Finset.univ fun c : Dev nD => bigSep Finset.univ fun s : Fin 6 =>
      iprop(dutyTok ER (barC c) 0 s ∗ dutyTok ER (sendC c s) 0 0 ∗ dutyTok ER (recvC c s) 0 0) := by
    unfold toks
    rw [bigSep_map, bigSep_univ_prod]
    refine bigSep_congr fun c _ => ?_
    rw [bigSep_univ_prod]
    exact bigSep_congr fun s _ => h3 _
  rw [el]
  unfold Tok
  simp only [bigSep_sep']
  rw [e1, e2]

/-! ## The credits -/

theorem owR_apply (d : Dev nD) (l : List (Fin 6)) (g : GSem nD τ sig) : owR d l g () = (l.map fun s => if g = recvC (tgt s d) s then NC else 0).sum := by
  induction l with
  | nil => rfl
  | cons s l ih =>
    unfold owR
    rw [Pi.add_apply, Finsupp.add_apply, tallyAt_apply, ih, List.map_cons, List.sum_cons, Nat.add_comm]
    congr 1
    by_cases h : g = recvC (tgt s d) s
    · rw [if_pos ⟨h, rfl⟩, if_pos h]
    · rw [if_neg (fun e => h e.1), if_neg h]

theorem owB_apply (d : Dev nD) (l : List (Fin 6)) (g : GSem nD τ sig) :
    owB d l g () = owR d [0, 1, 2, 5, 4, 3] g () + (l.map fun s => if g = barC (src s d) then 1 else 0).sum := by
  induction l with
  | nil => rfl
  | cons s l ih =>
    unfold owB
    rw [Pi.add_apply, Finsupp.add_apply, tallyAt_apply, ih, List.map_cons, List.sum_cons, Nat.add_assoc]
    congr 1
    rw [Nat.add_comm]
    congr 1
    by_cases h : g = barC (src s d)
    · rw [if_pos ⟨h, rfl⟩, if_pos h]
    · rw [if_neg (fun e => h e.1), if_neg h]

theorem recv_ne_bar (d e : Dev nD) (s : Fin 6) : recvC d s ≠ barC e := fun h => bar_ne_x e (d, false, s) h.symm

theorem recvC_iff (d e : Dev nD) (s t : Fin 6) : recvC d s = recvC e t ↔ d = e ∧ s = t :=
  ⟨fun h => by
    have e' := xcell_inj (a₁ := (d, false, s)) (a₂ := (e, false, t)) h
    exact ⟨congrArg Prod.fst e', congrArg (fun y : Dev nD × Bool × Fin 6 => y.2.2) e'⟩, fun ⟨h1, h2⟩ => by rw [h1, h2]⟩

theorem owed_bar (d e : Dev nD) : O₀ d (barC e) () = (([0, 1, 2, 3, 4, 5] : List (Fin 6)).map fun s => if e = src s d then 1 else 0).sum := by
  unfold O₀
  rw [owB_apply, owR_apply]
  have h0 : (([0, 1, 2, 5, 4, 3] : List (Fin 6)).map fun s => if barC e = recvC (tgt s d) s then NC else 0) = ([0, 1, 2, 5, 4, 3] : List (Fin 6)).map fun _ => 0 :=
    List.map_congr_left fun s _ => if_neg fun h => recv_ne_bar _ _ _ h.symm
  rw [h0, show ((([0, 1, 2, 5, 4, 3] : List (Fin 6)).map fun _ => (0 : ℕ)).sum) = 0 from rfl, Nat.zero_add]
  refine congrArg List.sum (List.map_congr_left fun s _ => ?_)
  by_cases h : e = src s d
  · rw [if_pos h, if_pos (by rw [← h])]
  · rw [if_neg h, if_neg fun h' => h (barC_inj h')]

theorem owed_recv (d e : Dev nD) (t : Fin 6) :
    O₀ d (recvC e t) () = NC * (([0, 1, 2, 5, 4, 3] : List (Fin 6)).map fun s => if e = tgt s d ∧ t = s then 1 else 0).sum := by
  unfold O₀
  rw [owB_apply, owR_apply]
  have h0 : (([0, 1, 2, 3, 4, 5] : List (Fin 6)).map fun s => if recvC e t = barC (src s d) then 1 else 0) = ([0, 1, 2, 3, 4, 5] : List (Fin 6)).map fun _ => 0 :=
    List.map_congr_left fun s _ => if_neg fun h => recv_ne_bar _ _ _ h
  rw [h0, show ((([0, 1, 2, 3, 4, 5] : List (Fin 6)).map fun _ => (0 : ℕ)).sum) = 0 from rfl, Nat.add_zero, ← List.sum_map_mul_left]
  refine congrArg List.sum (List.map_congr_left fun s _ => ?_)
  by_cases h : e = tgt s d ∧ t = s
  · rw [if_pos h, if_pos ((recvC_iff _ _ _ _).mpr h), Nat.mul_one]
  · rw [if_neg h, if_neg fun h' => h ((recvC_iff _ _ _ _).mp h'), Nat.mul_zero]

theorem bar_count : ∀ e : Dev nD, (∑ d : Dev nD, (([0, 1, 2, 3, 4, 5] : List (Fin 6)).map fun s => if e = src s d then 1 else 0).sum) = 6 := by decide +kernel
theorem recv_count : ∀ (e : Dev nD) (t : Fin 6), (∑ d : Dev nD, (([0, 1, 2, 5, 4, 3] : List (Fin 6)).map fun s => if e = tgt s d ∧ t = s then 1 else 0).sum) = 1 := by decide +kernel

theorem launch_bar : tallyOn (barC c) (launchCredit (Pipeline.owing O₀) 0 (barC c)) = (tallyAt (barC c) () 6 : CellTallies nD τ sig Unit) := by
  unfold tallyAt
  refine congrArg _ (Finsupp.ext fun u => ?_)
  cases u
  rw [Pipeline.launchCredit_owing, Finsupp.single_eq_same, Finset.sum_congr rfl fun d _ => owed_bar d c, bar_count]

theorem launch_recv (s : Fin 6) : tallyOn (recvC c s) (launchCredit (Pipeline.owing O₀) 0 (recvC c s)) = (tallyAt (recvC c s) () NC : CellTallies nD τ sig Unit) := by
  unfold tallyAt
  refine congrArg _ (Finsupp.ext fun u => ?_)
  cases u
  rw [Pipeline.launchCredit_owing, Finsupp.single_eq_same, Finset.sum_congr rfl fun d _ => owed_recv d c s, ← Finset.mul_sum, recv_count, Nat.mul_one]

def recvL : Fin 6 ↪ SemLoc sig := ⟨fun s => .dma (recvS s), by decide +kernel⟩

/-- A device's launch credit holds what its barrier wait and its receive waits take. -/
theorem creds : (Pipeline.launchCred O₀ c : sProp 𝕄) ⊢ iprop(cred (tallyAt (barC c) () 6) ∗ bigSep Finset.univ fun s : Fin 6 => cred (tallyAt (recvC c s) () NC)) := by
  unfold Pipeline.launchCred
  rw [bigSep_univ_at _ (SemLoc.reg barS), launch_bar]
  refine sep_mono_right ?_
  have hsub : Finset.univ.map recvL ⊆ Finset.univ.erase (SemLoc.reg barS : SemLoc sig) := fun x hx => by
    obtain ⟨s, -, rfl⟩ := Finset.mem_map.mp hx
    exact Finset.mem_erase.mpr ⟨fun h => absurd (show (SemLoc.dma (recvS s) : SemLoc sig) = .reg barS from h) (fun h => by cases h), Finset.mem_univ _⟩
  rw [BI.bigSep_sdiff_split hsub, bigSep_map]
  have e : (bigSep Finset.univ fun s : Fin 6 => (cred (tallyOn (((c : Thread nD τ), recvL s) : GSem nD τ sig) (launchCredit (Pipeline.owing O₀) 0 (((c : Thread nD τ), recvL s) : GSem nD τ sig))) : sProp 𝕄))
      = bigSep Finset.univ fun s : Fin 6 => cred (tallyAt (recvC c s) () NC) := bigSep_congr fun s _ => congrArg cred (launch_recv c s)
  rw [e]
  exact sep_elim_left

/-! ## What a device starts from -/

/-- What the launch deals a device for a slot, the slot's two counters not yet in hand. -/
def In (s : Fin 6) : sProp 𝕄 := iprop(Tok (F := F) c s ∗ cred (tallyAt (recvC c s) () NC) ∗ openTok ER (sendC c s) ∗ openTok ER (recvC c s))

/-- The facts every device may consult: the invariants, and that every barrier is in its first round. -/
def Rec (K : GSem nD τ sig → ℕ) : sProp 𝕄 := iprop(Ctx (F := F) (pk m) K ∗ bigSep barCells fun g => reached ER g 0)

instance Rec_persistent (K : GSem nD τ sig → ℕ) : BI.Persistent (Rec m K) := by unfold Rec; infer_instance

theorem Rec_reached (K : GSem nD τ sig → ℕ) (d : Dev nD) : Rec m K ⊢ reached ER (barC d) 0 := by
  have h : (bigSep barCells (fun g => (reached ER g 0 : sProp 𝕄)) : sProp 𝕄) ⊢ reached ER (barC d) 0 := bigSep_elim (Finset.mem_map_of_mem _ (Finset.mem_univ d))
  unfold Rec
  iintro ⟨-, H⟩
  iapply h $$ H

/-- What rides along the host operations. -/
def Ride : sProp 𝕄 := iprop((∃ K, Rec m K) ∗ BarRes (F := F) c ∗ bigSep Finset.univ (In (F := F) c) ∗ ∃ W, owes (c : Thread nD τ) (O₀ c) W)

/-- A slot's two cells opened on their counters. -/
theorem slot_open (K : GSem nD τ sig → ℕ) (s : Fin 6) :
    iprop(Rec m K ∗ (In (F := F) c s ∗ Zero (F := F) c s)) ⊢ iprop(|={Set.univ}=> (Sig₀ (F := F) c s ∗ Snd₀ (F := F) c s ∗ Wr (F := F) c s)) := by
  have hS : Rec m K ⊢ cellInv ER (Rd (pk m)) (K (sendC c s)) (sendC c s) := by
    unfold Rec; iintro ⟨H, -⟩; iapply (Ctx_cell (pk m) K (mem_send c s)) $$ H
  have hR : Rec m K ⊢ cellInv ER (Rd (pk m)) (K (recvC c s)) (recvC c s) := by
    unfold Rec; iintro ⟨H, -⟩; iapply (Ctx_cell (pk m) K (mem_recv c s)) $$ H
  have hB := Rec_reached m K (src s c)
  unfold In Tok Zero Sig₀ Snd₀ Wr
  iintro ⟨#HR, ⟨⟨T1, T2, T3⟩, Hc, O1, O2⟩, Z1, Z2⟩
  imod (cell_open ER (Rd (pk m)) (Set.mem_univ (K (sendC c s)))) $$ [O1 Z1] with ⟨A1, R1⟩
  · isplitr
    · iapply hS $$ HR
    isplitl [O1] <;> iassumption
  imod (cell_open ER (Rd (pk m)) (Set.mem_univ (K (recvC c s)))) $$ [O2 Z2] with ⟨A2, R2⟩
  · isplitr
    · iapply hR $$ HR
    isplitl [O2] <;> iassumption
  imodintro
  isplitl [T1 R2]
  · isplitl [T1]; · iexact T1
    isplitr
    · iapply hB $$ HR
    iexact R2
  isplitl [T2 R1 T3 A1]
  · isplitl [T2]; · iexact T2
    isplitl [R1]; · iexact R1
    isplitl [T3] <;> iassumption
  isplitl [Hc] <;> iassumption

theorem start_open : iprop((∃ K, Rec m K) ∗ BarRes (F := F) c ∗ bigSep Finset.univ (In (F := F) c) ∗ bigSep Finset.univ (Zero (F := F) c)) ⊢ iprop(|={Set.univ}=> Start m c) := by
  have h (K) : iprop(Rec m K ∗ bigSep Finset.univ (fun s => iprop(In (F := F) c s ∗ Zero (F := F) c s)))
      ⊢ iprop(|={Set.univ}=> bigSep Finset.univ fun s => iprop(Sig₀ (F := F) c s ∗ Snd₀ (F := F) c s ∗ Wr (F := F) c s)) :=
    (bigSep_with_persistent (R := Rec m K) (Φ := fun s => iprop(In (F := F) c s ∗ Zero (F := F) c s)) fun s _ => slot_open m c K s).trans (bigSep_fupd _ _)
  simp only [bigSep_sep'] at h
  unfold Start
  iintro ⟨⟨%K, #HR⟩, HB, HI, HZ⟩
  imod (h K) $$ [HI HZ] with ⟨H1, H2, H3⟩
  · isplitr; · iexact HR
    isplitl [HI] <;> iassumption
  imodintro
  isplitr
  · iexists K
    unfold Rec
    icases HR with ⟨H, -⟩
    iexact H
  isplitl [H1]; · iexact H1
  isplitl [HB]; · iexact HB
  isplitl [H2] <;> iassumption

/-! ## The launch -/

/-- A resource held by the first device alone. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

def ghost : sProp 𝕄 := BI.own (ER (launchOf barCells dmaCells toks))

/-- What of a device's launch holdings is its own already. -/
def Own : sProp 𝕄 := iprop(StableHlo.held (c : Thread nD τ) (Pipeline.ucRefs τ sig) (V0 m c) ∗ (∃ W, owes (c : Thread nD τ) (O₀ c) W) ∗ cred (tallyAt (barC c) () 6)
  ∗ bigSep Finset.univ fun s : Fin 6 => cred (tallyAt (recvC c s) () NC))

theorem unscopedSems0_bar : (unscopedSems0 c : sProp 𝕄) = semVal (barC c) 0 := by
  unfold unscopedSems0; rw [bigSep_eq_bigSepL_of_eq [SemLoc.reg barS] (by decide) (by decide)]; rfl

theorem launch_core (ρ : Dev nD → PrngReg) :
    iprop(unscopedBufs c (fun b => m ((c.tc : Thread nD τ).loc b)) ∗ unscopedSems0 c ∗ owes (c : Thread nD τ) (O₀ c) ∅ ∗ Pipeline.launchCred O₀ c ∗ prngReg c (ρ c) ∗ parked (ghost (F := F)) c)
      ⊢ (iprop(Own m c ∗ semVal (barC c) 0 ∗ parked (ghost (F := F)) c) : sProp 𝕄) := by
  rw [show unscopedBufs c (fun b => m ((c : Thread nD τ).loc b)) = StableHlo.held (c : Thread nD τ) (Pipeline.ucRefs τ sig) (V0 m c) from Pipeline.unscopedBufs_held c (V0 m c),
    unscopedSems0_bar]
  unfold Own
  iintro ⟨Hh, Hus, HO, Hcr, -, HG⟩
  ihave Hc := (creds (F := F) c) $$ Hcr
  icases Hc with ⟨H1, HN⟩
  isplitl [Hh HO H1 HN]
  · isplitl [Hh]; · iexact Hh
    isplitl [HO]; · iexists ∅; iexact HO
    isplitl [H1] <;> iassumption
  isplitl [Hus] <;> iassumption

theorem ride_intro (K : GSem nD τ sig → ℕ) :
    iprop(Rec m K ∗ (Own m c ∗ atPos ER (barC c) 0 ∅ 0 ∗ bigSep Finset.univ (Tok (F := F) c) ∗ bigSep Finset.univ (fun s => openTok ER (sendC c s)) ∗ bigSep Finset.univ (fun s => openTok ER (recvC c s))))
      ⊢ iprop(StableHlo.held (c : Thread nD τ) (Pipeline.ucRefs τ sig) (V0 m c) ∗ Ride m c) := by
  unfold Ride Own BarRes
  rw [show (bigSep Finset.univ (In (F := F) c)) = iprop(bigSep Finset.univ (Tok (F := F) c) ∗ (bigSep Finset.univ fun s : Fin 6 => cred (tallyAt (recvC c s) () NC))
    ∗ bigSep Finset.univ (fun s => openTok ER (sendC c s)) ∗ bigSep Finset.univ (fun s => openTok ER (recvC c s))) by
      unfold In; rw [bigSep_sep', bigSep_sep', bigSep_sep']]
  iintro ⟨#HR, ⟨Hh, HO, H1, HN⟩, HA, HT, Hs, Hr⟩
  isplitl [Hh]; · iexact Hh
  isplitr
  · iexists K; iexact HR
  isplitl [H1 HA]
  · isplitl [H1] <;> iassumption
  isplitr [HO]
  · isplitl [HT]; · iexact HT
    isplitl [HN]; · iexact HN
    isplitl [Hs] <;> iassumption
  iexact HO

/-- Every device's share of the open tokens. -/
theorem open_deal : (bigSep dmaCells (fun g => openTok ER g) : sProp 𝕄)
    = iprop((bigSep Finset.univ fun c : Dev nD => bigSep Finset.univ fun s => openTok ER (sendC c s)) ∗ bigSep Finset.univ fun c : Dev nD => bigSep Finset.univ fun s => openTok ER (recvC c s)) := by
  rw [← bigSep_sep']
  unfold dmaCells
  rw [bigSep_map, bigSep_univ_prod]
  refine bigSep_congr fun c _ => ?_
  rw [bigSep_univ_prod]
  exact bigSep_univ_eq_bigSepL [true, false] (by decide) (by decide) _

theorem ride_all (K : GSem nD τ sig → ℕ) :
    iprop(Rec m K ∗ (bigSep Finset.univ (Own m) ∗ (bigSep Finset.univ fun c : Dev nD => atPos ER (barC c) 0 ∅ 0) ∗ (bigSep Finset.univ fun c : Dev nD => bigSep Finset.univ (Tok (F := F) c))
        ∗ (bigSep Finset.univ fun c : Dev nD => bigSep Finset.univ fun s => openTok ER (sendC c s)) ∗ bigSep Finset.univ fun c : Dev nD => bigSep Finset.univ fun s => openTok ER (recvC c s)))
      ⊢ bigSep Finset.univ fun c : Dev nD => iprop(StableHlo.held (c : Thread nD τ) (Pipeline.ucRefs τ sig) (V0 m c) ∗ Ride m c) := by
  rw [← bigSep_sep', ← bigSep_sep', ← bigSep_sep', ← bigSep_sep']
  exact bigSep_with_persistent (R := Rec m K) fun c _ => ride_intro m c K

/-- What the launch deals a device. -/
def Dealt (ρ : Dev nD → PrngReg) : sProp 𝕄 :=
  iprop(unscopedBufs c (fun b => m ((c.tc : Thread nD τ).loc b)) ∗ unscopedSems0 c ∗ owes (c : Thread nD τ) (O₀ c) ∅ ∗ Pipeline.launchCred O₀ c ∗ prngReg c (ρ c) ∗ parked (ghost (F := F)) c)

theorem dealt_all (ρ : Dev nD → PrngReg) : bigSep Finset.univ (fun c => Dealt m c ρ)
    ⊢ iprop(bigSep Finset.univ (Own m) ∗ (bigSep barCells fun g => semVal g 0) ∗ ghost (F := F)) := by
  rw [← bigSep_parked (ghost (F := F)), show (bigSep barCells (fun g => semVal g 0) : sProp 𝕄) = bigSep Finset.univ fun c : Dev nD => semVal (barC c) 0 from
    bigSep_map (s := Finset.univ) _ (Φ := fun g : GSem nD τ sig => (semVal g 0 : sProp 𝕄)), ← bigSep_sep', ← bigSep_sep']
  exact bigSep_mono fun c _ => launch_core m c ρ

theorem fund : iprop((bigSep barCells fun g => semVal g 0) ∗ ghost (F := F) ∗ levAts L lv)
    ⊢ iprop(|={Set.univ}=> ∃ K, Rec m K ∗ (bigSep Finset.univ fun c : Dev nD => atPos ER (barC c) 0 ∅ 0) ∗ (bigSep dmaCells fun g => openTok ER g)
      ∗ bigSep toks fun x => dutyTok ER x.1 x.2.1 x.2.2) := by
  rw [← show (bigSep barCells (fun g => atPos ER g 0 ∅ 0) : sProp 𝕄) = bigSep Finset.univ fun c : Dev nD => atPos ER (barC c) 0 ∅ 0 from
    bigSep_map (s := Finset.univ) _ (Φ := fun g : GSem nD τ sig => (atPos ER g 0 ∅ 0 : sProp 𝕄))]
  unfold ghost Rec Ctx
  iintro ⟨Hv, HG, #Hl⟩
  imod (Rounds.fund_launch (Es := Set.univ) ER (Rd (pk m)) cells_disjoint (fun g _ h => h) toks) $$ [Hv HG] with ⟨%κ, -, #Hinv, #Hr, Hat, Hopen, Htok⟩
  · isplitl [Hv] <;> iassumption
  imodintro
  iexists κ
  isplitr
  · isplitr
    · isplitr; · iexact Hinv
      iexact Hl
    iexact Hr
  isplitl [Hat]; · iexact Hat
  isplitl [Hopen] <;> iassumption

/-- The launch: the cells' invariants funded and every device's share dealt. -/
theorem init (ρ : Dev nD → PrngReg) :
    iprop(bigSep Finset.univ (fun c => Dealt m c ρ) ∗ levAts L lv)
      ⊢ iprop(|={Set.univ}=> bigSep Finset.univ fun c : Dev nD => iprop(StableHlo.held (c : Thread nD τ) (Pipeline.ucRefs τ sig) (V0 m c) ∗ Ride m c)) := by
  have htok := Entails.of_eq (toks_deal (F := F))
  have hopen := Entails.of_eq (open_deal (F := F))
  iintro ⟨H, Hl⟩
  ihave H := (dealt_all m ρ) $$ H
  icases H with ⟨HO, Hv, HG⟩
  imod (fund m) $$ [Hv HG Hl] with ⟨%K, #HR, Hat, Hop, Htk⟩
  · isplitl [Hv]; · iexact Hv
    isplitl [HG] <;> iassumption
  imodintro
  iapply (ride_all m K)
  isplitr; · iexact HR
  isplitl [HO]; · iexact HO
  isplitl [Hat]; · iexact Hat
  isplitl [Htk]; · iapply htok $$ Htk
  iapply hopen $$ Hop

end Cert.Paged
-- ==== Proof.Run.lean ====
/-
# The run

The kernel region as a segment, and the whole program's run at any float values.
-/
module

public import proofs.«01_k».proof.Proof.Launch
public import Idealize.ShloMosaic.Lib.Pipeline.ValueKit.Geometry

@[expose] public section

set_option maxRecDepth 16000

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

variable (m : (ℓ : Loc nD τ sig) → Buf (Elt F) ℓ) (c : Dev nD)

/-- What a device's buffers hold once the host operations have run. -/
def buf1 (b : Ref sig .tc) : Buf (Elt F) ((c.tc : Thread nD τ).loc b) := V1 m c b

/-- The kernel's own semaphores: the send and the receive of each slot. -/
def osem (x : Bool × Fin 6) : SemLoc sig := if x.1 then .dma (sendS x.2) else .dma (recvS x.2)

theorem ownSemFacts : Pipeline.OwnSemFacts spec0 osem := by decide +kernel

theorem ownSems0_zero : (Pipeline.ownSems0 osem c : sProp 𝕄) = bigSep Finset.univ (Zero (F := F) c) := by
  unfold Pipeline.ownSems0 Zero
  rw [bigSep_univ_prod, bigSep_sep']
  exact bigSep_univ_eq_bigSepL [true, false] (by decide) (by decide) _

theorem stage_low : ∀ (w : Fin 5) (s : Fin (spec0 w).nbuf), ((spec0 w).sem s).val < 14 := by decide

theorem owed_debt (t : Fin ((cfgD (F := F) c).N + 1)) (g : GSem nD τ sig) (u : Unit) (h : 0 < (dat m c).owed t g u) :
    (∃ s, g = recvC (tgt s c) s) ∨ ∃ p : Dev nD, g = barC p := by
  change 0 < (if t.val = 0 then O₀ c else if t.val = 1 then owR c [0, 1, 2, 5, 4, 3] else 0 : CellTallies nD τ sig Unit) g u at h
  split at h
  · exact owB_pos h
  split at h
  · exact owR_debt c _ g u h
  exact absurd h (Nat.lt_irrefl 0)

/-- Every wait of the pipeline's own is allowed under what the device owes at its points. -/
theorem waits : (levAts L lv : sProp 𝕄) ⊢ Pipeline.PerCore.cellsWaits (Pipeline.pinD (pcfgs (F := F)) adm) (pdats m) () 0 c :=
  Pipeline.PerCore.cellsWaits_intro (Pipeline.pinD (pcfgs (F := F)) adm) (pdats m) () 0 c fun w s t =>
    mayWait_low c _ (by revert s; revert w; exact stage_low) _ (owed_debt m c t)

theorem share_full (w : Fin 5) : (dat m c).share w = fullShare := by unfold Dat.share; split <;> rfl

/-- The thread state the region leaves. -/
def Post : sProp 𝕄 := iprop((dat m c).arrays ((dat m c).arrAt · (cfgD (F := F) c).N) ∗ Pipeline.unscopedRestP pre0 spec0 c (buf1 m c) ∗ semVal (barC c) 0)

theorem entry : iprop(iprop(StableHlo.held (c : Thread nD τ) (Pipeline.ucRefs τ sig) (V1 m c) ∗ Ride m c) ∗ Pipeline.ownSems0 osem c ∗ levAts L lv)
    ⊢ iprop(|={Set.univ}=> ((dat m c).arrays ((dat m c).arrAt · 0) ∗ Pipeline.prefHeld pre0 c (fun _ => fullShare) (adm (F := F) c 0).1
        ∗ (dat m c).owesAt () 0 ∗ Start m c ∗ Pipeline.unscopedRestP pre0 spec0 c (buf1 m c))) := by
  have hA : (unscopedBufs c (buf1 m c) : sProp 𝕄) ⊢ iprop((dat m c).arrays ((dat m c).arrAt · 0) ∗ Pipeline.unscopedRest spec0 c (buf1 m c)) :=
    Pipeline.PerCore.arrays_of_unscopedBufs (pcfgs (F := F)) adm (pdats m) (p := 0) winFacts0 arr_whole0 c (share_full m c) (buf1 m c) (fun _ => rfl)
  have hP := Entails.of_eq (Pipeline.unscopedRest_split (Val := Elt F) (Ix := Unit) (Name := ℕ) (U := UU) (Lvl := ℕ) preFacts0 c (buf1 m c))
  have hV : (fun k => buf1 m c (pre0.ref k)) = (adm (F := F) c 0).1 := by
    funext k
    match k with
    | 0 => exact V1_v46 m c
  rw [hV] at hP
  have hO := owesAt_of (F := F) c (dat m c) 0 (O₀ c) rfl rfl
  rw [ownSems0_zero, ← show (unscopedBufs c (buf1 m c) : sProp 𝕄) = StableHlo.held (c : Thread nD τ) (Pipeline.ucRefs τ sig) (V1 m c) from Pipeline.unscopedBufs_held c (V1 m c)]
  unfold Ride
  iintro ⟨⟨Hh, HK, HB, HI, HO⟩, HZ, -⟩
  ihave Hh := hA $$ Hh
  icases Hh with ⟨HA, HR⟩
  ihave HR := hP $$ HR
  icases HR with ⟨HP, HR⟩
  imod (start_open m c) $$ [HK HB HI HZ] with HS
  · isplitl [HK]; · iexact HK
    isplitl [HB]; · iexact HB
    isplitl [HI] <;> iassumption
  imodintro
  isplitl [HA]; · iexact HA
  isplitl [HP]; · iexact HP
  isplitl [HO]; · iapply hO $$ HO
  isplitl [HS] <;> iassumption

theorem enter : iprop(Start m c ∗ Pipeline.prefHeld pre0 c (fun _ => fullShare) (adm (F := F) c 0).1 ∗ Pipeline.scopedRest spec0 c) ⊢ iprop(Start m c ∗ Scratch (F := F) c) := by
  have h := scratch_open (F := F) c
  iintro ⟨HS, -, HR⟩
  isplitl [HS]; · iexact HS
  iapply h $$ HR

theorem leave : iprop(Done (F := F) c ∗ Scratch (F := F) c) ⊢ iprop(semVal (barC c) 0 ∗ Pipeline.ownSems0 osem c ∗ Pipeline.scopedRest spec0 c) := by
  have h := scratch_close (F := F) c
  rw [ownSems0_zero]
  unfold Done
  iintro ⟨⟨H1, H2⟩, HS⟩
  isplitl [H1]; · iexact H1
  isplitl [H2]; · iexact H2
  iapply h $$ HS

theorem leave_post : iprop((dat m c).arrays ((dat m c).arrAt · (cfgD (F := F) c).N) ∗ (dat m c).owesAt () (Fin.last (cfgD (F := F) c).N) ∗ semVal (barC c) 0
      ∗ Pipeline.unscopedRestP pre0 spec0 c (buf1 m c))
    ⊢ iprop(|={Set.univ}=> (Post m c ∗ ∃ W, owes (c : Thread nD τ) (0 : CellTallies nD τ sig Unit) W)) := by
  have hO := of_owesAt (F := F) c (dat m c) (Fin.last (cfgD (F := F) c).N) 0 rfl
  unfold Post
  iintro ⟨HA, HO, HB, HZ⟩
  imodintro
  isplitr [HO]
  · isplitl [HA]; · iexact HA
    isplitl [HZ] <;> iassumption
  iapply hO $$ HO

set_option backward.isDefEq.respectTransparency.types false in
/-- The kernel region. -/
def reg : Pipeline.PerCore.RegionSeg (pcfgs (F := F)) adm (pdats m) () defs₀ 𝒱₀ L lv 0 where
  win := winFacts0.to₀
  block_pos := block_pos0
  stage_whole := stage_whole0
  K := Bool × Fin 6
  osem := osem
  ho := ownSemFacts
  hbody := fun c => (body_ob m c).loose
  hwaits := fun c => waits m c
  pre := fun c => iprop(StableHlo.held (c : Thread nD τ) (Pipeline.ucRefs τ sig) (V1 m c) ∗ Ride m c)
  post := fun c => iprop(Post m c ∗ ∃ W, owes (c : Thread nD τ) (0 : CellTallies nD τ sig Unit) W)
  X := fun c => Start m c
  Y := fun c => semVal (barC c) 0
  Z := fun c => Pipeline.unscopedRestP pre0 spec0 c (buf1 m c)
  hentry := fun c => entry m c
  hin := fun c => enter m c
  hout := fun c => leave c
  hexit := fun c => leave_post m c

def ride (k : Fin 2) (c : Dev nD) : sProp 𝕄 := Ride m c

def segments (c : Dev nD) : List (Pipeline.PerCore.Seg (pcfgs (F := F)) adm (pdats m) () defs₀ 𝒱₀ L lv) :=
  [.host (seg0 m 𝒱₀ L lv (ride m) c), .region (reg m)]

theorem flush_last : ((cfgD (F := F) c).win (4 : Fin 5)).flush t0_1 = true :=
  (Window.flush_const ((cfgD (F := F) c).win (4 : Fin 5)) rfl (fun _ _ => rfl) N_0 (m := 1) rfl t0_1).mpr rfl

/-- The output array ends as the result. -/
theorem arr_out : (dat m c).arrAt (4 : Fin 5) (cfgD (F := F) c).N = res m c := by
  refine (dat m c).arrAt_eq_of_after_last (4 : Fin 5) t0_1 ⟨flush_last c, fun t h => ?_, fun a => ⟨?_, ?_⟩⟩ (res m c) (fun j => ?_) (Memref.isWhole_whole _)
  · rcases fin_N0 t with rfl | rfl
    · exact absurd h (by rw [flush_first c]; decide)
    · rfl
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
  · rfl

theorem arr_in0 : (dat m c).arrAt (0 : Fin 5) (cfgD (F := F) c).N = m ((c.tc : Thread nD τ).loc main_arg0) :=
  ((dat m c).arrAt_in (0 : Fin 5) rfl _).trans (V1_of m c main_arg0 (by decide))
theorem arr_in1 : (dat m c).arrAt (1 : Fin 5) (cfgD (F := F) c).N = m ((c.tc : Thread nD τ).loc main_arg1) :=
  ((dat m c).arrAt_in (1 : Fin 5) rfl _).trans (V1_of m c main_arg1 (by decide))
theorem arr_in2 : (dat m c).arrAt (2 : Fin 5) (cfgD (F := F) c).N = m ((c.tc : Thread nD τ).loc main_arg2) :=
  ((dat m c).arrAt_in (2 : Fin 5) rfl _).trans (V1_of m c main_arg2 (by decide))

/-- The arguments a window reads and the result array, read off the windows' arrays. -/
theorem read_arrays (s' : Phys nD τ sig (Elt F)) : iprop((dat m c).arrays ((dat m c).arrAt · (cfgD (F := F) c).N) ∗ SI s')
    ⊢ iprop(⌜s'.mem.mem ((c.tc : Thread nD τ).loc main_arg0) = m ((c.tc : Thread nD τ).loc main_arg0)
      ∧ s'.mem.mem ((c.tc : Thread nD τ).loc main_arg1) = m ((c.tc : Thread nD τ).loc main_arg1)
      ∧ s'.mem.mem ((c.tc : Thread nD τ).loc main_arg2) = m ((c.tc : Thread nD τ).loc main_arg2)
      ∧ s'.mem.mem ((c.tc : Thread nD τ).loc main_v47) = res m c⌝ ∗ SI s') := by
  refine (Pipeline.PerCore.arrays_read (pcfgs (F := F)) adm (pdats m) (p := 0) arr_whole0 c (share_full m c) ((dat m c).arrAt · (cfgD (F := F) c).N) s').trans
    (sep_mono_left (Laws.pure_mono fun ha => ⟨?_, ?_, ?_, ?_⟩))
  · exact (ha (0 : Fin 5)).trans (arr_in0 m c)
  · exact (ha (1 : Fin 5)).trans (arr_in1 m c)
  · exact (ha (2 : Fin 5)).trans (arr_in2 m c)
  · exact (ha (4 : Fin 5)).trans (arr_out m c)

theorem rest_arg3 : (main_arg3 : Ref sig .tc) ∈ ((Finset.univ.filter fun b : Ref sig .tc => ¬ b.isScoped) \ Finset.univ.image (Pipeline.arrRef spec0)) \ Finset.univ.image pre0.ref := by decide
theorem rest_arg4 : (main_arg4 : Ref sig .tc) ∈ ((Finset.univ.filter fun b : Ref sig .tc => ¬ b.isScoped) \ Finset.univ.image (Pipeline.arrRef spec0)) \ Finset.univ.image pre0.ref := by decide

/-- The other two arguments, read off the buffers no window names. -/
theorem read_rest (s' : Phys nD τ sig (Elt F)) : iprop(Pipeline.unscopedRestP pre0 spec0 c (buf1 m c) ∗ SI s')
    ⊢ (iprop(⌜s'.mem.mem ((c.tc : Thread nD τ).loc main_arg3) = m ((c.tc : Thread nD τ).loc main_arg3)
      ∧ s'.mem.mem ((c.tc : Thread nD τ).loc main_arg4) = m ((c.tc : Thread nD τ).loc main_arg4)⌝ ∗ SI s') : sProp 𝕄) := by
  unfold Pipeline.unscopedRestP
  refine (pointsTo_read_all _ (fun b => (c.tc : Thread nD τ).loc b) (buf1 m c) s').trans (sep_mono_left (Laws.pure_mono fun hb => ⟨?_, ?_⟩))
  · exact (hb main_arg3 rest_arg3).trans (V1_of m c main_arg3 (by decide))
  · exact (hb main_arg4 rest_arg4).trans (V1_of m c main_arg4 (by decide))

/-- What the end says of a device. -/
def Ends (s : MemSt nD τ sig (Elt F)) : Prop :=
  ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.mem ((c.tc : Thread nD τ).loc main_v47) = res m c)

theorem read_end (s' : Phys nD τ sig (Elt F)) : iprop(Post m c ∗ SI s') ⊢ iprop(|={Set.univ}=> (⌜Ends m c s'.mem ∧ s'.mem.sem (barC c) = 0⌝ ∗ SI s')) := by
  have hr := read_arrays m c s'
  have hz := read_rest m c s'
  unfold Post
  iintro ⟨⟨HA, HZ, HB⟩, HSI⟩
  ihave H := hr $$ [HA HSI]
  · isplitl [HA] <;> iassumption
  icases H with ⟨%ha, HSI⟩
  ihave H := hz $$ [HZ HSI]
  · isplitl [HZ] <;> iassumption
  icases H with ⟨%hb, HSI⟩
  icombine HSI HB gives %hs
  imodintro
  isplitr
  · ipureintro
    exact ⟨⟨⟨ha.1, ha.2.1, ha.2.2.1, hb.1, hb.2⟩, ha.2.2.2⟩, by simpa using hs⟩
  iexact HSI

theorem unscoped_eq : ∀ sm : SemLoc sig, sm.isScoped .tc = false → sm = .reg barS := by decide

theorem pins_inj : Function.Injective (Pipeline.PerCore.cellOf (nD := nD) (τ := τ) (Pipeline.pinD (pcfgs (F := F)) adm)) :=
  Pipeline.PerCore.cellOf_injective _ (fun _ p => match p with | 0 => Pipeline.specSemsDistinct_of_nodup _ (semsDistinct 0))
    (fun _ p p' h => absurd (Subsingleton.elim p p') h)

def u₀ : UU := (initOf (Pipeline.PerCore.cells (Pipeline.pinD (pcfgs (F := F)) adm) pins_inj) (Pipeline.PerCore.launchToks (Pipeline.pinD (pcfgs (F := F)) adm) pins_inj),
  launchOf barCells dmaCells toks)

set_option backward.isDefEq.respectTransparency.types false in
/-- From any memory with zero counters every weakly fair execution of the program on the sixteen devices terminates with
    the arguments as launched, every device's result array at `res`, and every semaphore counter at zero. -/
theorem run_main (ρ : Dev nD → PrngReg) : θ_run defs (onTc (τ := τ) (main (F := F))) ⟨m, fun _ => 0, ρ⟩
    (fun r => (∀ c : Dev nD, Ends m c r.2) ∧ r.2.sem = fun _ => 0) := by
  refine Pipeline.PerCore.θ_run_regions_kit_sems (pcfgs (F := F)) adm (pdats m) () pins_inj EP defs₀ 𝒱₀ L lv m ρ main (segments m)
    (fun c Q => by
      rewrite [main_chain c, Pipeline.PerCore.Seg.run_eq_chain, show (segments m c).map Pipeline.PerCore.Seg.prog = [
          StableHlo.seq (hostOps0 c),
          Prog.lift (.customCall (Pipeline.entry 0) ()) ] from rfl]
      dsimp (config := { failIfUnchanged := false }) only
      exact .rfl)
    (fun c => by simp only [segments, Pipeline.PerCore.Seg.pipes_host, Pipeline.PerCore.Seg.pipes_region, Pipeline.PerCore.Seg.pipes_nil]; decide)
    O₀ L_of_ne (parked (ghost (F := F))) (u₀ (F := F)) ?_
    (fun c => iprop(StableHlo.held (c : Thread nD τ) (Pipeline.ucRefs τ sig) (V0 m c) ∗ Ride m c)) (Post m)
    (fun c => ⟨.rfl, .rfl, .rfl⟩) (init m ρ)
    (fun c s => Ends m c s ∧ s.sem (barC c) = 0)
    (fun c s' => read_end m c s')
    (fun s h hs => ⟨fun c => (h c).1, sem_eq_zero hs fun c sm hsm => by
      obtain rfl := unscoped_eq sm hsm
      exact (h c).2⟩)
  unfold u₀ ghost
  rw [bigSep_parked]
  iintro Hu
  ihave H := (ownU_pair _ _) $$ Hu
  icases H with ⟨HP, HX⟩
  imodintro
  isplitl [HP] <;> iassumption

end Cert.Paged
-- ==== Proof.Math.lean ====
/-
# Partial softmaxes

Weighted sums over sets of tokens, kept as the triple of a scale, a sum of weights and a weighted sum of values; how such
triples rescale, grow by a chunk and merge; and the softmax that the triple of all tokens gives.
-/
module

public import Idealize.ShloMosaic.PureOps.Ideal
public import Idealize.ShloMosaic.PureOps.Ideal.Laws
public import Idealize.ShloMosaic.Lib.IdealHost

@[expose] public section

noncomputable section

namespace Cert.Paged

open Idealize.ShloMosaic

/-! ## Extended reals -/

theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.2 hc) (EReal.coe_ne_top c), ih]

/-- A sum of real terms is the real of their sum. -/
theorem sum_coe {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- The greater of a real and of the greatest of a family of reals is a real. -/
theorem max_fold_real {ι : Type} (S : Finset ι) (f : ι → EReal) (hf : ∀ i, ∃ y : ℝ, f i = (y : EReal)) (x : ℝ) :
    ∃ y : ℝ, max (x : EReal) (S.fold max ⊥ f) = (y : EReal) := by
  classical
  induction S using Finset.induction_on with
  | empty => exact ⟨x, by simp⟩
  | insert a S ha ih =>
    obtain ⟨y, hy⟩ := ih
    obtain ⟨z, hz⟩ := hf a
    refine ⟨max z y, ?_⟩
    rw [Finset.fold_insert ha, max_left_comm, hy, hz]
    exact (EReal.coe_strictMono.monotone.map_max).symm

/-- A natural multiple is a repeated sum. -/
theorem nat_mul_eq_nsmul (n : ℕ) (x : EReal) : ((n : ℝ) : EReal) * x = n • x := by
  induction n with
  | zero => simp
  | succ n ih =>
    rw [Nat.cast_succ, EReal.coe_add, EReal.right_distrib_of_nonneg (EReal.coe_nonneg.2 (Nat.cast_nonneg n)) (EReal.coe_nonneg.2 zero_le_one),
      ih, succ_nsmul, EReal.coe_one, one_mul]

/-! ## The triple of a set of tokens -/

section Row

variable {ι : Type} (w : ι → ℕ) (s : ι → ℝ) (v : ι → EReal)

/-- The sum of the weights over `S`, scaled by `exp (-x)`. -/
def wsum (S : Finset ι) (x : ℝ) : ℝ := ∑ i ∈ S, (w i : ℝ) * Real.exp (s i - x)
/-- The weighted sum of the values over `S`, scaled by `exp (-x)`. -/
def vsum (S : Finset ι) (x : ℝ) : EReal := ∑ i ∈ S, (((w i : ℝ) * Real.exp (s i - x) : ℝ) : EReal) * v i

/-- The values, the scale and the sum of the weights of a set of tokens, at some scale. -/
def Rep (S : Finset ι) (a μ l : EReal) : Prop := ∃ x : ℝ, μ = (x : EReal) ∧ l = (wsum w s S x : EReal) ∧ a = vsum w s v S x

theorem wsum_rescale (S : Finset ι) (x y : ℝ) : wsum w s S x * Real.exp (x - y) = wsum w s S y := by
  unfold wsum
  rw [Finset.sum_mul]
  refine Finset.sum_congr rfl fun i _ => ?_
  rw [mul_assoc, ← Real.exp_add]; congr 2; ring

theorem vsum_rescale (S : Finset ι) (x y : ℝ) : vsum w s v S x * (Real.exp (x - y) : EReal) = vsum w s v S y := by
  unfold vsum
  rw [sum_mul_real _ _ _ (Real.exp_pos _).le]
  refine Finset.sum_congr rfl fun i _ => ?_
  rw [mul_right_comm, ← EReal.coe_mul, mul_assoc, ← Real.exp_add]; congr 4; ring

theorem wsum_union [DecidableEq ι] {S T : Finset ι} (h : Disjoint S T) (x : ℝ) : wsum w s (S ∪ T) x = wsum w s S x + wsum w s T x :=
  Finset.sum_union h
theorem vsum_union [DecidableEq ι] {S T : Finset ι} (h : Disjoint S T) (x : ℝ) : vsum w s v (S ∪ T) x = vsum w s v S x + vsum w s v T x :=
  Finset.sum_union h

theorem rep_empty (x : ℝ) : Rep w s v ∅ 0 x 0 := ⟨x, rfl, by simp [wsum], by simp [vsum]⟩

/-- Two triples of disjoint sets, brought to the greater scale, add up to the triple of the union. -/
theorem Rep.merge [DecidableEq ι] {S T : Finset ι} {a μ l a' μ' l' : EReal} (h : Rep w s v S a μ l) (h' : Rep w s v T a' μ' l') (hd : Disjoint S T) :
    Rep w s v (S ∪ T) (Ideal.exp (μ - max μ μ') * a + Ideal.exp (μ' - max μ μ') * a') (max μ μ')
      (Ideal.exp (μ - max μ μ') * l + Ideal.exp (μ' - max μ μ') * l') := by
  obtain ⟨x, rfl, rfl, rfl⟩ := h
  obtain ⟨y, rfl, rfl, rfl⟩ := h'
  have hz : max (x : EReal) (y : EReal) = ((max x y : ℝ) : EReal) := (EReal.coe_strictMono.monotone.map_max).symm
  refine ⟨max x y, hz, ?_, ?_⟩
  · rw [hz, ← EReal.coe_sub, ← EReal.coe_sub, Ideal.exp_coe, Ideal.exp_coe, ← EReal.coe_mul, ← EReal.coe_mul, ← EReal.coe_add, wsum_union _ _ hd,
      mul_comm, wsum_rescale, mul_comm, wsum_rescale]
  · rw [hz, ← EReal.coe_sub, ← EReal.coe_sub, Ideal.exp_coe, Ideal.exp_coe, vsum_union _ _ _ hd, mul_comm, vsum_rescale, mul_comm, vsum_rescale]

/-- A triple grown by a chunk of tokens: `f` numbers them, `q` is what stands for a score (any real where the count is
zero), and `g` the new scale's rival. -/
theorem Rep.chunk [DecidableEq ι] {κ : Type} [Fintype κ] {S T : Finset ι} {a μ l : EReal} (h : Rep w s v S a μ l) (hd : Disjoint S T)
    (f : κ → ι) (hf : ∀ F : ι → EReal, ∑ k, F (f k) = ∑ i ∈ T, F i) (q : κ → EReal)
    (hq : ∀ k, ∃ y : ℝ, q k = (y : EReal) ∧ (w (f k) ≠ 0 → y = s (f k)))
    (c : κ → EReal) (hc : ∀ k, c k = ((w (f k) : ℝ) : EReal)) (M : EReal) (hM : M = max μ (Finset.univ.fold max ⊥ q)) :
    Rep w s v (S ∪ T) (a * Ideal.exp (μ - M) + ∑ k, Ideal.exp (q k - M) * c k * v (f k)) M
      (l * Ideal.exp (μ - M) + ∑ k, Ideal.exp (q k - M) * c k) := by
  obtain ⟨x, rfl, rfl, rfl⟩ := h
  obtain ⟨y, hy⟩ := max_fold_real Finset.univ q (fun k => let ⟨y, e, _⟩ := hq k; ⟨y, e⟩) x
  rw [hy] at hM
  subst hM
  have hk (k : κ) : Ideal.exp (q k - y) * c k = (((w (f k) : ℝ) * Real.exp (s (f k) - y) : ℝ) : EReal) := by
    obtain ⟨z, e, hz⟩ := hq k
    rw [e, hc, ← EReal.coe_sub, Ideal.exp_coe, ← EReal.coe_mul]
    by_cases h0 : w (f k) = 0
    · simp [h0]
    · rw [hz h0, mul_comm]
  refine ⟨y, rfl, ?_, ?_⟩
  · rw [← EReal.coe_sub, Ideal.exp_coe, ← EReal.coe_mul, wsum_rescale, wsum_union _ _ hd, EReal.coe_add]
    congr 1
    rw [Finset.sum_congr rfl fun k _ => hk k, hf fun i => (((w i : ℝ) * Real.exp (s i - y) : ℝ) : EReal)]
    exact sum_coe _ _
  · rw [← EReal.coe_sub, Ideal.exp_coe, vsum_rescale, vsum_union _ _ _ hd]
    congr 1
    rw [Finset.sum_congr rfl fun k _ => congrArg (· * v (f k)) (hk k), hf fun i => (((w i : ℝ) * Real.exp (s i - y) : ℝ) : EReal) * v i]
    rfl

/-- The quotient of the triple's values by its weights does not depend on the scale. -/
theorem Rep.quot {S : Finset ι} {a μ l : EReal} (h : Rep w s v S a μ l) (hpos : ∃ i ∈ S, w i ≠ 0) (y : ℝ) :
    Ideal.div a l = ∑ i ∈ S, (w i • ((((Real.exp (s i - y)) / wsum w s S y : ℝ) : EReal) * v i)) := by
  obtain ⟨x, rfl, rfl, rfl⟩ := h
  have hp (z : ℝ) : 0 < wsum w s S z := by
    obtain ⟨i, hi, h0⟩ := hpos
    exact Finset.sum_pos' (fun i _ => by positivity) ⟨i, hi, by positivity⟩
  rw [Ideal.div_coe (hp x).ne', ← vsum_rescale w s v S y x, ← wsum_rescale w s S y x, mul_assoc, ← EReal.coe_mul]
  have e : Real.exp (y - x) * (1 / (wsum w s S y * Real.exp (y - x))) = 1 / wsum w s S y := by
    have := (Real.exp_pos (y - x)).ne'
    have := (hp y).ne'
    field_simp
  rw [e]
  unfold vsum
  rw [sum_mul_real _ _ _ (by have := hp y; positivity)]
  refine Finset.sum_congr rfl fun i _ => ?_
  rw [mul_right_comm, ← EReal.coe_mul, mul_assoc, EReal.coe_mul, mul_assoc, nat_mul_eq_nsmul]
  congr 3
  rw [mul_one_div]

end Row

end Cert.Paged

end
-- ==== Proof.Vals.lean ====
/-
# The kernel's state at ideal values

What a chunk, a packet, a merge and the last quotient do to the triples of values, scale and weights, row by row.
-/
module

public import proofs.«01_k».proof.Proof.Data
public import proofs.«01_k».proof.Proof.Math
public import Idealize.ShloMosaic.Lib.Pointwise

@[expose] public section

set_option maxRecDepth 16000

noncomputable section

namespace Cert.Paged

open Cert.KernelIdeal Cert.KernelIdeal.Gen
open Idealize.ShloMosaic Idealize.ShloMosaic.Pointwise

/-! ## Constants -/

/-- A pattern whose exponent is not all ones is a real. -/
theorem ofBits_real (b : BitVec 32) (h : (b.extractLsb' 23 8).toNat ≠ 255) : ∃ x : ℝ, Ideal.ofBits .f32 b = (x : EReal) := by
  unfold Ideal.ofBits Ideal.ieee
  dsimp only
  rw [if_neg (show ¬ (b.extractLsb' 23 8).toNat = 2 ^ 8 - 1 from h)]
  split
  · exact ⟨_, rfl⟩
  · exact ⟨_, rfl⟩

/-- The factor of the scores. -/
theorem scale_real : ∃ x : ℝ, Ideal.ofBits .f32 0x3DB504F3#32 = (x : EReal) := ofBits_real _ (by decide)
/-- The score of a token that no entry names. -/
theorem neg_real : ∃ x : ℝ, Ideal.ofBits .f32 0xF149F2CA#32 = (x : EReal) := ofBits_real _ (by decide)
/-- Minus infinity. -/
theorem ninf_bot : Ideal.ofBits .f32 0xFF800000#32 = ⊥ := by
  simp [Ideal.ofBits, Ideal.ieee]

/-- A sum over pairs, numbered in rows of `n`. -/
theorem sum_pairs {M : Type} [AddCommMonoid M] (m n : ℕ) (f : Fin m → Fin n → M) : ∑ l : Fin (m * n), f l.divNat l.modNat = ∑ a, ∑ b, f a b := by
  rw [← Fintype.sum_prod_type', ← finProdFinEquiv.symm.sum_comp (fun p : Fin m × Fin n => f p.1 p.2)]
  rfl

/-- A bit as a float: one where it is set. -/
theorem sitofp_bit (p : Prop) [Decidable p] (x : BitVec 1) (h : x = if p then 1#1 else 0#1) :
    (FloatOps.sitofp (F := Ideal) .f32 (BitVec.setWidth 32 x) : EReal) = if p then 1 else 0 := by
  subst h
  split
  · show (((1 : ℤ) : ℝ) : EReal) = 1
    simp
  · show (((0 : ℤ) : ℝ) : EReal) = 0
    simp

/-! ## The setting -/

/-- The factor of the scores as a real. -/
def scl : ℝ := scale_real.choose
theorem scl_eq : Ideal.ofBits .f32 0x3DB504F3#32 = (scl : EReal) := scale_real.choose_spec

/-- The sequence and the head of a row. -/
def rB (r : Fin 64) : Fin 8 := ⟨r.val / 8, by omega⟩
def rH (r : Fin 64) : Fin 8 := ⟨r.val % 8, by omega⟩

/-- Real queries and keys, values, and the count of every token for every sequence. -/
structure Setting where
  q : Fin 8 → Fin 8 → Fin 128 → ℝ
  k : Fin 16384 → Fin 8 → Fin 128 → ℝ
  v : Fin 16384 → Fin 8 → Fin 128 → EReal
  n : Fin 8 → Fin 16384 → ℕ

variable (X : Setting)

/-- The score of a token for a sequence and a head. -/
def Setting.sc (b h : Fin 8) (u : Fin 16384) : ℝ := (∑ d, X.q b h d * X.k u h d) * scl

/-- The state is the triples of the tokens `S`. -/
def Setting.Holds (S : Finset (Fin 16384)) (st : St Ideal) : Prop :=
  ∀ (r : Fin 64) (d : Fin 128), Rep (X.n (rB r)) (X.sc (rB r) (rH r)) (fun u => X.v u (rH r) d) S (st.1 (ix2 r d)) (st.2.1 (ix2 r 0)) (st.2.2 (ix2 r 0))

/-- Token `k` of chunk `j`. -/
def tok (j : Fin 32) (k : Fin 512) : Fin 16384 := ⟨j.val * 512 + k.val, by omega⟩
/-- The tokens of chunk `j`. -/
def chunkSet (j : Fin 32) : Finset (Fin 16384) := Finset.univ.filter fun u => u.val / 512 = j.val

theorem sum_tok (j : Fin 32) (F : Fin 16384 → EReal) : ∑ k, F (tok j k) = ∑ u ∈ chunkSet j, F u := by
  refine Finset.sum_bij (fun k _ => tok j k) ?_ ?_ ?_ (fun _ _ => rfl)
  · intro k _
    simp only [chunkSet, tok, Finset.mem_filter, Finset.mem_univ, true_and]
    omega
  · intro a _ b _ h
    have := congrArg Fin.val h
    simp only [tok] at this
    exact Fin.ext (by omega)
  · intro u hu
    simp only [chunkSet, Finset.mem_filter, Finset.mem_univ, true_and] at hu
    exact ⟨⟨u.val % 512, Nat.mod_lt _ (by decide)⟩, Finset.mem_univ _, Fin.ext (by simp only [tok]; omega)⟩

/-! ## A chunk -/

/-- The kernel's first state: no token. -/
theorem holds_start : X.Holds ∅ (st₀ : St Ideal) := by
  intro r d
  obtain ⟨x, hx⟩ := neg_real
  have e1 : (st₀ : St Ideal).1 (ix2 r d) = 0 := by show k0_pay7 (F := Ideal) (ix2 r d) = _; pointwise [k0_pay7]
  have e2 : (st₀ : St Ideal).2.1 (ix2 r 0) = (x : EReal) := by show k0_pay5 (F := Ideal) (ix2 r 0) = _; pointwise [k0_pay5]; exact hx
  have e3 : (st₀ : St Ideal).2.2 (ix2 r 0) = 0 := by show k0_pay6 (F := Ideal) (ix2 r 0) = _; pointwise [k0_pay6]
  rw [e1, e2, e3]
  exact rep_empty _ _ _ x

/-- The kept queries: row `r` holds its head's query at its head's lanes and zero elsewhere. -/
theorem qbd_apply (Y : S8x1x8x128.Idx → Elt Ideal .bf16) (r : Fin 64) (l : Fin 1024) :
    qbd Y (ix2 r l) = Y (ix4 (rB r) 0 (rH r) ⟨l.val % 128, by omega⟩) * (if rH r = ⟨l.val / 128, by omega⟩ then 1 else 0 : EReal) := by
  show k0_pay67 (F := Ideal) (k0_pay8 Y) _ = _
  pointwise [k0_pay8, k0_pay67]
  rw [sitofp_bit (rH r = (⟨l.val / 128, by omega⟩ : Fin 8))]
  · rfl
  · have h : ∀ a b : Fin 8, IntOp.cmpi .eq (BitVec.ofNat 32 a.val) (BitVec.ofNat 32 b.val) = if a = b then 1#1 else 0#1 := by decide
    exact h (rH r) ⟨l.val / 128, by omega⟩

/-- The mask of a row's own head. -/
theorem mask_apply (r : Fin 64) (h : Fin 8) (d : Fin 128) : k0_pay79 (F := Ideal) (ix3 r h d) = (if rH r = h then 1 else 0 : EReal) := by
  pointwise [k0_pay79]
  rw [sitofp_bit (rH r = h)]
  revert r h
  decide

/-- A chunk's score. -/
theorem score_apply (Y : S8x1x8x128.Idx → Elt Ideal .bf16) (Kv : S32x16x8x128.Idx → Elt Ideal .bf16) (j : Fin 32)
    (hq : ∀ b h d, Y (ix4 b 0 h d) = (X.q b h d : EReal))
    (hk : ∀ (k : Fin 512) h d, Kv (ix4 ⟨k.val / 16, by omega⟩ ⟨k.val % 16, by omega⟩ h d) = (X.k (tok j k) h d : EReal)) (r : Fin 64) (k : Fin 512) :
    k0_pay70 Kv (qbd Y) (ix2 r k) = (X.sc (rB r) (rH r) (tok j k) : EReal) := by
  pointwise [k0_pay70]
  rw [scl_eq, Setting.sc, EReal.coe_mul]
  congr 1
  rw [← sum_coe]
  have e (l : Fin (8 * 128)) : qbd Y (ix2 r l) * Kv (ix4 ⟨k.val / 16, by omega⟩ ⟨k.val % 16, by omega⟩ l.divNat l.modNat)
      = (fun a d => (if rH r = a then ((X.q (rB r) (rH r) d * X.k (tok j k) a d : ℝ) : EReal) else 0)) l.divNat l.modNat := by
    dsimp only
    rw [qbd_apply, hq, hk, EReal.coe_mul]
    by_cases h : rH r = l.divNat
    · rw [if_pos h, if_pos (show rH r = ⟨l.val / 128, _⟩ from h), mul_one]; rfl
    · rw [if_neg h, if_neg (show ¬ rH r = ⟨l.val / 128, _⟩ from h), mul_zero, zero_mul]
  refine (Finset.sum_congr rfl fun l _ => e l).trans ((sum_pairs 8 128 (fun a d => if rH r = a then ((X.q (rB r) (rH r) d * X.k (tok j k) a d : ℝ) : EReal) else 0)).trans ?_)
  rw [Finset.sum_eq_single (rH r) (fun a _ h => by simp [h.symm]) (fun h => absurd (Finset.mem_univ _) h)]
  simp

/-- Count of a chunk's token. -/
theorem cnt_apply (C : S8x512.Idx → Elt Ideal .f32) (r : Fin 64) (k : Fin 512) : k0_pay69 C (ix2 r k) = C (ix2 (rB r) k) := by
  pointwise [k0_pay69]
  rfl

/-- Value of a chunk's token. -/
theorem val_apply (Vv : S32x16x8x128.Idx → Elt Ideal .bf16) (k : Fin 512) (h : Fin 8) (d : Fin 128) (hl : h.val * 128 + d.val < 1024) :
    k0_pay68 (F := Ideal) Vv (ix2 k ⟨h.val * 128 + d.val, hl⟩) = Vv (ix4 ⟨k.val / 16, by omega⟩ ⟨k.val % 16, by omega⟩ h d) := by
  pointwise [k0_pay68]

/-- A chunk grows the triples by its tokens. -/
theorem holds_chunk {S : Finset (Fin 16384)} {st : St Ideal} (hst : X.Holds S st) (j : Fin 32) (hd : Disjoint S (chunkSet j))
    (Y : S8x1x8x128.Idx → Elt Ideal .bf16) (Kv Vv : S32x16x8x128.Idx → Elt Ideal .bf16) (C : S8x512.Idx → Elt Ideal .f32)
    (hq : ∀ b h d, Y (ix4 b 0 h d) = (X.q b h d : EReal))
    (hk : ∀ (k : Fin 512) h d, Kv (ix4 ⟨k.val / 16, by omega⟩ ⟨k.val % 16, by omega⟩ h d) = (X.k (tok j k) h d : EReal))
    (hv : ∀ (k : Fin 512) h d, Vv (ix4 ⟨k.val / 16, by omega⟩ ⟨k.val % 16, by omega⟩ h d) = X.v (tok j k) h d)
    (hc : ∀ b k, C (ix2 b k) = ((X.n b (tok j k) : ℝ) : EReal)) :
    X.Holds (S ∪ chunkSet j) (chunk st (qbd Y) Kv Vv C) := by
  intro r d
  obtain ⟨x, hx⟩ := neg_real
  set q : Fin 512 → EReal := fun k => k0_pay73 (F := Ideal) (k0_pay70 Kv (qbd Y)) (k0_pay71 C) k0_pay72 (ix2 r k) with hqd
  set M : EReal := k0_pay74 (F := Ideal) (k0_pay70 Kv (qbd Y)) (k0_pay71 C) k0_pay72 st.2.1 (ix2 r 0) with hM
  have hM' : M = max (st.2.1 (ix2 r 0)) (Finset.univ.fold max ⊥ q) := by
    rw [hM]
    pointwise [k0_pay74]
    rw [ninf_bot]
  have hq' (k : Fin 512) : ∃ y : ℝ, q k = (y : EReal) ∧ (X.n (rB r) (tok j k) ≠ 0 → y = X.sc (rB r) (rH r) (tok j k)) := by
    have e : q k = Scalar.select (Ideal.cmp .ogt (C (ix2 (rB r) k)) 0) (k0_pay70 Kv (qbd Y) (ix2 r k)) (x : EReal) := by
      rw [← hx, ← cnt_apply C r k, hqd]
      dsimp only
      pointwise [k0_pay73, k0_pay71, k0_pay72]
    rw [e, score_apply X Y Kv j hq hk, hc]
    by_cases h0 : X.n (rB r) (tok j k) = 0
    · rw [h0]
      refine ⟨x, ?_, fun h => absurd rfl h⟩
      simp [Scalar.select, Ideal.cmp]
    · refine ⟨_, ?_, fun _ => rfl⟩
      simp [Scalar.select, Ideal.cmp, Nat.pos_of_ne_zero h0]
  have key := (hst r d).chunk (X.n (rB r)) (X.sc (rB r) (rH r)) (fun u => X.v u (rH r) d) hd (tok j) (sum_tok j) q hq'
    (fun k => k0_pay69 C (ix2 r k)) (fun k => by rw [cnt_apply, hc]) M hM'
  have e1 : (chunk st (qbd Y) Kv Vv C).1 (ix2 r d)
      = st.1 (ix2 r d) * Ideal.exp (st.2.1 (ix2 r 0) - M) + ∑ k, Ideal.exp (q k - M) * k0_pay69 C (ix2 r k) * X.v (tok j k) (rH r) d := by
    show k0_pay1 (F := Ideal) _ _ _ _ (ix2 r d) = _
    pointwise [k0_pay1]
    congr 1
    rw [Finset.sum_eq_single (rH r) (fun a _ h => by rw [mask_apply, if_neg h.symm, mul_zero]) (fun h => absurd (Finset.mem_univ _) h),
      mask_apply, if_pos rfl, mul_one]
    pointwise [k0_pay78]
    refine Finset.sum_congr rfl fun k _ => ?_
    rw [val_apply, hv]
    congr 1
    pointwise [k0_pay76]
    rfl
  have e2 : (chunk st (qbd Y) Kv Vv C).2.1 (ix2 r 0) = M := by
    show k0_pay2 (F := Ideal) (k0_pay74 (k0_pay70 Kv (qbd Y)) (k0_pay71 C) k0_pay72 st.2.1) (ix2 r 0) = _
    pointwise [k0_pay2]
    rfl
  have e3 : (chunk st (qbd Y) Kv Vv C).2.2 (ix2 r 0)
      = st.2.2 (ix2 r 0) * Ideal.exp (st.2.1 (ix2 r 0) - M) + ∑ k, Ideal.exp (q k - M) * k0_pay69 C (ix2 r k) := by
    show k0_pay77 (F := Ideal) _ _ _ _ _ _ (ix2 r 0) = _
    pointwise [k0_pay77, k0_pay76, k0_pay75]
    rfl
  rw [e1, e2, e3]
  exact key

/-! ## Packets and merges -/

/-- The rows that a packet keeps. -/
theorem pay9_apply (v : Vec Ideal S64x128 .f32) (r : Fin 64) (d : Fin 128) : k0_pay9 (F := Ideal) v (ix3 0 r d) = v (ix2 r d) := by pointwise [k0_pay9]
theorem pay10_apply (v : Vec Ideal S64x1 .f32) (l : Fin 128) : k0_pay10 (F := Ideal) v (ix3 0 0 l) = if h : l.val < 64 then v (ix2 ⟨l.val, h⟩ 0) else 0 := by
  pointwise [k0_pay10]
theorem pay11_apply (v : Vec Ideal S64x1 .f32) (l : Fin 128) : k0_pay11 (F := Ideal) v (ix3 0 0 l) = if h : l.val < 64 then v (ix2 ⟨l.val, h⟩ 0) else 0 := by
  pointwise [k0_pay11]
theorem pay12_apply (v : Vec Ideal S1x64x128 .bf16) (r : Fin 64) (d : Fin 128) : k0_pay12 (F := Ideal) v (ix2 r d) = v (ix3 0 r d) := by pointwise [k0_pay12]
theorem pay13_apply (v : Vec Ideal S1x1x64 .bf16) (r : Fin 64) : k0_pay13 (F := Ideal) v (ix2 r 0) = v (ix3 0 0 r) := by pointwise [k0_pay13]

/-- A packet's values, maxima and sums are the state's. -/
theorem pV_stage (st : St Ideal) (r : Fin 64) (d : Fin 128) : k0_pay12 (F := Ideal) (pV (stage st)) (ix2 r d) = st.1 (ix2 r d) := by
  rw [pay12_apply]
  refine (if_pos (show 0 + r.val < 64 by omega)).trans ((pay9_apply _ ⟨(0 + r.val) % 64, by omega⟩ d).trans ?_)
  have e : (⟨(0 + r.val) % 64, by omega⟩ : Fin 64) = r := Fin.ext (by show (0 + r.val) % 64 = r.val; omega)
  rw [e]

/-- The row of maxima of a packet. -/
theorem stage_64 (st : St Ideal) (l : Fin 128) (h : 64 < 66) : stage st (ix2 ⟨64, h⟩ l) = k0_pay10 (F := Ideal) st.2.1 (ix3 0 0 l) := by
  rw [stage, if_neg, if_pos]
  · exact (rfl)
  · exact (rfl)
  · show ¬ 64 < 64
    omega

/-- The row of sums of a packet. -/
theorem stage_65 (st : St Ideal) (l : Fin 128) (h : 65 < 66) : stage st (ix2 ⟨65, h⟩ l) = k0_pay11 (F := Ideal) st.2.2 (ix3 0 0 l) := by
  rw [stage, if_neg, if_neg]
  · exact (rfl)
  · show ¬ 65 = 64
    omega
  · show ¬ 65 < 64
    omega

theorem pM_stage (st : St Ideal) (r : Fin 64) : k0_pay13 (F := Ideal) (pM (stage st)) (ix2 r 0) = st.2.1 (ix2 r 0) := by
  have e := pay10_apply st.2.1 ⟨r.val, by omega⟩
  rw [dif_pos r.isLt] at e
  rw [pay13_apply, ← e, ← stage_64 st _ (by decide)]
  exact (rfl)

theorem pL_stage (st : St Ideal) (r : Fin 64) : pL (stage st) (ix3 0 0 r) = st.2.2 (ix2 r 0) := by
  have e := pay11_apply st.2.2 ⟨r.val, by omega⟩
  rw [dif_pos r.isLt] at e
  rw [← e, ← stage_65 st _ (by decide)]
  exact (rfl)

/-- A merge of a packet adds the packet's tokens. -/
theorem holds_merge {S T : Finset (Fin 16384)} {st st' : St Ideal} (hst : X.Holds S st) (hst' : X.Holds T st') (hd : Disjoint S T) :
    X.Holds (S ∪ T) (merge st (stage st')) := by
  intro r d
  have key := (hst r d).merge _ _ _ (hst' r d) hd
  have e1 : (merge st (stage st')).1 (ix2 r d) = Ideal.exp (st.2.1 (ix2 r 0) - max (st.2.1 (ix2 r 0)) (st'.2.1 (ix2 r 0))) * st.1 (ix2 r d)
      + Ideal.exp (st'.2.1 (ix2 r 0) - max (st.2.1 (ix2 r 0)) (st'.2.1 (ix2 r 0))) * st'.1 (ix2 r d) := by
    rw [← pM_stage st', ← pV_stage st']
    show k0_pay19 (F := Ideal) (k0_pay12 (pV (stage st'))) (k0_pay13 (pM (stage st'))) st.2.1 st.1 (ix2 r d) = _
    pointwise [k0_pay19, k0_pay15, k0_pay16, k0_pay14]
  have e2 : (merge st (stage st')).2.1 (ix2 r 0) = max (st.2.1 (ix2 r 0)) (st'.2.1 (ix2 r 0)) := by
    rw [← pM_stage st']
    show k0_pay17 (F := Ideal) (k0_pay13 (pM (stage st'))) st.2.1 (ix2 r 0) = _
    pointwise [k0_pay17, k0_pay14]
  have e3 : (merge st (stage st')).2.2 (ix2 r 0) = Ideal.exp (st.2.1 (ix2 r 0) - max (st.2.1 (ix2 r 0)) (st'.2.1 (ix2 r 0))) * st.2.2 (ix2 r 0)
      + Ideal.exp (st'.2.1 (ix2 r 0) - max (st.2.1 (ix2 r 0)) (st'.2.1 (ix2 r 0))) * st'.2.2 (ix2 r 0) := by
    rw [← pM_stage st', ← pL_stage st']
    show k0_pay18 (F := Ideal) (k0_pay13 (pM (stage st'))) (pL (stage st')) st.2.1 st.2.2 (ix2 r 0) = _
    pointwise [k0_pay18, k0_pay15, k0_pay16, k0_pay14]
  rw [e1, e2, e3]
  exact key

/-! ## The quotient -/

/-- The last quotient of a state that holds all tokens: a softmax-weighted sum of the values, a token as often as it is
counted, at any scale. -/
theorem quot_apply {st : St Ideal} (hst : X.Holds Finset.univ st) (b h : Fin 8) (d : Fin 128) (hpos : ∃ u, X.n b u ≠ 0) (y : ℝ) :
    k0_pay4 (F := Ideal) st.1 st.2.2 (ix4 b 0 h d)
      = ∑ u, X.n b u • (((Real.exp (X.sc b h u - y) / wsum (X.n b) (X.sc b h) Finset.univ y : ℝ) : EReal) * X.v u h d) := by
  have key := (hst ⟨b.val * 8 + h.val, by omega⟩ d).quot
  have eB : rB ⟨b.val * 8 + h.val, by omega⟩ = b := Fin.ext (by show (b.val * 8 + h.val) / 8 = b.val; omega)
  have eH : rH ⟨b.val * 8 + h.val, by omega⟩ = h := Fin.ext (by show (b.val * 8 + h.val) % 8 = h.val; omega)
  rw [eB, eH] at key
  refine Eq.trans ?_ (key (let ⟨u, hu⟩ := hpos; ⟨u, Finset.mem_univ _, hu⟩) y)
  pointwise [k0_pay4]

end Cert.Paged

end
-- ==== Proof.Cover.lean ====
/-
# The tokens a device's states hold

A device folds its own two chunks; the first exchange adds the devices with its z, the second all others.
-/
module

public import proofs.«01_k».proof.Proof.Vals

@[expose] public section

set_option maxRecDepth 16000

noncomputable section

namespace Cert.Paged

open Cert.KernelIdeal Cert.KernelIdeal.Gen
open Idealize.ShloMosaic

/-- The chunk of tokens device `c` folds at point `t`. -/
def chunkNo (c : Dev nD) (t : Fin grid0.N) : Fin 32 :=
  ⟨c.val * 2 + t.val, by have h1 : c.val < 16 := c.isLt; have h2 : t.val < 2 := t.isLt; omega⟩

/-- The blocks the devices read hold the setting's data. -/
structure Feeds (X : Setting) (m : (ℓ : Loc nD τ sig) → Buf (Elt Ideal) ℓ) : Prop where
  hq : ∀ c t b h d, qIn m c t (ix4 b 0 h d) = (X.q b h d : EReal)
  hk : ∀ c t (k : Fin 512) h d, kIn m c t (ix4 ⟨k.val / 16, by omega⟩ ⟨k.val % 16, by omega⟩ h d) = (X.k (tok (chunkNo c t) k) h d : EReal)
  hv : ∀ c t (k : Fin 512) h d, vIn m c t (ix4 ⟨k.val / 16, by omega⟩ ⟨k.val % 16, by omega⟩ h d) = X.v (tok (chunkNo c t) k) h d
  hc : ∀ c t b (k : Fin 512), cIn m c t (ix2 b k) = ((X.n b (tok (chunkNo c t) k) : ℝ) : EReal)

/-- The device whose tokens include `u`. -/
def home (u : Fin 16384) : Dev nD := ⟨u.val / 1024, by show u.val / 1024 < 16; omega⟩

/-- The tokens of a set of devices. -/
def tokens (D : Finset (Dev nD)) : Finset (Fin 16384) := Finset.univ.filter fun u => home u ∈ D

theorem tokens_union (D E : Finset (Dev nD)) : tokens (D ∪ E) = tokens D ∪ tokens E := by
  ext u; simp [tokens]

theorem tokens_disjoint {D E : Finset (Dev nD)} (h : Disjoint D E) : Disjoint (tokens D) (tokens E) := by
  rw [Finset.disjoint_left] at h ⊢
  intro u hu
  simp only [tokens, Finset.mem_filter, Finset.mem_univ, true_and] at hu ⊢
  exact h hu

theorem tokens_univ : tokens Finset.univ = Finset.univ := by
  ext u; simp [tokens]

theorem tokens_one (c : Dev nD) : (∅ ∪ chunkSet (chunkNo c t0_0)) ∪ chunkSet (chunkNo c t0_1) = tokens {c} := by
  ext u
  simp only [tokens, chunkSet, Finset.mem_filter, Finset.mem_univ, true_and, Finset.mem_union, Finset.notMem_empty, false_or, Finset.mem_singleton]
  show u.val / 512 = c.val * 2 + 0 ∨ u.val / 512 = c.val * 2 + 1 ↔ home u = c
  have e : home u = c ↔ u.val / 1024 = c.val := Fin.ext_iff
  rw [e]
  omega

/-- The devices that exchange in the first round with `c`, and `c`. -/
def grp (c : Dev nD) : Finset (Dev nD) := {c} ∪ {src 0 c} ∪ {src 1 c} ∪ {src 2 c}

theorem grp_disj : ∀ c : Dev nD, Disjoint ({c} : Finset (Dev nD)) {src 0 c} ∧ Disjoint ({c} ∪ {src 0 c} : Finset (Dev nD)) {src 1 c}
    ∧ Disjoint ({c} ∪ {src 0 c} ∪ {src 1 c} : Finset (Dev nD)) {src 2 c} := by decide +kernel

theorem grps_disj : ∀ c : Dev nD, Disjoint (grp c) (grp (src 5 c)) ∧ Disjoint (grp c ∪ grp (src 5 c)) (grp (src 4 c))
    ∧ Disjoint (grp c ∪ grp (src 5 c) ∪ grp (src 4 c)) (grp (src 3 c)) := by decide +kernel

theorem grps_all : ∀ c : Dev nD, grp c ∪ grp (src 5 c) ∪ grp (src 4 c) ∪ grp (src 3 c) = Finset.univ := by decide +kernel

variable {X : Setting} {m : (ℓ : Loc nD τ sig) → Buf (Elt Ideal) ℓ} (hF : Feeds X m)

include hF

/-- A device's two chunks. -/
theorem holds_loc (c : Dev nD) : X.Holds (tokens {c}) (loc m c) := by
  have h1 := holds_chunk X (holds_start X) (chunkNo c t0_0) (Finset.disjoint_left.2 (fun _ h => absurd h (Finset.notMem_empty _)))
    (qIn m c t0_0) (kIn m c t0_0) (vIn m c t0_0) (cIn m c t0_0) (hF.hq c t0_0) (hF.hk c t0_0) (hF.hv c t0_0) (hF.hc c t0_0)
  have hd : Disjoint (∅ ∪ chunkSet (chunkNo c t0_0)) (chunkSet (chunkNo c t0_1)) := by
    rw [Finset.disjoint_left]
    intro u
    simp only [chunkSet, Finset.mem_filter, Finset.mem_univ, true_and, Finset.mem_union, Finset.notMem_empty, false_or]
    show u.val / 512 = c.val * 2 + 0 → ¬ u.val / 512 = c.val * 2 + 1
    omega
  have h2 := holds_chunk X h1 (chunkNo c t0_1) hd
    (qIn m c t0_0) (kIn m c t0_1) (vIn m c t0_1) (cIn m c t0_1) (hF.hq c t0_0) (hF.hk c t0_1) (hF.hv c t0_1) (hF.hc c t0_1)
  rw [tokens_one] at h2
  exact h2

/-- After the first exchange. -/
theorem holds_sum1 (c : Dev nD) : X.Holds (tokens (grp c)) (sum1 m c) := by
  obtain ⟨d0, d1, d2⟩ := grp_disj c
  have h0 := holds_merge X (holds_loc hF c) (holds_loc hF (src 0 c)) (tokens_disjoint d0)
  rw [← tokens_union] at h0
  have h1 := holds_merge X h0 (holds_loc hF (src 1 c)) (tokens_disjoint d1)
  rw [← tokens_union] at h1
  have h2 := holds_merge X h1 (holds_loc hF (src 2 c)) (tokens_disjoint d2)
  rw [← tokens_union] at h2
  exact h2

/-- After both exchanges every token is in. -/
theorem holds_sum2 (c : Dev nD) : X.Holds Finset.univ (sum2 m c) := by
  obtain ⟨d0, d1, d2⟩ := grps_disj c
  have h0 := holds_merge X (holds_sum1 hF c) (holds_sum1 hF (src 5 c)) (tokens_disjoint d0)
  rw [← tokens_union] at h0
  have h1 := holds_merge X h0 (holds_sum1 hF (src 4 c)) (tokens_disjoint d1)
  rw [← tokens_union] at h1
  have h2 := holds_merge X h1 (holds_sum1 hF (src 3 c)) (tokens_disjoint d2)
  rw [← tokens_union, grps_all, tokens_univ] at h2
  exact h2

end Cert.Paged
-- ==== Proof.RefVal.lean ====
/-
# The reference's value

The reference's result at an index, as a sum over the tokens weighted by how many live table entries name their page.
-/
module

public import proofs.«01_k».proof.Proof.Gen.ReferenceIdeal.Run
public import proofs.«01_k».proof.Proof.Vals
public import Idealize.ShloMosaic.Lib.Pointwise
public import Idealize.ShloMosaic.Lib.Affine

@[expose] public section

set_option maxRecDepth 16000

noncomputable section

namespace Cert.Paged

open Cert.ReferenceIdeal Cert.ReferenceIdeal.Gen
open Idealize.ShloMosaic Idealize.ShloMosaic.Pointwise

/-! ## The arguments -/

/-- Entry `p` of sequence `b` is within the sequence's pages. -/
def live (lens : IVec S8 32) (b : Fin 8) (p : Fin 512) : Prop := (p.val : ℤ) < (lens (ix1 b)).toInt

instance (lens : IVec S8 32) (b : Fin 8) : DecidablePred (live lens b) := fun p => inferInstanceAs (Decidable ((p.val : ℤ) < (lens (ix1 b)).toInt))

/-- The page an entry names. -/
def page (bt : IVec S8x512 32) (b : Fin 8) (p : Fin 512) : Fin 1024 := ⟨min (bt (ix2 b p)).toInt.toNat 1023, by omega⟩

/-- The token at place `t` of the page an entry names. -/
def named (bt : IVec S8x512 32) (b : Fin 8) (p : Fin 512) (t : Fin 16) : Fin 16384 := ⟨(page bt b p).val * 16 + t.val, by have := (page bt b p).isLt; omega⟩

/-- Arguments as a server sends them: finite queries and keys, at least one page a sequence, live entries that name pages. -/
structure Fine (Q : S8x1x8x128.Idx → EReal) (K : S1024x16x8x128.Idx → EReal) (bt : IVec S8x512 32) (lens : IVec S8 32) : Prop where
  q : ∀ i, ((Q i).toReal : EReal) = Q i
  k : ∀ i, ((K i).toReal : EReal) = K i
  len : ∀ b, 1 ≤ (lens (ix1 b)).toInt
  bt : ∀ b p, live lens b p → 0 ≤ (bt (ix2 b p)).toInt ∧ (bt (ix2 b p)).toInt < 1024

/-- The tokens' data: queries, keys, values, and the count of live entries that name a token's page. -/
def setting (Q : S8x1x8x128.Idx → EReal) (K V : S1024x16x8x128.Idx → EReal) (bt : IVec S8x512 32) (lens : IVec S8 32) : Setting where
  q b h d := (Q (ix4 b 0 h d)).toReal
  k u h d := (K (ix4 ⟨u.val / 16, by omega⟩ ⟨u.val % 16, by omega⟩ h d)).toReal
  v u h d := V (ix4 ⟨u.val / 16, by omega⟩ ⟨u.val % 16, by omega⟩ h d)
  n b u := (Finset.univ.filter fun p => live lens b p ∧ (page bt b p).val = u.val / 16).card

/-! ## Grouping -/

/-- A sum over entries and places is a sum over tokens, each as often as entries name its page. -/
theorem group {M : Type} [AddCommMonoid M] (L : Fin 512 → Prop) [DecidablePred L] (G : Fin 512 → Fin 1024) (F : Fin 16384 → M) :
    ∑ u, (Finset.univ.filter fun p => L p ∧ (G p).val = u.val / 16).card • F u
      = ∑ p ∈ Finset.univ.filter L, ∑ t : Fin 16, F ⟨(G p).val * 16 + t.val, by have := (G p).isLt; omega⟩ := by
  have h1 (u : Fin 16384) : (Finset.univ.filter fun p => L p ∧ (G p).val = u.val / 16).card • F u
      = ∑ p ∈ Finset.univ.filter L, if (G p).val = u.val / 16 then F u else 0 := by
    rw [← Finset.sum_filter, Finset.filter_filter, Finset.sum_const]
  rw [Finset.sum_congr rfl fun u _ => h1 u, Finset.sum_comm]
  refine Finset.sum_congr rfl fun p _ => ?_
  rw [← Finset.sum_filter]
  symm
  refine Finset.sum_bij (fun t _ => (⟨(G p).val * 16 + t.val, by have := (G p).isLt; omega⟩ : Fin 16384)) ?_ ?_ ?_ (fun _ _ => rfl)
  · intro t _
    simp only [Finset.mem_filter, Finset.mem_univ, true_and]
    omega
  · intro a _ b _ h
    have := congrArg Fin.val h
    exact Fin.ext (by dsimp only at this; omega)
  · intro u hu
    simp only [Finset.mem_filter, Finset.mem_univ, true_and] at hu
    exact ⟨⟨u.val % 16, by omega⟩, Finset.mem_univ _, Fin.ext (by dsimp only; omega)⟩

/-! ## The operations -/

/-- The gather reads the row its start index names, clamped to the table. -/
theorem gather_apply (x : S1024x16x8x128.Idx → EReal) (idx : IVec S8x512x1 32) (b : Fin 8) (p : Fin 512) (t : Fin 16) (h : Fin 8) (d : Fin 128) :
    Host.gather gather_S1024x16x8x128_S8x512x1_S8x512x16x8x128_234_0_n_n_0_2_1168128 x idx (ix5 b p t h d)
      = x (ix4 ⟨min (idx (ix3 b p 0)).toInt.toNat 1023, by omega⟩ t h d) := by
  let G := gather_S1024x16x8x128_S8x512x1_S8x512x16x8x128_234_0_n_n_0_2_1168128
  have e : G.siIdx (ix5 b p t h d) ⟨0, by decide⟩ = ix3 b p 0 := by
    funext a
    match a with
    | ⟨0, _⟩ => exact Fin.ext (rfl)
    | ⟨1, _⟩ => exact Fin.ext (rfl)
    | ⟨2, _⟩ => exact Fin.ext (rfl)
  have c0 : (G.operandIdx (ix5 b p t h d) idx (0 : Fin 4)).val = min (idx (ix3 b p 0)).toInt.toNat 1023 := by
    show G.start _ _ (0 : Fin 4) + G.batchCoord _ (0 : Fin 4) + G.offCoord _ (0 : Fin 4) = _
    rw [G.batchCoord_eq_zero _ (0 : Fin 4) (by decide), G.offCoord_eq_zero _ (0 : Fin 4) (by decide), GatherDims.start, dif_pos (show (0 : Fin 4) ∈ G.startIndexMap by decide)]
    exact congrArg (fun i => min (idx i).toInt.toNat 1023) e
  have c1 : (G.operandIdx (ix5 b p t h d) idx (1 : Fin 4)).val = t.val := by
    show G.start _ _ (1 : Fin 4) + G.batchCoord _ (1 : Fin 4) + G.offCoord _ (1 : Fin 4) = _
    rw [G.batchCoord_eq_zero _ (1 : Fin 4) (by decide), GatherDims.start, dif_neg (show (1 : Fin 4) ∉ G.startIndexMap by decide), GatherDims.offCoord, dif_pos (show (1 : Fin 4) ∈ G.sKept by decide)]
    exact (Nat.zero_add _)
  have c2 : (G.operandIdx (ix5 b p t h d) idx (2 : Fin 4)).val = h.val := by
    show G.start _ _ (2 : Fin 4) + G.batchCoord _ (2 : Fin 4) + G.offCoord _ (2 : Fin 4) = _
    rw [G.batchCoord_eq_zero _ (2 : Fin 4) (by decide), GatherDims.start, dif_neg (show (2 : Fin 4) ∉ G.startIndexMap by decide), GatherDims.offCoord, dif_pos (show (2 : Fin 4) ∈ G.sKept by decide)]
    exact (Nat.zero_add _)
  have c3 : (G.operandIdx (ix5 b p t h d) idx (3 : Fin 4)).val = d.val := by
    show G.start _ _ (3 : Fin 4) + G.batchCoord _ (3 : Fin 4) + G.offCoord _ (3 : Fin 4) = _
    rw [G.batchCoord_eq_zero _ (3 : Fin 4) (by decide), GatherDims.start, dif_neg (show (3 : Fin 4) ∉ G.startIndexMap by decide), GatherDims.offCoord, dif_pos (show (3 : Fin 4) ∈ G.sKept by decide)]
    exact (Nat.zero_add _)
  refine congrArg x ?_
  funext a
  match a with
  | ⟨0, _⟩ => exact Fin.ext c0
  | ⟨1, _⟩ => exact Fin.ext c1
  | ⟨2, _⟩ => exact Fin.ext c2
  | ⟨3, _⟩ => exact Fin.ext c3

theorem sel_pos {α : Type} {c : BitVec 1} (h : c = 1#1) (x y : α) : Scalar.select c x y = x := if_pos h
theorem sel_neg {α : Type} {c : BitVec 1} (h : ¬ c = 1#1) (x y : α) : Scalar.select c x y = y := if_neg h

/-- The start indices of the gathers: negative ones count from the end. -/
def starts (bt : IVec S8x512 32) : IVec S8x512x1 32 :=
  broadcastInDim S8x512x1 ![0, 1] bcast_S8x512_S8x512x1_0_1 (select (cmpi .slt bt (broadcastInDim S8x512 ![] bcast_S_S8x512 (constantI S_ 32 0#32))) (addi bt (broadcastInDim S8x512 ![] bcast_S_S8x512 (constantI S_ 32 1024#32))) bt)

theorem starts_apply (bt : IVec S8x512 32) (b : Fin 8) (p : Fin 512) (h : 0 ≤ (bt (ix2 b p)).toInt) : starts bt (ix3 b p 0) = bt (ix2 b p) := by
  have e : starts bt (ix3 b p 0) = Scalar.select (IntOp.cmpi .slt (bt (ix2 b p)) 0#32) (IntOp.addi (bt (ix2 b p)) 1024#32) (bt (ix2 b p)) := by
    unfold starts
    pointwise
  rw [e, sel_neg]
  rw [IntOp.cmpi_slt]
  show ¬ (bt (ix2 b p)).toInt < 0
  omega

/-- A cache's pages as the table orders them. -/
def paged (A : S1024x16x8x128.Idx → EReal) (bt : IVec S8x512 32) : S8x512x16x8x128.Idx → EReal :=
  Host.gather gather_S1024x16x8x128_S8x512x1_S8x512x16x8x128_234_0_n_n_0_2_1168128 A (starts bt)

theorem paged_apply (A : S1024x16x8x128.Idx → EReal) (bt : IVec S8x512 32) (b : Fin 8) (p : Fin 512) (t : Fin 16) (h : Fin 8) (d : Fin 128)
    (hb : 0 ≤ (bt (ix2 b p)).toInt) : paged A bt (ix5 b p t h d) = A (ix4 (page bt b p) t h d) := by
  rw [paged, gather_apply]
  have e : (⟨min (starts bt (ix3 b p 0)).toInt.toNat 1023, by omega⟩ : Fin 1024) = page bt b p := Fin.ext (by
    show min (starts bt (ix3 b p 0)).toInt.toNat 1023 = min (bt (ix2 b p)).toInt.toNat 1023
    rw [starts_apply bt b p hb])
  rw [e]

/-- The masked scores. -/
def scores (Q : S8x1x8x128.Idx → EReal) (K : S8x512x16x8x128.Idx → EReal) (lens : IVec S8 32) : FVec Ideal S8x8x1x512x16 .f32 :=
  select (cmpi .slt (iotaInDim S8x8x1x512x16 32 3) (broadcastInDim S8x8x1x512x16 ![0, 1, 2, 3, 4] bcast_S8x1x1x1x1_S8x8x1x512x16_0_1_2_3_4 (broadcastInDim S8x1x1x1x1 ![0] bcast_S8_S8x1x1x1x1_0 lens)))
    (mulf (Host.dotGeneral (F := Ideal) (φ₁ := .f32) (φ₂ := .f32) dot_S8x1x8x128_S8x512x16x8x128_S8x8x1x512x16_3_4_1_12_02_03 none Q K) (broadcastInDim S8x8x1x512x16 ![] bcast_S_S8x8x1x512x16 (constant S_ .f32 0x3DB504F3#32)))
    (broadcastInDim S8x8x1x512x16 ![] bcast_S_S8x8x1x512x16 (constant (F := Ideal) S_ .f32 0xFF800000#32))

theorem scores_apply (Q : S8x1x8x128.Idx → EReal) (K : S8x512x16x8x128.Idx → EReal) (lens : IVec S8 32) (b h : Fin 8) (p : Fin 512) (t : Fin 16) :
    scores Q K lens (ix5 b h 0 p t) = if live lens b p then (∑ d, Q (ix4 b 0 h d) * K (ix5 b p t h d)) * (scl : EReal) else ⊥ := by
  have e : scores Q K lens (ix5 b h 0 p t) = Scalar.select (IntOp.cmpi .slt (BitVec.ofNat 32 p.val) (lens (ix1 b)))
      ((∑ d, Q (ix4 b 0 h d) * K (ix5 b p t h d)) * Ideal.ofBits .f32 0x3DB504F3#32) (Ideal.ofBits .f32 0xFF800000#32) := by
    unfold scores
    pointwise
  rw [e, scl_eq, ninf_bot]
  have hp : (BitVec.ofNat 32 p.val).toInt = (p.val : ℤ) := by
    have := p.isLt
    rw [BitVec.toInt_eq_toNat_of_lt] <;> simp only [BitVec.toNat_ofNat] <;> omega
  have hiff : IntOp.cmpi .slt (BitVec.ofNat 32 p.val) (lens (ix1 b)) = 1#1 ↔ live lens b p := by
    rw [IntOp.cmpi_slt, hp]
    rfl
  by_cases hl : live lens b p
  · rw [if_pos hl, sel_pos (hiff.2 hl)]
  · rw [if_neg hl, sel_neg (fun h => hl (hiff.1 h))]

/-! ## Reductions over the entries and the places -/

theorem drop_iff (b h : Fin 8) (i : S8x8x1x512x16.Idx) :
    reducesTo_S8x8x1x512x16_S8x8x1_d3_4.drop i = ix3 b h 0 ↔ ∃ (p : Fin 512) (t : Fin 16), ix5 b h 0 p t = i := by
  have h0 := reducesTo_S8x8x1x512x16_S8x8x1_d3_4.drop_apply_val_of_eq i 0 0
  have h1 := reducesTo_S8x8x1x512x16_S8x8x1_d3_4.drop_apply_val_of_eq i 1 1
  constructor
  · intro e
    have e0 := congrArg (fun j => (j 0 : ℕ)) e
    have e1 := congrArg (fun j => (j 1 : ℕ)) e
    dsimp only at e0 e1
    rw [h0] at e0
    rw [h1] at e1
    refine ⟨i 3, i 4, ?_⟩
    funext a
    match a with
    | ⟨0, _⟩ => exact Fin.ext e0.symm
    | ⟨1, _⟩ => exact Fin.ext e1.symm
    | ⟨2, _⟩ => exact Fin.ext (by have : (i 2).val < 1 := (i 2).isLt; show 0 = (i 2).val; omega)
    | ⟨3, _⟩ => rfl
    | ⟨4, _⟩ => rfl
  · rintro ⟨p, t, rfl⟩
    funext a
    match a with
    | ⟨0, _⟩ => exact Fin.ext h0
    | ⟨1, _⟩ => exact Fin.ext h1
    | ⟨2, _⟩ => exact Subsingleton.elim (α := Fin 1) _ _

/-- A sum over the dropped axes. -/
theorem drop_sum (W : S8x8x1x512x16.Idx → EReal) (b h : Fin 8) :
    ∑ i ∈ Finset.univ.filter (fun i => reducesTo_S8x8x1x512x16_S8x8x1_d3_4.drop i = ix3 b h 0), W i = ∑ p : Fin 512, ∑ t : Fin 16, W (ix5 b h 0 p t) := by
  rw [← Finset.sum_product']
  symm
  refine Finset.sum_bij (fun x _ => (ix5 b h 0 x.1 x.2 : S8x8x1x512x16.Idx)) ?_ ?_ ?_ (fun _ _ => rfl)
  · intro x _
    exact Finset.mem_filter.2 ⟨Finset.mem_univ _, (drop_iff b h _).2 ⟨_, _, rfl⟩⟩
  · intro x _ y _ e
    have e3 := congrFun e 3
    have e4 := congrFun e 4
    exact Prod.ext e3 e4
  · intro i hi
    obtain ⟨p, t, e⟩ := (drop_iff b h i).1 (Finset.mem_filter.1 hi).2
    exact ⟨(p, t), Finset.mem_product.2 ⟨Finset.mem_univ _, Finset.mem_univ _⟩, e⟩

/-- The greatest of reals and minus infinities, some of them real, is real. -/
theorem max_some {ι : Type} (S : Finset ι) (f : ι → EReal) (hf : ∀ i ∈ S, f i = ⊥ ∨ ∃ y : ℝ, f i = (y : EReal)) (hs : ∃ i ∈ S, ∃ y : ℝ, f i = (y : EReal)) :
    ∃ y : ℝ, S.fold max ⊥ f = (y : EReal) := by
  classical
  have h1 : S.fold max ⊥ f ≠ ⊥ := by
    obtain ⟨i, hi, y, hy⟩ := hs
    have : f i ≤ S.fold max ⊥ f := (Finset.le_fold_max _).2 (Or.inr ⟨i, hi, le_rfl⟩)
    intro e
    rw [e, hy] at this
    exact absurd (le_bot_iff.1 this) (EReal.coe_ne_bot y)
  have h2 : S.fold max ⊥ f ≠ ⊤ := by
    have : S.fold max ⊥ f < ⊤ := (Finset.fold_max_lt _).2 ⟨bot_lt_top, fun i hi => by
      rcases hf i hi with e | ⟨y, e⟩
      · rw [e]; exact bot_lt_top
      · rw [e]; exact EReal.coe_lt_top y⟩
    exact this.ne
  exact ⟨_, (EReal.coe_toReal h2 h1).symm⟩

/-! ## The result -/

/-- The unscaled weights. -/
def weights (S : FVec Ideal S8x8x1x512x16 .f32) : FVec Ideal S8x8x1x512x16 .f32 :=
  Host.exp (subf S (broadcastInDim S8x8x1x512x16 ![0, 1, 2, 3, 4] bcast_S8x8x1x1x1_S8x8x1x512x16_0_1_2_3_4 (broadcastInDim S8x8x1x1x1 ![0, 1, 2] bcast_S8x8x1_S8x8x1x1x1_0_1_2
    (Host.reduce FloatOps.maximumf S (constant S_ .f32 0xFF800000#32) reducesTo_S8x8x1x512x16_S8x8x1_d3_4 h_S_))))

/-- The softmax's weights. -/
def probs (W : FVec Ideal S8x8x1x512x16 .f32) : FVec Ideal S8x8x1x512x16 .f32 :=
  Host.divf W (broadcastInDim S8x8x1x512x16 ![0, 1, 2, 3, 4] bcast_S8x8x1x1x1_S8x8x1x512x16_0_1_2_3_4 (broadcastInDim S8x8x1x1x1 ![0, 1, 2] bcast_S8x8x1_S8x8x1x1x1_0_1_2
    (Host.reduceAdd W (constant S_ .f32 0x00000000#32) reducesTo_S8x8x1x512x16_S8x8x1_d3_4 h_S_)))

/-- The reference's result. -/
def refVal (Q : S8x1x8x128.Idx → EReal) (K V : S1024x16x8x128.Idx → EReal) (bt : IVec S8x512 32) (lens : IVec S8 32) : FVec Ideal S8x1x8x128 .f32 :=
  transpose S8x1x8x128 [0, 3, 1, 2] (Host.dotGeneral (F := Ideal) (φ₁ := .f32) (φ₂ := .f32) dot_S8x512x16x8x128_S8x8x1x512x16_S8x8x128x1_12_34_4_2_03_01 none
    (paged V bt) (probs (weights (scores Q (paged K bt) lens)))) transposes_S8x8x128x1_S8x1x8x128_0_3_1_2

/-- The reference's run ends with that result. -/
theorem res_eq (m : (ℓ : Loc nD τ sig) → Buf (Elt Ideal) ℓ) (c : Dev nD) :
    Cert.ReferenceIdeal.Value.res_main_v35 m c = refVal (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := (rfl)

theorem spread_exp (S : FVec Ideal S8x8x1x512x16 .f32) (mx : FVec Ideal S8x8x1 .f32) (b h : Fin 8) (p : Fin 512) (t : Fin 16) :
    Host.exp (subf S (broadcastInDim S8x8x1x512x16 ![0, 1, 2, 3, 4] bcast_S8x8x1x1x1_S8x8x1x512x16_0_1_2_3_4 (broadcastInDim S8x8x1x1x1 ![0, 1, 2] bcast_S8x8x1_S8x8x1x1x1_0_1_2 mx))) (ix5 b h 0 p t)
      = Ideal.exp (S (ix5 b h 0 p t) - mx (ix3 b h 0)) := by
  pointwise

theorem spread_div (W : FVec Ideal S8x8x1x512x16 .f32) (l : FVec Ideal S8x8x1 .f32) (b h : Fin 8) (p : Fin 512) (t : Fin 16) :
    Host.divf W (broadcastInDim S8x8x1x512x16 ![0, 1, 2, 3, 4] bcast_S8x8x1x1x1_S8x8x1x512x16_0_1_2_3_4 (broadcastInDim S8x8x1x1x1 ![0, 1, 2] bcast_S8x8x1_S8x8x1x1x1_0_1_2 l)) (ix5 b h 0 p t)
      = Ideal.div (W (ix5 b h 0 p t)) (l (ix3 b h 0)) := by
  pointwise

theorem greatest_apply (S : FVec Ideal S8x8x1x512x16 .f32) (b h : Fin 8) :
    Host.reduce FloatOps.maximumf S (constant S_ .f32 0xFF800000#32) reducesTo_S8x8x1x512x16_S8x8x1_d3_4 h_S_ (ix3 b h 0)
      = Finset.fold max ⊥ S (Finset.univ.filter fun i => reducesTo_S8x8x1x512x16_S8x8x1_d3_4.drop i = ix3 b h 0) := by
  pointwise
  rw [ninf_bot]

theorem total_apply (W : FVec Ideal S8x8x1x512x16 .f32) (b h : Fin 8) :
    Host.reduceAdd W (constant S_ .f32 0x00000000#32) reducesTo_S8x8x1x512x16_S8x8x1_d3_4 h_S_ (ix3 b h 0) = ∑ p : Fin 512, ∑ t : Fin 16, W (ix5 b h 0 p t) := by
  pointwise
  rw [Ideal.hostReduceAdd, drop_sum]
  simp

theorem mix_apply (V : S8x512x16x8x128.Idx → EReal) (W : FVec Ideal S8x8x1x512x16 .f32) (b h : Fin 8) (d : Fin 128) :
    transpose S8x1x8x128 [0, 3, 1, 2] (Host.dotGeneral (F := Ideal) (φ₁ := .f32) (φ₂ := .f32) dot_S8x512x16x8x128_S8x8x1x512x16_S8x8x128x1_12_34_4_2_03_01 none V W)
      transposes_S8x8x128x1_S8x1x8x128_0_3_1_2 (ix4 b 0 h d) = ∑ p : Fin 512, ∑ t : Fin 16, V (ix5 b p t h d) * W (ix5 b h 0 p t) := by
  pointwise

section Result

variable {Q : S8x1x8x128.Idx → EReal} {K V : S1024x16x8x128.Idx → EReal} {bt : IVec S8x512 32} {lens : IVec S8 32}

/-- A token's page and place. -/
theorem named_ix (A : S1024x16x8x128.Idx → EReal) (bt : IVec S8x512 32) (b : Fin 8) (p : Fin 512) (t : Fin 16) (h : Fin 8) (d : Fin 128) :
    A (ix4 ⟨(named bt b p t).val / 16, by omega⟩ ⟨(named bt b p t).val % 16, by omega⟩ h d) = A (ix4 (page bt b p) t h d) := by
  have e1 : (⟨(named bt b p t).val / 16, by omega⟩ : Fin 1024) = page bt b p := Fin.ext (by show ((page bt b p).val * 16 + t.val) / 16 = _; omega)
  have e2 : (⟨(named bt b p t).val % 16, by omega⟩ : Fin 16) = t := Fin.ext (by show ((page bt b p).val * 16 + t.val) % 16 = _; omega)
  rw [e1, e2]

variable (hf : Fine Q K bt lens) (V)

include hf

/-- Every sequence names some token. -/
theorem some_named (b : Fin 8) : ∃ u, (setting Q K V bt lens).n b u ≠ 0 := by
  refine ⟨named bt b 0 0, ?_⟩
  have hm : (0 : Fin 512) ∈ Finset.univ.filter fun p => live lens b p ∧ (page bt b p).val = (named bt b 0 0).val / 16 := by
    refine Finset.mem_filter.2 ⟨Finset.mem_univ _, ?_, ?_⟩
    · have := hf.len b
      show (0 : ℤ) < _
      omega
    · show (page bt b 0).val = ((page bt b 0).val * 16 + 0) / 16
      omega
  exact Finset.card_ne_zero_of_mem hm

/-- The score of a live entry's token. -/
theorem scores_live (b h : Fin 8) (p : Fin 512) (t : Fin 16) (hl : live lens b p) :
    scores Q (paged K bt) lens (ix5 b h 0 p t) = (((setting Q K V bt lens).sc b h (named bt b p t) : ℝ) : EReal) := by
  rw [scores_apply, if_pos hl, Setting.sc, EReal.coe_mul, ← sum_coe]
  refine congrArg (· * (scl : EReal)) (Finset.sum_congr rfl fun d _ => ?_)
  rw [EReal.coe_mul, paged_apply K bt b p t h d (hf.bt b p hl).1]
  show _ = (((Q (ix4 b 0 h d)).toReal : ℝ) : EReal) * (((K (ix4 ⟨(named bt b p t).val / 16, _⟩ ⟨(named bt b p t).val % 16, _⟩ h d)).toReal : ℝ) : EReal)
  rw [hf.q, hf.k, named_ix K bt b p t h d]

/-- The weights: exponentials of live scores less a real, zeros elsewhere. -/
theorem weights_apply (b h : Fin 8) : ∃ μ : ℝ, ∀ p t, weights (scores Q (paged K bt) lens) (ix5 b h 0 p t)
    = ((if live lens b p then Real.exp ((setting Q K V bt lens).sc b h (named bt b p t) - μ) else 0 : ℝ) : EReal) := by
  have hdead (p : Fin 512) (t : Fin 16) (hl : ¬ live lens b p) : scores Q (paged K bt) lens (ix5 b h 0 p t) = ⊥ := by
    rw [scores_apply, if_neg hl]
  obtain ⟨μ, hμ⟩ := max_some (Finset.univ.filter fun i => reducesTo_S8x8x1x512x16_S8x8x1_d3_4.drop i = ix3 b h 0) (scores Q (paged K bt) lens)
    (by
      intro i hi
      obtain ⟨p, t, rfl⟩ := (drop_iff b h i).1 (Finset.mem_filter.1 hi).2
      by_cases hl : live lens b p
      · exact Or.inr ⟨_, scores_live V hf b h p t hl⟩
      · exact Or.inl (hdead p t hl))
    (by
      have hl : live lens b 0 := by
        have := hf.len b
        show (0 : ℤ) < _
        omega
      exact ⟨ix5 b h 0 0 0, Finset.mem_filter.2 ⟨Finset.mem_univ _, (drop_iff b h _).2 ⟨0, 0, rfl⟩⟩, _, scores_live V hf b h 0 0 hl⟩)
  refine ⟨μ, fun p t => ?_⟩
  rw [weights, spread_exp, greatest_apply, hμ]
  by_cases hl : live lens b p
  · rw [if_pos hl, scores_live V hf b h p t hl, ← EReal.coe_sub]
    rfl
  · rw [if_neg hl, hdead p t hl, EReal.bot_sub]
    rfl

/-- The reference's result: the values of all tokens, weighted by the softmax of their scores, each as often as live entries name its page. -/
theorem refVal_apply (b h : Fin 8) (d : Fin 128) : ∃ μ : ℝ, refVal Q K V bt lens (ix4 b 0 h d)
    = ∑ u, (setting Q K V bt lens).n b u • (((Real.exp ((setting Q K V bt lens).sc b h u - μ)
        / wsum ((setting Q K V bt lens).n b) ((setting Q K V bt lens).sc b h) Finset.univ μ : ℝ) : EReal) * (setting Q K V bt lens).v u h d) := by
  obtain ⟨μ, hμ⟩ := weights_apply V hf b h
  refine ⟨μ, ?_⟩
  have hL : Host.reduceAdd (weights (scores Q (paged K bt) lens)) (constant S_ .f32 0x00000000#32) reducesTo_S8x8x1x512x16_S8x8x1_d3_4 h_S_ (ix3 b h 0)
      = ((wsum ((setting Q K V bt lens).n b) ((setting Q K V bt lens).sc b h) Finset.univ μ : ℝ) : EReal) := by
    rw [total_apply, Finset.sum_congr rfl fun p _ => (Finset.sum_congr rfl fun t _ => hμ p t).trans (sum_coe _ _), sum_coe]
    refine congrArg (fun x : ℝ => (x : EReal)) ?_
    have hg := group (live lens b) (page bt b) (fun u => Real.exp ((setting Q K V bt lens).sc b h u - μ))
    refine Eq.trans ?_ (hg.symm.trans ?_)
    · rw [Finset.sum_filter]
      refine Finset.sum_congr rfl fun p _ => ?_
      by_cases hl : live lens b p
      · simp only [if_pos hl]; rfl
      · simp only [if_neg hl, Finset.sum_const_zero]
    · exact Finset.sum_congr rfl fun u _ => nsmul_eq_mul _ _
  have hne : wsum ((setting Q K V bt lens).n b) ((setting Q K V bt lens).sc b h) Finset.univ μ ≠ 0 := by
    obtain ⟨u, hu⟩ := some_named V hf b
    exact (Finset.sum_pos' (fun i _ => mul_nonneg (Nat.cast_nonneg _) (Real.exp_pos _).le)
      ⟨u, Finset.mem_univ _, mul_pos (Nat.cast_pos.2 (Nat.pos_of_ne_zero hu)) (Real.exp_pos _)⟩).ne'
  rw [refVal, mix_apply]
  have hg := group (live lens b) (page bt b) (fun u => ((Real.exp ((setting Q K V bt lens).sc b h u - μ)
        / wsum ((setting Q K V bt lens).n b) ((setting Q K V bt lens).sc b h) Finset.univ μ : ℝ) : EReal) * (setting Q K V bt lens).v u h d)
  refine Eq.trans ?_ hg.symm
  rw [Finset.sum_filter]
  refine Finset.sum_congr rfl fun p _ => ?_
  by_cases hl : live lens b p
  · rw [if_pos hl]
    refine Finset.sum_congr rfl fun t _ => ?_
    rw [probs, spread_div, hL, hμ p t, if_pos hl, Ideal.div_coe hne, paged_apply V bt b p t h d (hf.bt b p hl).1, ← EReal.coe_mul, mul_one_div, mul_comm, ← named_ix V bt b p t h d]
    rfl
  · rw [if_neg hl]
    refine Finset.sum_eq_zero fun t _ => ?_
    rw [probs, spread_div, hL, hμ p t, if_neg hl, Ideal.div_coe hne, ← EReal.coe_mul, zero_mul, EReal.coe_zero, mul_zero]

end Result

end Cert.Paged
-- ==== Proof.Inputs.lean ====
/-
# The blocks a device reads

The queries, the pages and the counts of a device's windows at a grid point, in terms of the arrays.
-/
module

public import proofs.«01_k».proof.Proof.Cover
public import proofs.«01_k».proof.Proof.RefVal
public import Idealize.ShloMosaic.Lib.Pointwise
public import Idealize.ShloMosaic.Lib.IndicatorCount

@[expose] public section

set_option maxRecDepth 16000

noncomputable section

namespace Cert.Paged

open Cert.KernelIdeal Cert.KernelIdeal.Gen
open Idealize.ShloMosaic
open Idealize.ShloMosaic.TcCoe

variable (m : (ℓ : Loc nD τ sig) → Buf (Elt Ideal) ℓ) (c : Dev nD) (t : Fin grid0.N)

theorem coords_0 : ∀ t : Fin grid0.N, (grid0.coords t 0).val = t.val := by decide

/-- The block of pages a window of a cache reads at a point. -/
theorem index_1 : ((cfgD (F := Ideal) c).win 1).index t = ![c.val % 8 * 2 + t.val, 0, 0, 0] := by
  rw [← coords_0 t]
  exact transform_1_eq c (grid0.coords t)

theorem index_2 : ((cfgD (F := Ideal) c).win 2).index t = ![c.val % 8 * 2 + t.val, 0, 0, 0] := by
  rw [← coords_0 t]
  exact transform_2_eq c (grid0.coords t)

/-- The queries, whole. -/
theorem qIn_apply (i : S8x1x8x128.Idx) : qIn m c t i = m ((c.tc : Thread nD τ).loc main_arg0) i := by
  show V1 m c main_arg0 ((((cfgD (F := Ideal) c).win 0).blk t).view.emb i) = _
  rw [V1_of m c main_arg0 (by decide)]
  refine congrArg (m ((c.tc : Thread nD τ).loc main_arg0)) ?_
  funext a
  apply Fin.ext
  refine (Pipeline.Window.rect_emb_val ((cfgD (F := Ideal) c).win 0) t i a).trans ?_
  have e : ((cfgD (F := Ideal) c).win 0).index t = ![0, 0, 0, 0] := (rfl)
  rw [e]
  match a with
  | ⟨0, _⟩ => exact (congrArg (· + (i 0).val) (Nat.zero_mul _)).trans (Nat.zero_add _)
  | ⟨1, _⟩ => exact (congrArg (· + (i 1).val) (Nat.zero_mul _)).trans (Nat.zero_add _)
  | ⟨2, _⟩ => exact (congrArg (· + (i 2).val) (Nat.zero_mul _)).trans (Nat.zero_add _)
  | ⟨3, _⟩ => exact (congrArg (· + (i 3).val) (Nat.zero_mul _)).trans (Nat.zero_add _)

/-- The keys. -/
theorem kIn_apply (a : Fin 32) (s : Fin 16) (h : Fin 8) (d : Fin 128) (ha : (c.val % 8 * 2 + t.val) * 32 + a.val < 512) :
    kIn m c t (ix4 a s h d) = m ((c.tc : Thread nD τ).loc main_arg1) (ix4 ⟨(c.val % 8 * 2 + t.val) * 32 + a.val, ha⟩ s h d) := by
  show V1 m c main_arg1 ((((cfgD (F := Ideal) c).win 1).blk t).view.emb (ix4 a s h d)) = _
  rw [V1_of m c main_arg1 (by decide)]
  refine congrArg (m ((c.tc : Thread nD τ).loc main_arg1)) ?_
  funext x
  apply Fin.ext
  refine (Pipeline.Window.rect_emb_val ((cfgD (F := Ideal) c).win 1) t (ix4 a s h d) x).trans ?_
  rw [index_1]
  match x with
  | ⟨0, _⟩ => rfl
  | ⟨1, _⟩ => exact (congrArg (· + s.val) (Nat.zero_mul _)).trans (Nat.zero_add _)
  | ⟨2, _⟩ => exact (congrArg (· + h.val) (Nat.zero_mul _)).trans (Nat.zero_add _)
  | ⟨3, _⟩ => exact (congrArg (· + d.val) (Nat.zero_mul _)).trans (Nat.zero_add _)

/-- The values. -/
theorem vIn_apply (a : Fin 32) (s : Fin 16) (h : Fin 8) (d : Fin 128) (ha : (c.val % 8 * 2 + t.val) * 32 + a.val < 512) :
    vIn m c t (ix4 a s h d) = m ((c.tc : Thread nD τ).loc main_arg2) (ix4 ⟨(c.val % 8 * 2 + t.val) * 32 + a.val, ha⟩ s h d) := by
  show V1 m c main_arg2 ((((cfgD (F := Ideal) c).win 2).blk t).view.emb (ix4 a s h d)) = _
  rw [V1_of m c main_arg2 (by decide)]
  refine congrArg (m ((c.tc : Thread nD τ).loc main_arg2)) ?_
  funext x
  apply Fin.ext
  refine (Pipeline.Window.rect_emb_val ((cfgD (F := Ideal) c).win 2) t (ix4 a s h d) x).trans ?_
  rw [index_2]
  match x with
  | ⟨0, _⟩ => rfl
  | ⟨1, _⟩ => exact (congrArg (· + s.val) (Nat.zero_mul _)).trans (Nat.zero_add _)
  | ⟨2, _⟩ => exact (congrArg (· + h.val) (Nat.zero_mul _)).trans (Nat.zero_add _)
  | ⟨3, _⟩ => exact (congrArg (· + d.val) (Nat.zero_mul _)).trans (Nat.zero_add _)

/-- The counts. -/
theorem cIn_apply (b : Fin 8) (k : Fin 512) (hk : t.val * 512 + k.val < 1024) : cIn m c t (ix2 b k) = V1 m c main_v45 (ix2 b ⟨t.val * 512 + k.val, hk⟩) := by
  show V1 m c main_v45 ((((cfgD (F := Ideal) c).win 3).blk t).view.emb (ix2 b k)) = _
  refine congrArg (V1 m c main_v45) ?_
  funext x
  apply Fin.ext
  refine (Pipeline.Window.rect_emb_val ((cfgD (F := Ideal) c).win 3) t (ix2 b k) x).trans ?_
  have e : ((cfgD (F := Ideal) c).win 3).index t = ![0, t.val] := by
    have h : ∀ t : Fin grid0.N, cc0_transform_3 (grid0.coords t) = ![0, t.val] := by decide
    exact h t
  rw [e]
  match x with
  | ⟨0, _⟩ => exact (congrArg (· + b.val) (Nat.zero_mul _)).trans (Nat.zero_add _)
  | ⟨1, _⟩ => rfl

/-! ## The counts of a device's pages -/

/-- The first page of a device, as its host operations compute it. -/
def first (c : Dev nD) : IVec S_ 32 :=
  addi (muli (id (Host.remui (Host.divui (constantI S_ 32 c.word) (constantI S_ 32 8#32)) (constantI S_ 32 2#32))) (constantI S_ 32 512#32))
    (muli (addi (muli (id (Host.remui (Host.divui (constantI S_ 32 c.word) (constantI S_ 32 4#32)) (constantI S_ 32 2#32))) (constantI S_ 32 4#32))
      (id (Host.remui (Host.divui (constantI S_ 32 c.word) (constantI S_ 32 1#32)) (constantI S_ 32 4#32)))) (constantI S_ 32 64#32))

theorem first_eq (i : S_.Idx) : first c i = BitVec.ofNat 32 (c.val * 64) := by
  show IntOp.addi (IntOp.muli (IntOp.remui .host (IntOp.divui .host c.word 8#32) 2#32) 512#32) (IntOp.muli (IntOp.addi (IntOp.muli (IntOp.remui .host (IntOp.divui .host c.word 4#32) 2#32) 4#32)
    (IntOp.remui .host (IntOp.divui .host c.word 1#32) 4#32)) 64#32) = BitVec.ofNat 32 (c.val * 64)
  revert c
  decide

/-- Whether a live entry names one of 64 pages from a first. -/
def hits (bt : IVec S8x512 32) (lens : IVec S8 32) (w : IVec S_ 32) : IVec S8x512x64 1 :=
  andi
    (cmpi .eq (broadcastInDim S8x512x64 ![0, 1, 2] bcast_S8x512x1_S8x512x64_0_1_2 (broadcastInDim S8x512x1 ![0, 1] bcast_S8x512_S8x512x1_0_1 (subi bt (broadcastInDim S8x512 ![] bcast_S_S8x512 w))))
      (broadcastInDim S8x512x64 ![0, 1, 2] bcast_S1x1x64_S8x512x64_0_1_2 (broadcastInDim S1x1x64 ![2] bcast_S64_S1x1x64_2 (iotaInDim S64 32 0))))
    (broadcastInDim S8x512x64 ![0, 1, 2] bcast_S8x512x1_S8x512x64_0_1_2 (broadcastInDim S8x512x1 ![0, 1] bcast_S8x512_S8x512x1_0_1
      (andi
        (andi
          (cmpi .slt (broadcastInDim S8x512 ![0, 1] bcast_S1x512_S8x512_0_1 (broadcastInDim S1x512 ![1] bcast_S512_S1x512_1 (iotaInDim S512 32 0)))
            (broadcastInDim S8x512 ![0, 1] bcast_S8x1_S8x512_0_1 (broadcastInDim S8x1 ![0] bcast_S8_S8x1_0 lens)))
          (cmpi .sge (subi bt (broadcastInDim S8x512 ![] bcast_S_S8x512 w)) (broadcastInDim S8x512 ![] bcast_S_S8x512 (constantI S_ 32 0#32))))
        (cmpi .slt (subi bt (broadcastInDim S8x512 ![] bcast_S_S8x512 w)) (broadcastInDim S8x512 ![] bcast_S_S8x512 (constantI S_ 32 64#32))))))

/-- The number of hits of each page, in each of its token's lanes. -/
def tally (H : IVec S8x512x64 1) : FVec Ideal S8x1024 .f32 :=
  shapeCast S8x1024 (broadcastInDim S8x64x16 ![0, 1] bcast_S8x64_S8x64x16_0_1
    (sitofp .f32 (Host.reduce IntOp.addi (extui 32 H natLt_1_32) (constantI S_ 32 0#32) reducesTo_S8x512x64_S8x64_d1 h_S_))) shapeCasts_S8x64x16_S8x1024

/-- The counts as the host operations leave them. -/
theorem V1_v45 : V1 m c main_v45 = tally (hits (m ((c.tc : Thread nD τ).loc main_arg3)) (m ((c.tc : Thread nD τ).loc main_arg4)) (first c)) := by
  show StableHlo.after (hostOps0 c) (V0 m c) (Proc.devRef .tc main_v45) = _
  after_reads_simp
  rfl

theorem hits_apply (bt : IVec S8x512 32) (lens : IVec S8 32) (w : IVec S_ 32) (b : Fin 8) (p : Fin 512) (g : Fin 64) (v : BitVec 32) (hw : ∀ i, w i = v) :
    hits bt lens w (ix3 b p g) = IntOp.andi (IntOp.cmpi .eq (IntOp.subi (bt (ix2 b p)) v) (BitVec.ofNat 32 g.val))
      (IntOp.andi (IntOp.andi (IntOp.cmpi .slt (BitVec.ofNat 32 p.val) (lens (ix1 b))) (IntOp.cmpi .sge (IntOp.subi (bt (ix2 b p)) v) 0#32))
        (IntOp.cmpi .slt (IntOp.subi (bt (ix2 b p)) v) 64#32)) := by
  unfold hits
  pointwise
  simp only [hw]

/-- Per-page values spread over their pages' lanes. -/
theorem spread_apply (C : FVec Ideal S8x64 .f32) (b : Fin 8) (l : Fin 1024) :
    shapeCast S8x1024 (broadcastInDim S8x64x16 ![0, 1] bcast_S8x64_S8x64x16_0_1 C) shapeCasts_S8x64x16_S8x1024 (ix2 b l)
      = C (ix2 b ⟨l.val / 16, by omega⟩) := by
  pointwise

theorem drop_counts_iff (i : S8x512x64.Idx) (b : Fin 8) (g : Fin 64) :
    reducesTo_S8x512x64_S8x64_d1.drop i = ix2 b g ↔ (i 0).val = b.val ∧ (i 2).val = g.val := by
  constructor
  · intro h
    refine ⟨?_, ?_⟩
    · have := Shape.ReducesTo.drop_apply_val_of_eq reducesTo_S8x512x64_S8x64_d1 i 0 0 (by decide)
      rw [h] at this
      exact this.symm
    · have := Shape.ReducesTo.drop_apply_val_of_eq reducesTo_S8x512x64_S8x64_d1 i 1 2 (by decide)
      rw [h] at this
      exact this.symm
  · rintro ⟨h0, h2⟩
    funext a
    match a with
    | ⟨0, _⟩ => exact Fin.ext ((Shape.ReducesTo.drop_apply_val_of_eq reducesTo_S8x512x64_S8x64_d1 i 0 0 (by decide)).trans h0)
    | ⟨1, _⟩ => exact Fin.ext ((Shape.ReducesTo.drop_apply_val_of_eq reducesTo_S8x512x64_S8x64_d1 i 1 2 (by decide)).trans h2)

theorem sitofp_nat (n : ℕ) (hn : n ≤ 512) : (FloatOps.sitofp (F := Ideal) .f32 (BitVec.ofNat 32 n) : EReal) = ((n : ℝ) : EReal) := by
  show (((BitVec.ofNat 32 n).toInt : ℝ) : EReal) = ((n : ℝ) : EReal)
  rw [BitVec.toInt_eq_toNat_of_lt (by rw [BitVec.toNat_ofNat]; omega), BitVec.toNat_ofNat, Nat.mod_eq_of_lt (by omega)]
  norm_cast

theorem tally_apply (H : IVec S8x512x64 1) (b : Fin 8) (l : Fin 1024) :
    tally H (ix2 b l) = (((Finset.univ.filter fun p => H (ix3 b p ⟨l.val / 16, by omega⟩) = 1#1).card : ℝ) : EReal) := by
  unfold tally
  rw [spread_apply]
  generalize (⟨l.val / 16, by omega⟩ : Fin 64) = g
  have hcard : ((Finset.univ.filter fun i => reducesTo_S8x512x64_S8x64_d1.drop i = ix2 b g).filter fun i => H i = 1#1).card
      = (Finset.univ.filter fun p => H (ix3 b p g) = 1#1).card := by
    symm
    refine Finset.card_bij (fun p _ => ix3 b p g) ?_ ?_ ?_
    · intro p hp
      rw [Finset.mem_filter, Finset.mem_filter]
      exact ⟨⟨Finset.mem_univ _, (drop_counts_iff _ b g).2 ⟨rfl, rfl⟩⟩, (Finset.mem_filter.1 hp).2⟩
    · intro p _ p' _ h
      exact congrFun h 1
    · intro i hi
      rw [Finset.mem_filter, Finset.mem_filter] at hi
      obtain ⟨h0, h2⟩ := (drop_counts_iff i b g).1 hi.1.2
      have e : i = ix3 b (i 1) g := by
        funext a
        match a with
        | ⟨0, _⟩ => exact Fin.ext h0
        | ⟨1, _⟩ => rfl
        | ⟨2, _⟩ => exact Fin.ext h2
      exact ⟨i 1, Finset.mem_filter.2 ⟨Finset.mem_univ _, e ▸ hi.2⟩, e.symm⟩
  have hle : (Finset.univ.filter fun p : Fin 512 => H (ix3 b p g) = 1#1).card ≤ 512 := (Finset.card_filter_le _ _).trans (by simp)
  have hr : Host.reduce IntOp.addi (extui 32 H natLt_1_32) (constantI S_ 32 0#32) reducesTo_S8x512x64_S8x64_d1 h_S_ (ix2 b g)
      = BitVec.ofNat 32 (Finset.univ.filter fun p => H (ix3 b p g) = 1#1).card := by
    rw [Host.reduce_eq_fold, ← hcard]
    exact Idealize.ShloMosaic.IndicatorCount.fold_addi_setWidth_eq_card H _
  show (FloatOps.sitofp (F := Ideal) .f32 (Host.reduce IntOp.addi (extui 32 H natLt_1_32) (constantI S_ 32 0#32) reducesTo_S8x512x64_S8x64_d1 h_S_ (ix2 b g)) : EReal) = _
  rw [hr]
  exact sitofp_nat _ hle

/-- A word in the range of the pages names page `g` from a device's first page exactly when it is that page. -/
theorem hit_iff (x y : BitVec 32) (p : Fin 512) (g : Fin 64) (hx : (p.val : ℤ) < y.toInt → 0 ≤ x.toInt ∧ x.toInt < 1024) :
    IntOp.andi (IntOp.cmpi .eq (IntOp.subi x (BitVec.ofNat 32 (c.val * 64))) (BitVec.ofNat 32 g.val))
      (IntOp.andi (IntOp.andi (IntOp.cmpi .slt (BitVec.ofNat 32 p.val) y) (IntOp.cmpi .sge (IntOp.subi x (BitVec.ofNat 32 (c.val * 64))) 0#32))
        (IntOp.cmpi .slt (IntOp.subi x (BitVec.ofNat 32 (c.val * 64))) 64#32)) = 1#1
      ↔ (p.val : ℤ) < y.toInt ∧ min x.toInt.toNat 1023 = c.val * 64 + g.val := by
  have hc : c.val < 16 := c.isLt
  have hg := g.isLt
  have hp := p.isLt
  have e1 : (BitVec.ofNat 32 p.val).toInt = (p.val : ℤ) := by
    rw [BitVec.toInt_eq_toNat_of_lt (by rw [BitVec.toNat_ofNat]; omega), BitVec.toNat_ofNat, Nat.mod_eq_of_lt (by omega)]
  rw [IntOp.andi_eq_one, IntOp.andi_eq_one, IntOp.andi_eq_one, IntOp.cmpi_eq, IntOp.cmpi_slt, IntOp.cmpi_sge, IntOp.cmpi_slt, e1]
  constructor
  · rintro ⟨hq, ⟨hl, _⟩, _⟩
    obtain ⟨h0, h1⟩ := hx hl
    refine ⟨hl, ?_⟩
    have ex : x = BitVec.ofNat 32 (c.val * 64 + g.val) := by
      have : IntOp.subi x (BitVec.ofNat 32 (c.val * 64)) = x - BitVec.ofNat 32 (c.val * 64) := rfl
      rw [this] at hq
      rw [Nat.add_comm, BitVec.ofNat_add, ← hq, BitVec.sub_add_cancel]
    rw [ex, BitVec.toInt_eq_toNat_of_lt (by rw [BitVec.toNat_ofNat]; omega), BitVec.toNat_ofNat, Nat.mod_eq_of_lt (by omega)]
    omega
  · rintro ⟨hl, hm⟩
    obtain ⟨h0, h1⟩ := hx hl
    have ex : x = BitVec.ofNat 32 (c.val * 64) + BitVec.ofNat 32 g.val := by
      rw [← BitVec.ofNat_add]
      apply BitVec.eq_of_toInt_eq
      rw [BitVec.toInt_eq_toNat_of_lt (x := BitVec.ofNat 32 _) (by rw [BitVec.toNat_ofNat]; omega), BitVec.toNat_ofNat, Nat.mod_eq_of_lt (by omega)]
      omega
    have es : IntOp.subi x (BitVec.ofNat 32 (c.val * 64)) = BitVec.ofNat 32 g.val := by
      show x - BitVec.ofNat 32 (c.val * 64) = _
      rw [ex, BitVec.add_comm, BitVec.add_sub_cancel]
    have e2 : (BitVec.ofNat 32 g.val).toInt = (g.val : ℤ) := by
      rw [BitVec.toInt_eq_toNat_of_lt (by rw [BitVec.toNat_ofNat]; omega), BitVec.toNat_ofNat, Nat.mod_eq_of_lt (by omega)]
    have e3 : (0#32).toInt = 0 := by decide
    have e4 : (64#32).toInt = 64 := by decide
    rw [es, e2, e3, e4]
    exact ⟨rfl, ⟨hl, by omega⟩, by omega⟩

/-- The counts of a device's pages: how many live entries of a sequence name the page of a lane. -/
theorem counts (hbt : ∀ b p, live (m ((c.tc : Thread nD τ).loc main_arg4)) b p →
      0 ≤ ((m ((c.tc : Thread nD τ).loc main_arg3)) (ix2 b p) : BitVec 32).toInt ∧ ((m ((c.tc : Thread nD τ).loc main_arg3)) (ix2 b p) : BitVec 32).toInt < 1024)
    (b : Fin 8) (l : Fin 1024) :
    V1 m c main_v45 (ix2 b l) = (((Finset.univ.filter fun p => live (m ((c.tc : Thread nD τ).loc main_arg4)) b p
      ∧ (page (m ((c.tc : Thread nD τ).loc main_arg3)) b p).val = c.val * 64 + l.val / 16).card : ℝ) : EReal) := by
  rw [V1_v45]
  refine (tally_apply _ b l).trans ?_
  congr 3
  refine Finset.filter_congr fun p _ => ?_
  rw [hits_apply _ _ _ b p _ _ (first_eq c)]
  exact hit_iff c _ _ p _ (hbt b p)

end Cert.Paged
-- ==== Proof.Served.lean ====
/-
# What the precondition says

The predicate `served`, read back: finite queries and keys, at least one page a sequence, live entries that name pages.
-/
module

public import proofs.«01_k».proof.Defs
public import proofs.«01_k».proof.Proof.RefVal
public import Idealize.ShloMosaic.Lib.ReduceAll

@[expose] public section

set_option maxRecDepth 16000

noncomputable section

namespace Cert.Paged

open Idealize.ShloMosaic

/-- The predicate's shape conditions, on the devices' blocks. -/
theorem served_facts : Cert.Pre_served_KernelIdeal.Facts where
  bcast_S8_S8x1_0 := by decide
  bcast_S8x1_S8x512_0_1 := by decide
  bitsLt_bf16_f32 := by decide
  bcast_S_S8x1x8x128 := by decide
  reducesTo_S8x1x8x128_S_d0_1_2_3 := by decide
  h_S_ := by decide
  bcast_S_S512x16x8x128 := by decide
  reducesTo_S512x16x8x128_S_d0_1_2_3 := by decide
  bcast_S_S8 := by decide
  reducesTo_S8_S_d0 := by decide
  bcast_S_S8x512 := by decide
  reducesTo_S8x512_S_d0_1 := by decide

/-- The same on whole arrays. -/
theorem served_facts_ref : Cert.Pre_served_ReferenceIdeal.Facts where
  bcast_S8_S8x1_0 := by decide
  bcast_S8x1_S8x512_0_1 := by decide
  bitsLt_bf16_f32 := by decide
  bcast_S_S8x1x8x128 := by decide
  reducesTo_S8x1x8x128_S_d0_1_2_3 := by decide
  h_S_ := by decide
  bcast_S_S1024x16x8x128 := by decide
  reducesTo_S1024x16x8x128_S_d0_1_2_3 := by decide
  bcast_S_S8 := by decide
  reducesTo_S8_S_d0 := by decide
  bcast_S_S8x512 := by decide
  reducesTo_S8x512_S_d0_1 := by decide

/-- A value below infinity in absolute value is a real. -/
theorem real_of_abs (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have hlt : max x (-x) < ⊤ := by
    by_contra hn
    rw [Ideal.cmp] at h
    simp [hn] at h
  refine EReal.coe_toReal ?_ ?_
  · intro e
    rw [e] at hlt
    simp at hlt
  · intro e
    rw [e] at hlt
    simp at hlt

section

open Cert.Pre_served_KernelIdeal

variable (Q : S8x1x8x128.Idx → EReal) (K V : S512x16x8x128.Idx → EReal) (bt : IVec S8x512 32) (lens : IVec S8 32)

instance : Subsingleton S_.Idx := ⟨fun a b => funext fun i => i.elim0⟩

theorem served_q (h : (letI := served_facts; (fn (F := Ideal) Q K V bt lens).1) = fun _ => 1#1) (i : S8x1x8x128.Idx) : (((Q i).toReal : ℝ) : EReal) = Q i := by
  have e := congrFun h (Shape.Idx.first served_facts.h_S_)
  dsimp only [fn, fn_part1] at e
  exact real_of_abs _ (Host.reduce_andi_all _ _ _ _ _ e i)

theorem served_k (h : (letI := served_facts; (fn (F := Ideal) Q K V bt lens).2.1) = fun _ => 1#1) (i : S512x16x8x128.Idx) : (((K i).toReal : ℝ) : EReal) = K i := by
  have e := congrFun h (Shape.Idx.first served_facts.h_S_)
  dsimp only [fn, fn_part1] at e
  exact real_of_abs _ (Host.reduce_andi_all _ _ _ _ _ e i)

theorem served_len (h : (letI := served_facts; (fn (F := Ideal) Q K V bt lens).2.2.1) = fun _ => 1#1) (b : Fin 8) : 1 ≤ (lens (ix1 b)).toInt := by
  have e := congrFun h (Shape.Idx.first served_facts.h_S_)
  dsimp only [fn, fn_part1] at e
  exact IntOp.cmpi_sge.1 (Host.reduce_andi_all _ _ _ _ _ e (ix1 b))

theorem served_bt (h : (letI := served_facts; (fn (F := Ideal) Q K V bt lens).2.2.2) = fun _ => 1#1) (b : Fin 8) (p : Fin 512) (hl : live lens b p) :
    0 ≤ (bt (ix2 b p)).toInt ∧ (bt (ix2 b p)).toInt < 1024 := by
  have e := congrFun h (Shape.Idx.first served_facts.h_S_)
  dsimp only [fn, fn_part1] at e
  have h2 := IntOp.ori_eq_one.1 (Host.reduce_andi_all _ _ _ _ _ e (ix2 b p))
  rcases h2 with h2 | h2
  · refine absurd ?_ (IntOp.not_eq_one.1 h2)
    have hp : (BitVec.ofNat 32 p.val).toInt = (p.val : ℤ) := by
      have := p.isLt
      rw [BitVec.toInt_eq_toNat_of_lt] <;> simp only [BitVec.toNat_ofNat] <;> omega
    refine IntOp.cmpi_slt.2 ?_
    have hl' : (p.val : ℤ) < (lens (ix1 b)).toInt := hl
    rw [← hp] at hl'
    refine hl'.trans_eq (congrArg (fun i => (lens i).toInt) ?_)
    funext a
    match a with
    | ⟨0, _⟩ => exact Fin.ext (rfl)
  · obtain ⟨h3, h4⟩ := IntOp.andi_eq_one.1 h2
    exact ⟨IntOp.cmpi_sge.1 h3, IntOp.cmpi_slt.1 h4⟩

end

end Cert.Paged
-- ==== Proof.Placed.lean ====
/-
# The arrays as they lie on the devices

When each device holds its half of the cache and whole copies of the rest, the devices' blocks are the tokens' data.
-/
module

public import proofs.«01_k».proof.Proof.Inputs
public import proofs.«01_k».proof.Proof.Served
public import proofs.«01_k».proof.Proof.Run
public import Idealize.ShloMosaic.Lib.Layout

@[expose] public section

set_option maxRecDepth 16000

noncomputable section

namespace Cert.Paged

open Cert.KernelIdeal Cert.KernelIdeal.Gen
open Idealize.ShloMosaic

/-- The half of a whole cache that a device holds. -/
abbrev half (c : Dev nD) (K : Cert.ReferenceIdeal.S1024x16x8x128.Idx → EReal) : S512x16x8x128.Idx → EReal :=
  Layout.blockN ⟨4, ![512, 16, 8, 128]⟩ ⟨4, ![1024, 16, 8, 128]⟩ (Layout.meshBlock [2, 2, 4] ![[0], [], [], []] c) K

/-- A device's half starts at page 512 times its first coordinate. -/
theorem half_apply (c : Dev nD) (K : Cert.ReferenceIdeal.S1024x16x8x128.Idx → EReal) (a : Fin 512) (s : Fin 16) (h : Fin 8) (d : Fin 128)
    (ha : c.val / 8 * 512 + a.val < 1024) : half c K (ix4 a s h d) = K (ix4 ⟨c.val / 8 * 512 + a.val, ha⟩ s h d) := by
  have e0 : ∀ c : Dev nD, (Layout.meshBlock (n := nD) [2, 2, 4] (![[0], [], [], []] : Fin 4 → List ℕ) c (h := by decide) 0).val = c.val / 8 := by decide
  refine congrArg K ?_
  funext x
  match x with
  | ⟨0, _⟩ => exact Fin.ext (by rw [Layout.TilesN.idx_val]; exact congrArg (· * 512 + a.val) (e0 c))
  | ⟨1, _⟩ => exact Fin.ext ((Layout.TilesN.idx_val _ _ _ _).trans (Nat.zero_add _))
  | ⟨2, _⟩ => exact Fin.ext ((Layout.TilesN.idx_val _ _ _ _).trans (Nat.zero_add _))
  | ⟨3, _⟩ => exact Fin.ext ((Layout.TilesN.idx_val _ _ _ _).trans (Nat.zero_add _))

/-- The devices' argument arrays are those of whole arrays. -/
structure Placed (Q : S8x1x8x128.Idx → EReal) (K V : Cert.ReferenceIdeal.S1024x16x8x128.Idx → EReal) (bt : IVec S8x512 32) (lens : IVec S8 32)
    (m : (ℓ : Loc nD τ sig) → Buf (Elt Ideal) ℓ) : Prop where
  q : ∀ c : Dev nD, m ((c.tc : Thread nD τ).loc main_arg0) = Q
  k : ∀ c : Dev nD, m ((c.tc : Thread nD τ).loc main_arg1) = half c K
  v : ∀ c : Dev nD, m ((c.tc : Thread nD τ).loc main_arg2) = half c V
  bt : ∀ c : Dev nD, m ((c.tc : Thread nD τ).loc main_arg3) = bt
  lens : ∀ c : Dev nD, m ((c.tc : Thread nD τ).loc main_arg4) = lens

variable {Q : S8x1x8x128.Idx → EReal} {K V : Cert.ReferenceIdeal.S1024x16x8x128.Idx → EReal} {bt : IVec S8x512 32} {lens : IVec S8 32}
  {m : (ℓ : Loc nD τ sig) → Buf (Elt Ideal) ℓ}

/-- The precondition on the devices' blocks says of the whole arrays what the values need. -/
theorem fine_of_placed (hP : Placed Q K V bt lens m)
    (hpre : Cert.Pre_KernelIdeal_served_KernelIdeal (hPre_served_KernelIdeal := served_facts) m) : Fine Q K bt lens where
  q i := by
    have := served_q _ _ _ _ _ (hpre 0).1 i
    rw [hP.q 0] at this
    exact this
  k i := by
    have hi : (i 0).val < 1024 := (i 0).isLt
    let c : Dev nD := ⟨(i 0).val / 512 * 8, by show _ < 16; omega⟩
    have e2 : (i 0).val / 512 * 8 / 8 * 512 + (i 0).val % 512 = (i 0).val := by omega
    have e : ix4 (⟨c.val / 8 * 512 + (i 0).val % 512, by show (i 0).val / 512 * 8 / 8 * 512 + (i 0).val % 512 < 1024; omega⟩ : Fin 1024)
        (i 1 : Fin 16) (i 2 : Fin 8) (i 3 : Fin 128) = i := by
      funext x
      match x with
      | ⟨0, _⟩ => exact Fin.ext e2
      | ⟨1, _⟩ => rfl
      | ⟨2, _⟩ => rfl
      | ⟨3, _⟩ => rfl
    have hh := half_apply c K ⟨(i 0).val % 512, by omega⟩ (i 1 : Fin 16) (i 2 : Fin 8) (i 3 : Fin 128) (by show (i 0).val / 512 * 8 / 8 * 512 + (i 0).val % 512 < 1024; omega)
    have hk : ∀ j, (((half c K j).toReal : ℝ) : EReal) = half c K j := by
      have := served_k _ _ _ _ _ (hpre c).2.1
      rw [hP.k c] at this
      exact this
    have := hk (ix4 ⟨(i 0).val % 512, by omega⟩ (i 1 : Fin 16) (i 2 : Fin 8) (i 3 : Fin 128))
    rw [hh] at this
    rw [← e]
    exact this
  len b := by
    have := served_len _ _ _ _ _ (hpre 0).2.2.1 b
    rw [hP.lens 0] at this
    exact this
  bt b p hl := by
    have := served_bt _ _ _ _ _ (hpre 0).2.2.2 b p (by rw [hP.lens 0]; exact hl)
    rw [hP.bt 0] at this
    exact this

/-- The pages a device reads at a point are those of its chunk of the tokens. -/
theorem chunk_apply (A : Cert.ReferenceIdeal.S1024x16x8x128.Idx → EReal) (c : Dev nD) (t : Fin grid0.N) (k : Fin 512) (h : Fin 8) (d : Fin 128)
    (ha : (c.val % 8 * 2 + t.val) * 32 + k.val / 16 < 512) :
    half c A (ix4 ⟨(c.val % 8 * 2 + t.val) * 32 + k.val / 16, ha⟩ ⟨k.val % 16, by omega⟩ h d)
      = A (ix4 ⟨(tok (chunkNo c t) k).val / 16, by have := (tok (chunkNo c t) k).isLt; omega⟩ ⟨(tok (chunkNo c t) k).val % 16, by omega⟩ h d) := by
  have hc : c.val < 16 := c.isLt
  have ht : t.val < 2 := t.isLt
  have hk := k.isLt
  have et : (tok (chunkNo c t) k).val = (c.val * 2 + t.val) * 512 + k.val := rfl
  have e1 : c.val / 8 * 512 + ((c.val % 8 * 2 + t.val) * 32 + k.val / 16) < 1024 := by omega
  refine (half_apply c A _ _ h d e1).trans (congrArg A ?_)
  funext x
  match x with
  | ⟨0, _⟩ => exact Fin.ext (by show c.val / 8 * 512 + ((c.val % 8 * 2 + t.val) * 32 + k.val / 16) = (tok (chunkNo c t) k).val / 16; rw [et]; omega)
  | ⟨1, _⟩ => exact Fin.ext (by show k.val % 16 = (tok (chunkNo c t) k).val % 16; rw [et]; omega)
  | ⟨2, _⟩ => rfl
  | ⟨3, _⟩ => rfl

/-- The blocks the devices read are the tokens' data. -/
theorem feeds_of_placed (hP : Placed Q K V bt lens m) (hf : Fine Q K bt lens) : Feeds (setting Q K V bt lens) m where
  hq c t b h d := by
    rw [qIn_apply, hP.q c]
    exact (hf.q _).symm
  hk c t k h d := by
    have hc : c.val < 16 := c.isLt
    have ht : t.val < 2 := t.isLt
    have ha : (c.val % 8 * 2 + t.val) * 32 + k.val / 16 < 512 := by omega
    rw [kIn_apply m c t _ _ h d ha, hP.k c]
    exact (chunk_apply K c t k h d ha).trans (hf.k _).symm
  hv c t k h d := by
    have hc : c.val < 16 := c.isLt
    have ht : t.val < 2 := t.isLt
    have ha : (c.val % 8 * 2 + t.val) * 32 + k.val / 16 < 512 := by omega
    rw [vIn_apply m c t _ _ h d ha, hP.v c]
    exact chunk_apply V c t k h d ha
  hc c t b k := by
    have ht : t.val < 2 := t.isLt
    have hk := k.isLt
    have e : c.val * 64 + (t.val * 512 + k.val) / 16 = (tok (chunkNo c t) k).val / 16 := by
      show _ = ((c.val * 2 + t.val) * 512 + k.val) / 16
      omega
    rw [cIn_apply m c t b k (by omega), counts m c (by rw [hP.lens c, hP.bt c]; exact hf.bt), hP.lens c, hP.bt c]
    show (((Finset.univ.filter fun p => live lens b p ∧ (page bt b p).val = c.val * 64 + (t.val * 512 + k.val) / 16).card : ℝ) : EReal) = _
    rw [e]
    rfl

/-- Every device's result is the reference's value. -/
theorem res_placed (hP : Placed Q K V bt lens m) (hf : Fine Q K bt lens) (c : Dev nD) : res m c = refVal Q K V bt lens := by
  funext i
  have ei : i = ix4 (i 0) 0 (i 2) (i 3) := by
    funext x
    match x with
    | ⟨0, _⟩ => rfl
    | ⟨1, _⟩ => exact Subsingleton.elim (α := Fin 1) _ _
    | ⟨2, _⟩ => rfl
    | ⟨3, _⟩ => rfl
  rw [ei]
  obtain ⟨y, hy⟩ := refVal_apply V hf (i 0) (i 2) (i 3)
  exact (quot_apply _ (holds_sum2 (feeds_of_placed hP hf) c) (i 0) (i 2) (i 3) (some_named V hf (i 0)) y).trans hy.symm

end Cert.Paged
-- ==== Proof.Same.lean ====
module
public import proofs.«01_k».proof.Proof.Gen.Kernel
public import proofs.«01_k».proof.Proof.Gen.KernelIdeal
public import proofs.«01_k».proof.Proof.Gen.KernelIdeal.Launch
public import proofs.«01_k».proof.Proof.Run

/-! The kernel and its idealization have the same text, so they are the same program; the run proved of one
is the run of the other. -/

@[expose] public section

set_option maxRecDepth 16000
set_option backward.isDefEq.respectTransparency false
set_option backward.isDefEq.respectTransparency.types false

namespace Cert.Paged

open Idealize.ShloMosaic

variable {F : FTy → Type} [FloatOps F]

/-- The two kernel bodies are the same program at every grid point. -/
theorem same_body (i : Cert.Kernel.grid0.Coords) :
    Cert.Kernel.cc0_body (F := F) i = Cert.KernelIdeal.cc0_body (F := F) i := (rfl)

/-- The two body tables are the same. -/
theorem same_defs₀ : Cert.Kernel.defs₀ (F := F) = Cert.KernelIdeal.defs₀ (F := F) := by
  unfold Cert.Kernel.defs₀ Cert.KernelIdeal.defs₀
  refine congrArg Defs.onTc ?_
  funext ℓ a
  obtain ⟨n, hn⟩ := ℓ
  match n, hn, a with
  | 0, _, (t, s) =>
    dsimp only
    exact (rfl)
  | n + 1, h, _ => exact absurd h (Nat.not_lt.2 (Nat.le_add_left _ _))

/-- The two tables of pipelines and bodies are the same. -/
theorem same_defs : Cert.Kernel.defs (F := F) = Cert.KernelIdeal.defs (F := F) :=
  congrArg (Pipeline.defs Cert.KernelIdeal.pcfgs) same_defs₀

/-- The two entry programs are the same on every device. -/
theorem same_main (c : Dev Cert.Kernel.nD) : Cert.Kernel.main (F := F) c = Cert.KernelIdeal.main (F := F) c := by
  refine Eq.trans ?_ (Cert.KernelIdeal.Gen.main_chain c).symm
  rewrite [StableHlo.chain_seq_cons, Pipeline.chain_cons]
  chain_rfl

/-- What holds of every run of the idealization holds of every run of the kernel. -/
theorem same_run (m : (ℓ : Loc Cert.Kernel.nD Cert.Kernel.τ Cert.Kernel.sig) → Buf (Elt F) ℓ)
    (ρ : Dev Cert.Kernel.nD → PrngReg)
    (post : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F)))
      ⟨m, fun _ => 0, ρ⟩ post) :
    θ_run (Cert.Kernel.defs (F := F)) (onTc (τ := Cert.Kernel.τ) (Cert.Kernel.main (F := F)))
      ⟨m, fun _ => 0, ρ⟩ post := by
  rw [same_defs, funext same_main]
  exact h

end Cert.Paged

end
-- ==== Proof.lean ====
/-
# The certificate
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Placed
public import proofs.«01_k».proof.Proof.Same
public import Idealize.ShloMosaic.Lib.Quiescent

@[expose] public section

noncomputable section

namespace Cert.Proof

open Idealize.ShloMosaic Idealize.SL.Sem

/-- The printed kernel runs, keeps its arguments and leaves every counter at zero: it is the same program as
its idealization, whose run holds over any float values. -/
theorem frame_kernel : Cert.quiescent_Kernel := fun m ρ _ =>
  Cert.Paged.same_run (F := Bits) m ρ _
    ((θ_run Cert.KernelIdeal.defs _ _).mono (fun _ h => ⟨fun c => (h.1 c).1, h.2⟩) (Cert.Paged.run_main (F := Bits) m ρ))

/-- The same of the kernel at ideal values. -/
theorem frame_ideal : Cert.quiescent_KernelIdeal := fun m ρ _ =>
  (θ_run Cert.KernelIdeal.defs _ _).mono (fun _ h => ⟨fun c => (h.1 c).1, h.2⟩) (Cert.Paged.run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device's result is the reference's, when the arrays are placed as the mesh places them and `served` holds of them. -/
theorem same_value : Cert.algebraic_KernelIdeal_ReferenceIdeal_pre_served_KernelIdeal (hPre_served_KernelIdeal := Cert.Paged.served_facts) := by
  intro m g m' g' hpre hagree
  have hP : Cert.Paged.Placed (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) m :=
    ⟨fun c => (hagree c).1, fun c => (hagree c).2.1, fun c => (hagree c).2.2.1, fun c => (hagree c).2.2.2.1, fun c => (hagree c).2.2.2.2⟩
  have hf := Cert.Paged.fine_of_placed hP hpre
  refine ⟨_, (θ_run Cert.KernelIdeal.defs _ _).mono (fun r h c => ⟨((h.1 c).2).trans (Cert.Paged.res_placed hP hf c), (h.1 c).1⟩)
    (Cert.Paged.run_main (F := Ideal) m g), ?_⟩
  exact (θ_run Cert.ReferenceIdeal.defs _ _).mono (fun r h => ⟨((h 0).1).trans (Cert.Paged.res_eq m' 0), (h 0).2⟩)
    (Cert.ReferenceIdeal.Value.run (F := Ideal) m' g')

/-- The certificate. -/
theorem claim : Cert.Claim := ⟨Cert.Kernel.Gen.facts, Cert.KernelIdeal.Gen.facts, Cert.ReferenceIdeal.Gen.facts, Cert.Paged.served_facts, Cert.Paged.served_facts_ref,
  frame_kernel, frame_ideal, fun m ρ _ => frame_ideal m ρ trivial, frame_reference, fun m ρ _ => frame_reference m ρ trivial, trivial, same_value⟩

end Cert.Proof

end
